-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x64 : Shape := ⟨2, ![131072, 64]⟩
abbrev S64x16 : Shape := ⟨2, ![64, 16]⟩
abbrev S16 : Shape := ⟨1, ![16]⟩
abbrev S64 : Shape := ⟨1, ![64]⟩
abbrev S64x16x1 : Shape := ⟨3, ![64, 16, 1]⟩
abbrev S64x1x16 : Shape := ⟨3, ![64, 1, 16]⟩
abbrev S64x16x16 : Shape := ⟨3, ![64, 16, 16]⟩
abbrev S_ : Shape := ⟨0, ![]⟩
abbrev S16x16 : Shape := ⟨2, ![16, 16]⟩
abbrev S16x1 : Shape := ⟨2, ![16, 1]⟩
abbrev S16x64 : Shape := ⟨2, ![16, 64]⟩
abbrev S1x64 : Shape := ⟨2, ![1, 64]⟩
abbrev S16x64x1 : Shape := ⟨3, ![16, 64, 1]⟩
abbrev S1 : Shape := ⟨1, ![1]⟩
abbrev S1x1x1 : Shape := ⟨3, ![1, 1, 1]⟩
abbrev S16x4x16 : Shape := ⟨3, ![16, 4, 16]⟩
abbrev S1x16 : Shape := ⟨2, ![1, 16]⟩
abbrev S16x16x1 : Shape := ⟨3, ![16, 16, 1]⟩
abbrev S16x4x16x16 : Shape := ⟨4, ![16, 4, 16, 16]⟩
abbrev S16384 : Shape := ⟨1, ![16384]⟩
abbrev S256 : Shape := ⟨1, ![256]⟩
abbrev S288 : Shape := ⟨1, ![288]⟩
abbrev S131072x16 : Shape := ⟨2, ![131072, 16]⟩
abbrev S1024x64 : Shape := ⟨2, ![1024, 64]⟩
abbrev S1024x16 : Shape := ⟨2, ![1024, 16]⟩
abbrev S8704 : Shape := ⟨1, ![8704]⟩
abbrev S512x64 : Shape := ⟨2, ![512, 64]⟩
abbrev S512x16 : Shape := ⟨2, ![512, 16]⟩

abbrev nBuf : Table → Nat
  | .hbm => 186
  | .local .scVector .vmem => 5
  | _ => 0

abbrev hbmTy0_0 (i : Nat) : BufTy := match i % 128 with
  | 0 => ⟨S131072x64, .f32⟩
  | 1 => ⟨S64x16, .i1⟩
  | 2 => ⟨S16, .i32⟩
  | 3 => ⟨S64, .i32⟩
  | 4 => ⟨S64x16x1, .i1⟩
  | 5 => ⟨S64x1x16, .i1⟩
  | 6 => ⟨S64x16x16, .i1⟩
  | 7 => ⟨S64x16x16, .i1⟩
  | 8 => ⟨S64x16x16, .i1⟩
  | 9 => ⟨S_, .i1⟩
  | 10 => ⟨S16x16, .i1⟩
  | 11 => ⟨S16x16, .i32⟩
  | 12 => ⟨S_, .i1⟩
  | 13 => ⟨S_, .i32⟩
  | 14 => ⟨S16, .i1⟩
  | 15 => ⟨S16, .i32⟩
  | 16 => ⟨S16, .i1⟩
  | 17 => ⟨S16, .i32⟩
  | 18 => ⟨S_, .i32⟩
  | 19 => ⟨S_, .i32⟩
  | 20 => ⟨S16, .i32⟩
  | 21 => ⟨S_, .i32⟩
  | 22 => ⟨S16, .i32⟩
  | 23 => ⟨S16, .i32⟩
  | 24 => ⟨S16, .i32⟩
  | 25 => ⟨S_, .i32⟩
  | 26 => ⟨S_, .i32⟩
  | 27 => ⟨S_, .i32⟩
  | 28 => ⟨S16, .i32⟩
  | 29 => ⟨S16, .i1⟩
  | 30 => ⟨S_, .i32⟩
  | 31 => ⟨S16, .i32⟩
  | 32 => ⟨S16, .i32⟩
  | 33 => ⟨S16, .i32⟩
  | 34 => ⟨S16x1, .i32⟩
  | 35 => ⟨S16, .i32⟩
  | 36 => ⟨S_, .i1⟩
  | 37 => ⟨S16, .i1⟩
  | 38 => ⟨S_, .i32⟩
  | 39 => ⟨S_, .i32⟩
  | 40 => ⟨S16, .i32⟩
  | 41 => ⟨S16, .i32⟩
  | 42 => ⟨S_, .i32⟩
  | 43 => ⟨S16, .i32⟩
  | 44 => ⟨S_, .i32⟩
  | 45 => ⟨S_, .i32⟩
  | 46 => ⟨S16, .i32⟩
  | 47 => ⟨S16, .i32⟩
  | 48 => ⟨S_, .i32⟩
  | 49 => ⟨S16, .i32⟩
  | 50 => ⟨S16, .i1⟩
  | 51 => ⟨S_, .i32⟩
  | 52 => ⟨S16, .i32⟩
  | 53 => ⟨S16, .i32⟩
  | 54 => ⟨S16, .i32⟩
  | 55 => ⟨S16x1, .i32⟩
  | 56 => ⟨S16, .i32⟩
  | 57 => ⟨S16x64, .i1⟩
  | 58 => ⟨S_, .i32⟩
  | 59 => ⟨S16, .i32⟩
  | 60 => ⟨S16, .i1⟩
  | 61 => ⟨S_, .i32⟩
  | 62 => ⟨S16, .i32⟩
  | 63 => ⟨S16, .i32⟩
  | 64 => ⟨S16, .i32⟩
  | 65 => ⟨S16x1, .i32⟩
  | 66 => ⟨S16x64, .i1⟩
  | 67 => ⟨S16x64, .i32⟩
  | 68 => ⟨S_, .i32⟩
  | 69 => ⟨S16, .i32⟩
  | 70 => ⟨S_, .i32⟩
  | 71 => ⟨S_, .i32⟩
  | 72 => ⟨S16x64, .i32⟩
  | 73 => ⟨S16x64, .i32⟩
  | 74 => ⟨S16x64, .i32⟩
  | 75 => ⟨S_, .i32⟩
  | 76 => ⟨S16x64, .i32⟩
  | 77 => ⟨S16x64, .i32⟩
  | 78 => ⟨S1x64, .i32⟩
  | 79 => ⟨S16x64, .i32⟩
  | 80 => ⟨S16x64, .i32⟩
  | 81 => ⟨S16x64, .i32⟩
  | 82 => ⟨S16x64, .i32⟩
  | 83 => ⟨S16x64, .i32⟩
  | 84 => ⟨S16x64, .i32⟩
  | 85 => ⟨S1x64, .i32⟩
  | 86 => ⟨S16x1, .i32⟩
  | 87 => ⟨S_, .i32⟩
  | 88 => ⟨S16x1, .i32⟩
  | 89 => ⟨S16x1, .i32⟩
  | 90 => ⟨S_, .i32⟩
  | 91 => ⟨S16x1, .i32⟩
  | 92 => ⟨S16x1, .i32⟩
  | 93 => ⟨S16x64, .i32⟩
  | 94 => ⟨S16x64, .i32⟩
  | 95 => ⟨S16x64, .i32⟩
  | 96 => ⟨S_, .i32⟩
  | 97 => ⟨S16x64, .i32⟩
  | 98 => ⟨S16x64, .i1⟩
  | 99 => ⟨S_, .i32⟩
  | 100 => ⟨S16x64, .i32⟩
  | 101 => ⟨S16x64, .i32⟩
  | 102 => ⟨S16x64, .i32⟩
  | 103 => ⟨S16x64x1, .i32⟩
  | 104 => ⟨S1, .i32⟩
  | 105 => ⟨S_, .i32⟩
  | 106 => ⟨S16x64x1, .i32⟩
  | 107 => ⟨S16x64x1, .i1⟩
  | 108 => ⟨S1x1x1, .i32⟩
  | 109 => ⟨S16x64x1, .i32⟩
  | 110 => ⟨S16x64x1, .i1⟩
  | 111 => ⟨S16x64x1, .i1⟩
  | 112 => ⟨S_, .i1⟩
  | 113 => ⟨S16x64, .i1⟩
  | 114 => ⟨S16x64, .i32⟩
  | 115 => ⟨S_, .i32⟩
  | 116 => ⟨S16x64, .i32⟩
  | 117 => ⟨S16x64, .i32⟩
  | 118 => ⟨S_, .i32⟩
  | 119 => ⟨S16, .i32⟩
  | 120 => ⟨S16, .i32⟩
  | 121 => ⟨S_, .i32⟩
  | 122 => ⟨S_, .i32⟩
  | 123 => ⟨S16, .i32⟩
  | 124 => ⟨S16, .i32⟩
  | 125 => ⟨S16, .i32⟩
  | 126 => ⟨S_, .i32⟩
  | 127 => ⟨S16, .i32⟩
  | _ => ⟨S131072x64, .f32⟩

abbrev hbmTy0_1 (i : Nat) : BufTy := match i % 128 with
  | 0 => ⟨S16, .i1⟩
  | 1 => ⟨S16, .i32⟩
  | 2 => ⟨S16, .i32⟩
  | 3 => ⟨S_, .i32⟩
  | 4 => ⟨S16, .i32⟩
  | 5 => ⟨S16, .i1⟩
  | 6 => ⟨S16, .i1⟩
  | 7 => ⟨S_, .i32⟩
  | 8 => ⟨S16, .i32⟩
  | 9 => ⟨S16, .i32⟩
  | 10 => ⟨S16, .i32⟩
  | 11 => ⟨S_, .i32⟩
  | 12 => ⟨S16, .i32⟩
  | 13 => ⟨S16, .i32⟩
  | 14 => ⟨S16x4x16, .i32⟩
  | 15 => ⟨S16, .i32⟩
  | 16 => ⟨S16x1, .i32⟩
  | 17 => ⟨S1x16, .i32⟩
  | 18 => ⟨S16x16, .i32⟩
  | 19 => ⟨S16x16, .i32⟩
  | 20 => ⟨S16x16, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S16x16, .i32⟩
  | 28 => ⟨S16x16, .i32⟩
  | 29 => ⟨S_, .i32⟩
  | 30 => ⟨S16x16, .i32⟩
  | 31 => ⟨S16x16, .i1⟩
  | 32 => ⟨S_, .i32⟩
  | 33 => ⟨S16x16, .i32⟩
  | 34 => ⟨S16x16, .i1⟩
  | 35 => ⟨S_, .i32⟩
  | 36 => ⟨S_, .i1⟩
  | 37 => ⟨S16x16, .i1⟩
  | 38 => ⟨S16x16, .i1⟩
  | 39 => ⟨S16x16, .i1⟩
  | 40 => ⟨S16x16, .i32⟩
  | 41 => ⟨S16x16, .i32⟩
  | 42 => ⟨S16x16, .i32⟩
  | 43 => ⟨S_, .i32⟩
  | 44 => ⟨S16x16, .i32⟩
  | 45 => ⟨S16x16, .i1⟩
  | 46 => ⟨S_, .i32⟩
  | 47 => ⟨S16x16, .i32⟩
  | 48 => ⟨S16x16, .i32⟩
  | 49 => ⟨S16x16, .i32⟩
  | 50 => ⟨S16x16x1, .i32⟩
  | 51 => ⟨S16x4x16x16, .i32⟩
  | 52 => ⟨S16384, .i32⟩
  | 53 => ⟨S16, .i32⟩
  | 54 => ⟨S16x16, .i32⟩
  | 55 => ⟨S256, .i32⟩
  | 56 => ⟨S288, .i32⟩
  | 57 => ⟨S131072x16, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (nBuf tb) → BufTy
  | .hbm, ⟨i, _⟩ => hbmTy i
  | .local .scVector .vmem, ⟨0, _⟩ => ⟨S1024x64, .f32⟩
  | .local .scVector .vmem, ⟨1, _⟩ => ⟨S1024x16, .f32⟩
  | .local .scVector .vmem, ⟨2, _⟩ => ⟨S8704, .f32⟩
  | .local .scVector .vmem, ⟨3, _⟩ => ⟨S16384, .i32⟩
  | .local .scVector .vmem, ⟨4, _⟩ => ⟨S288, .i32⟩
  | _, _ => ⟨S131072x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_call0_v0 : Ref sig .tc := ⟨.hbm, 11, rfl⟩
abbrev main_call0_c : Ref sig .tc := ⟨.hbm, 12, rfl⟩
abbrev main_call0_c_0 : Ref sig .tc := ⟨.hbm, 13, rfl⟩
abbrev main_call0_v1_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_call0_c : Ref sig .tc := ⟨.hbm, 18, rfl⟩
abbrev main_call1_call0_v0 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_c_5 : Ref sig .tc := ⟨.hbm, 38, rfl⟩
abbrev main_call2_v0 : Ref sig .tc := ⟨.hbm, 39, rfl⟩
abbrev main_call2_v1 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_c_7 : Ref sig .tc := ⟨.hbm, 44, rfl⟩
abbrev main_call3_v0 : Ref sig .tc := ⟨.hbm, 45, rfl⟩
abbrev main_call3_v1 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_c_13 : Ref sig .tc := ⟨.hbm, 70, rfl⟩
abbrev main_c_14 : Ref sig .tc := ⟨.hbm, 71, rfl⟩
abbrev main_call4_v0 : Ref sig .tc := ⟨.hbm, 72, rfl⟩
abbrev main_call4_v1 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call5_v0 : Ref sig .tc := ⟨.hbm, 82, rfl⟩
abbrev main_call5_v1_0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_16 : Ref sig .tc := ⟨.hbm, 87, rfl⟩
abbrev main_v54 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_c_1 : Ref sig .tc := ⟨.hbm, 104, rfl⟩
abbrev main_call6_c_2 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_3 : Ref sig .tc := ⟨.hbm, 112, rfl⟩
abbrev main_call6_v12 : Ref sig .tc := ⟨.hbm, 113, rfl⟩
abbrev main_call6_v13 : Ref sig .tc := ⟨.hbm, 114, rfl⟩
abbrev main_call6_c_4 : Ref sig .tc := ⟨.hbm, 115, rfl⟩
abbrev main_call6_v14 : Ref sig .tc := ⟨.hbm, 116, rfl⟩
abbrev main_v61 : Ref sig .tc := ⟨.hbm, 117, rfl⟩
abbrev main_c_18 : Ref sig .tc := ⟨.hbm, 118, rfl⟩
abbrev main_v62 : Ref sig .tc := ⟨.hbm, 119, rfl⟩
abbrev main_v63 : Ref sig .tc := ⟨.hbm, 120, rfl⟩
abbrev main_c_19 : Ref sig .tc := ⟨.hbm, 121, rfl⟩
abbrev main_call7_v0 : Ref sig .tc := ⟨.hbm, 122, rfl⟩
abbrev main_call7_v1 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_call7_v5 : Ref sig .tc := ⟨.hbm, 127, rfl⟩
abbrev main_call7_v6 : Ref sig .tc := ⟨.hbm, 128, rfl⟩
abbrev main_call7_v7 : Ref sig .tc := ⟨.hbm, 129, rfl⟩
abbrev main_call7_v8 : Ref sig .tc := ⟨.hbm, 130, rfl⟩
abbrev main_call7_c : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_0 : Ref sig .tc := ⟨.hbm, 135, rfl⟩
abbrev main_call7_v12 : Ref sig .tc := ⟨.hbm, 136, rfl⟩
abbrev main_call7_v13 : Ref sig .tc := ⟨.hbm, 137, rfl⟩
abbrev main_v64 : Ref sig .tc := ⟨.hbm, 138, rfl⟩
abbrev main_c_20 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_c_21 : Ref sig .tc := ⟨.hbm, 149, rfl⟩
abbrev main_call8_v0 : Ref sig .tc := ⟨.hbm, 150, rfl⟩
abbrev main_call8_c : Ref sig .tc := ⟨.hbm, 151, rfl⟩
abbrev main_call8_v1 : Ref sig .tc := ⟨.hbm, 152, rfl⟩
abbrev main_call8_c_0 : Ref sig .tc := ⟨.hbm, 153, rfl⟩
abbrev main_call8_v2 : Ref sig .tc := ⟨.hbm, 154, rfl⟩
abbrev main_call8_v3 : Ref sig .tc := ⟨.hbm, 155, rfl⟩
abbrev main_call8_v4 : Ref sig .tc := ⟨.hbm, 156, rfl⟩
abbrev main_call8_c_1 : Ref sig .tc := ⟨.hbm, 157, rfl⟩
abbrev main_call8_v5 : Ref sig .tc := ⟨.hbm, 158, rfl⟩
abbrev main_call8_v6 : Ref sig .tc := ⟨.hbm, 159, rfl⟩
abbrev main_call8_c_2 : Ref sig .tc := ⟨.hbm, 160, rfl⟩
abbrev main_call8_v7 : Ref sig .tc := ⟨.hbm, 161, rfl⟩
abbrev main_call8_v8 : Ref sig .tc := ⟨.hbm, 162, rfl⟩
abbrev main_call8_c_3 : Ref sig .tc := ⟨.hbm, 163, rfl⟩
abbrev main_call8_v9 : Ref sig .tc := ⟨.hbm, 164, rfl⟩
abbrev main_call8_v10 : Ref sig .tc := ⟨.hbm, 165, rfl⟩
abbrev main_call8_v11 : Ref sig .tc := ⟨.hbm, 166, rfl⟩
abbrev main_call8_v12 : Ref sig .tc := ⟨.hbm, 167, rfl⟩
abbrev main_call8_v13 : Ref sig .tc := ⟨.hbm, 168, rfl⟩
abbrev main_call8_v14 : Ref sig .tc := ⟨.hbm, 169, rfl⟩
abbrev main_v74 : Ref sig .tc := ⟨.hbm, 170, rfl⟩
abbrev main_c_22 : Ref sig .tc := ⟨.hbm, 171, rfl⟩
abbrev main_v75 : Ref sig .tc := ⟨.hbm, 172, rfl⟩
abbrev main_v76 : Ref sig .tc := ⟨.hbm, 173, rfl⟩
abbrev main_c_23 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_arg0_scv : Ref sig .scVector := ⟨.hbm, 0, rfl⟩
abbrev main_v82_scv : Ref sig .scVector := ⟨.hbm, 180, rfl⟩
abbrev main_v86_scv : Ref sig .scVector := ⟨.hbm, 184, rfl⟩
abbrev main_v87_scv : Ref sig .scVector := ⟨.hbm, 185, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v10 : BitVec 32 := Scalar.addi c0_i32_0 c32_i32
  let c1_i32 : BitVec 32 := 1#32
  ⟨c0_i32_0, v10, c1_i32⟩
def k0_off1 (k0_t1 : Fin k0_t1_loop.trips) : Fin 1 → Nat :=
  let c8192_i32 : BitVec 32 := 8192#32
  let c0_i32_0 : BitVec 32 := 0#32
  let c1_i32 : BitVec 32 := 1#32
  let arg15 : BitVec 32 := Scf.iv c0_i32_0 c1_i32 k0_t1
  let c16_i32 : BitVec 32 := 16#32
  let v28 : BitVec 32 := Scalar.muli arg15 c16_i32
  let v29 : BitVec 32 := Scalar.addi c8192_i32 v28
  let v30 : Index := Scalar.indexCast v29
  ![v30.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let v11 : BitVec 32 := Scalar.addi v2 c0_i32_2
  let c0_i32_5 : BitVec 32 := 0#32
  ![v11.toNat, 0]
@[reducible] def k0_t2_loop : Scf.Loop 32 :=
  let c0_i32_10 : BitVec 32 := 0#32
  let c4_i32 : BitVec 32 := 4#32
  let v16 : BitVec 32 := Scalar.addi c0_i32_10 c4_i32
  let c1_i32_11 : BitVec 32 := 1#32
  ⟨c0_i32_10, v16, c1_i32_11⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c512_i32_26 : BitVec 32 := 512#32
  let v28 : BitVec 32 := Scalar.muli v27 c512_i32_26
  let v29 : BitVec 32 := Scalar.addi v2 v28
  let c0_i32_29 : BitVec 32 := 0#32
  ![v29.toNat, 0]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c1_i32_33 : BitVec 32 := 1#32
  let v34 : BitVec 32 := Scalar.addi v27 c1_i32_33
  let c512_i32_34 : BitVec 32 := 512#32
  let v35 : BitVec 32 := Scalar.muli v34 c512_i32_34
  let v36 : BitVec 32 := Scalar.addi v2 v35
  let c0_i32_37 : BitVec 32 := 0#32
  ![v36.toNat, 0]
def k0_cond1 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c0_i32_41 : BitVec 32 := 0#32
  let v41 : BitVec 1 := Scalar.cmpi .sgt arg15 c0_i32_41
  let v42 : BitVec 32 := Scalar.extui v41
  let c0_i32_42 : BitVec 32 := 0#32
  let v43 : BitVec 1 := Scalar.cmpi .ne v42 c0_i32_42
  v43

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c2_i32_89 : BitVec 32 := 2#32
  let v83 : BitVec 32 := Scalar.subi v27 c2_i32_89
  let c512_i32_90 : BitVec 32 := 512#32
  let v84 : BitVec 32 := Scalar.muli v83 c512_i32_90
  let v85 : BitVec 32 := Scalar.addi v2 v84
  let c0_i32_93 : BitVec 32 := 0#32
  ![v85.toNat, 0]
@[reducible] def k0_t3_loop (v9 : BitVec 32) : Scf.Loop 32 :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_46 : BitVec 32 := 1#32
  ⟨c0_i32_44, v48, c1_i32_46⟩

def k0_off6 (v9 : BitVec 32) (k0_t3 : Fin (k0_t3_loop v9).trips) : Fin 1 → Nat :=
  let c32_i32_89 : BitVec 32 := 32#32
  let c0_i32_44 : BitVec 32 := 0#32
  let c1_i32_46 : BitVec 32 := 1#32
  let arg16 : BitVec 32 := Scf.iv c0_i32_44 c1_i32_46 k0_t3
  let c16_i32 : BitVec 32 := 16#32
  let v83 : BitVec 32 := Scalar.muli arg16 c16_i32
  let v84 : BitVec 32 := Scalar.addi c32_i32_89 v83
  let v85 : Index := Scalar.indexCast v84
  ![v85.toNat]
@[reducible] def k0_t4_loop : Scf.Loop 32 :=
  let c0_i32_91 : BitVec 32 := 0#32
  let c32_i32_92 : BitVec 32 := 32#32
  let v89 : BitVec 32 := Scalar.addi c0_i32_91 c32_i32_92
  let c1_i32_93 : BitVec 32 := 1#32
  ⟨c0_i32_91, v89, c1_i32_93⟩
def k0_off7 (v9 : BitVec 32) (k0_t3 : Fin (k0_t3_loop v9).trips) (k0_t4 : Fin k0_t4_loop.trips) : Fin 1 → Nat :=
  let c0_i32_44 : BitVec 32 := 0#32
  let c1_i32_46 : BitVec 32 := 1#32
  let arg16 : BitVec 32 := Scf.iv c0_i32_44 c1_i32_46 k0_t3
  let c512_i32_100 : BitVec 32 := 512#32
  let v96 : BitVec 32 := Scalar.muli arg16 c512_i32_100
  let c0_i32_91 : BitVec 32 := 0#32
  let c1_i32_93 : BitVec 32 := 1#32
  let arg17 : BitVec 32 := Scf.iv c0_i32_91 c1_i32_93 k0_t4
  let c16_i32_101 : BitVec 32 := 16#32
  let v97 : BitVec 32 := Scalar.muli arg17 c16_i32_101
  let v98 : BitVec 32 := Scalar.addi v96 v97
  let v99 : Index := Scalar.indexCast v98
  ![v99.toNat]
@[reducible] def k0_t5_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_98 : BitVec 32 := 1#32
  ⟨c0_i32_96, v94, c1_i32_98⟩

def k0_off8 (v9 : BitVec 32) (k0_t3 : Fin (k0_t3_loop v9).trips) (v88 : BitVec 32) (k0_t5 : Fin (k0_t5_loop v88).trips) (c0_i32_101 : BitVec 32) : Fin 1 → Nat :=
  let c0_i32_44 : BitVec 32 := 0#32
  let c1_i32_46 : BitVec 32 := 1#32
  let arg16 : BitVec 32 := Scf.iv c0_i32_44 c1_i32_46 k0_t3
  let c4_i32_100 : BitVec 32 := 4#32
  let v95 : BitVec 32 := Scalar.muli arg16 c4_i32_100
  let c0_i32_96 : BitVec 32 := 0#32
  let c1_i32_98 : BitVec 32 := 1#32
  let arg17 : BitVec 32 := Scf.iv c0_i32_96 c1_i32_98 k0_t5
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t6_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off9 (v9 : BitVec 32) (k0_t3 : Fin (k0_t3_loop v9).trips) (k0_t6 : Fin k0_t6_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t6
  let c32_i32_111 : BitVec 32 := 32#32
  let v148 : BitVec 32 := Scalar.muli arg18 c32_i32_111
  let v149 : BitVec 32 := Scalar.addi v147 v148
  let v150 : Index := Scalar.indexCast v149
  ![v150.toNat]
def k0_off10 (v9 : BitVec 32) (k0_t3 : Fin (k0_t3_loop v9).trips) (k0_t6 : Fin k0_t6_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t6
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk3 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx1_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw3 => k0_hw3.1
theorem k0_idx3_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw3 => k0_hw3.2.1
theorem k0_idx5_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw3 => k0_hw3.2.2.1
theorem k0_idx7_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw3 => k0_hw3.2.2.2.1
theorem k0_idx9_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw3 => k0_hw3.2.2.2.2.1
theorem k0_idx11_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw3 => k0_hw3.2.2.2.2.2.1
theorem k0_idx13_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw3 => k0_hw3.2.2.2.2.2.2.1
theorem k0_idx15_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw3 => k0_hw3.2.2.2.2.2.2.2.1
theorem k0_idx17_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw3 => k0_hw3.2.2.2.2.2.2.2.2.1
theorem k0_idx19_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw3 => k0_hw3.2.2.2.2.2.2.2.2.2.1
theorem k0_idx21_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw3 => k0_hw3.2.2.2.2.2.2.2.2.2.2.1
theorem k0_idx23_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw3 => k0_hw3.2.2.2.2.2.2.2.2.2.2.2.1
theorem k0_idx25_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw3 => k0_hw3.2.2.2.2.2.2.2.2.2.2.2.2.1
theorem k0_idx27_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw3 => k0_hw3.2.2.2.2.2.2.2.2.2.2.2.2.2.1
theorem k0_idx29_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw3 => k0_hw3.2.2.2.2.2.2.2.2.2.2.2.2.2.2.1
theorem k0_idx31_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw3 : k0_chk3 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw3 => k0_hw3.2.2.2.2.2.2.2.2.2.2.2.2.2.2.2

def k0_chk4 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx2_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw4 => k0_hw4.1
theorem k0_idx4_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw4 => k0_hw4.2.1
theorem k0_idx6_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw4 => k0_hw4.2.2.1
theorem k0_idx8_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw4 => k0_hw4.2.2.2.1
theorem k0_idx10_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw4 => k0_hw4.2.2.2.2.1
theorem k0_idx12_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw4 => k0_hw4.2.2.2.2.2.1
theorem k0_idx14_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw4 => k0_hw4.2.2.2.2.2.2.1
theorem k0_idx16_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw4 => k0_hw4.2.2.2.2.2.2.2.1
theorem k0_idx18_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw4 => k0_hw4.2.2.2.2.2.2.2.2.1
theorem k0_idx20_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw4 => k0_hw4.2.2.2.2.2.2.2.2.2.1
theorem k0_idx22_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw4 => k0_hw4.2.2.2.2.2.2.2.2.2.2.1
theorem k0_idx24_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw4 => k0_hw4.2.2.2.2.2.2.2.2.2.2.2.1
theorem k0_idx26_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw4 => k0_hw4.2.2.2.2.2.2.2.2.2.2.2.2.1
theorem k0_idx28_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw4 => k0_hw4.2.2.2.2.2.2.2.2.2.2.2.2.2.1
theorem k0_idx30_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw4 => k0_hw4.2.2.2.2.2.2.2.2.2.2.2.2.2.2.1
theorem k0_idx32_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw4 : k0_chk4 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw4 => k0_hw4.2.2.2.2.2.2.2.2.2.2.2.2.2.2.2
def k0_off11 (v9 : BitVec 32) (k0_t3 : Fin (k0_t3_loop v9).trips) (k0_t6 : Fin k0_t6_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t6
  let c32_i32_111 : BitVec 32 := 32#32
  let v148 : BitVec 32 := Scalar.muli arg18 c32_i32_111
  let v149 : BitVec 32 := Scalar.addi v147 v148
  let v225 : Index := Scalar.indexCast v149
  ![v225.toNat]
def k0_off12 (v9 : BitVec 32) (k0_t3 : Fin (k0_t3_loop v9).trips) (k0_t6 : Fin k0_t6_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t6
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]
@[reducible] def k0_t7_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let v91 : BitVec 32 := Scalar.addi c0_i32_96 v90
  let c1_i32_99 : BitVec 32 := 1#32
  ⟨v94, v91, c1_i32_99⟩
def k0_off13 (v9 : BitVec 32) (k0_t3 : Fin (k0_t3_loop v9).trips) (v88 : BitVec 32) (k0_t7 : Fin (k0_t7_loop v88).trips) (c0_i32_101 : BitVec 32) : Fin 1 → Nat :=
  let c0_i32_44 : BitVec 32 := 0#32
  let c1_i32_46 : BitVec 32 := 1#32
  let arg16 : BitVec 32 := Scf.iv c0_i32_44 c1_i32_46 k0_t3
  let c4_i32_100 : BitVec 32 := 4#32
  let v95 : BitVec 32 := Scalar.muli arg16 c4_i32_100
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_99 : BitVec 32 := 1#32
  let arg17 : BitVec 32 := Scf.iv v94 c1_i32_99 k0_t7
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t8_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off14 (v9 : BitVec 32) (k0_t3 : Fin (k0_t3_loop v9).trips) (k0_t8 : Fin k0_t8_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t8
  let c32_i32_111 : BitVec 32 := 32#32
  let v148 : BitVec 32 := Scalar.muli arg18 c32_i32_111
  let v149 : BitVec 32 := Scalar.addi v147 v148
  let v150 : Index := Scalar.indexCast v149
  ![v150.toNat]
def k0_off15 (v9 : BitVec 32) (k0_t3 : Fin (k0_t3_loop v9).trips) (k0_t8 : Fin k0_t8_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t8
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk5 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx33_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw5 => k0_hw5.1
theorem k0_idx35_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw5 => k0_hw5.2.1
theorem k0_idx37_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw5 => k0_hw5.2.2.1
theorem k0_idx39_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw5 => k0_hw5.2.2.2.1
theorem k0_idx41_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw5 => k0_hw5.2.2.2.2.1
theorem k0_idx43_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw5 => k0_hw5.2.2.2.2.2.1
theorem k0_idx45_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw5 => k0_hw5.2.2.2.2.2.2.1
theorem k0_idx47_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw5 => k0_hw5.2.2.2.2.2.2.2.1
theorem k0_idx49_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw5 => k0_hw5.2.2.2.2.2.2.2.2.1
theorem k0_idx51_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw5 => k0_hw5.2.2.2.2.2.2.2.2.2.1
theorem k0_idx53_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw5 => k0_hw5.2.2.2.2.2.2.2.2.2.2.1
theorem k0_idx55_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw5 => k0_hw5.2.2.2.2.2.2.2.2.2.2.2.1
theorem k0_idx57_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw5 => k0_hw5.2.2.2.2.2.2.2.2.2.2.2.2.1
theorem k0_idx59_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw5 => k0_hw5.2.2.2.2.2.2.2.2.2.2.2.2.2.1
theorem k0_idx61_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw5 => k0_hw5.2.2.2.2.2.2.2.2.2.2.2.2.2.2.1
theorem k0_idx63_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw5 : k0_chk5 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw5 => k0_hw5.2.2.2.2.2.2.2.2.2.2.2.2.2.2.2

def k0_chk6 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx34_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw6 => k0_hw6.1
theorem k0_idx36_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw6 => k0_hw6.2.1
theorem k0_idx38_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw6 => k0_hw6.2.2.1
theorem k0_idx40_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw6 => k0_hw6.2.2.2.1
theorem k0_idx42_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw6 => k0_hw6.2.2.2.2.1
theorem k0_idx44_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw6 => k0_hw6.2.2.2.2.2.1
theorem k0_idx46_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw6 => k0_hw6.2.2.2.2.2.2.1
theorem k0_idx48_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw6 => k0_hw6.2.2.2.2.2.2.2.1
theorem k0_idx50_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw6 => k0_hw6.2.2.2.2.2.2.2.2.1
theorem k0_idx52_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw6 => k0_hw6.2.2.2.2.2.2.2.2.2.1
theorem k0_idx54_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw6 => k0_hw6.2.2.2.2.2.2.2.2.2.2.1
theorem k0_idx56_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw6 => k0_hw6.2.2.2.2.2.2.2.2.2.2.2.1
theorem k0_idx58_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw6 => k0_hw6.2.2.2.2.2.2.2.2.2.2.2.2.1
theorem k0_idx60_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw6 => k0_hw6.2.2.2.2.2.2.2.2.2.2.2.2.2.1
theorem k0_idx62_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw6 => k0_hw6.2.2.2.2.2.2.2.2.2.2.2.2.2.2.1
theorem k0_idx64_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw6 : k0_chk6 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw6 => k0_hw6.2.2.2.2.2.2.2.2.2.2.2.2.2.2.2
def k0_off16 (v9 : BitVec 32) (k0_t3 : Fin (k0_t3_loop v9).trips) (k0_t8 : Fin k0_t8_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t8
  let c32_i32_111 : BitVec 32 := 32#32
  let v148 : BitVec 32 := Scalar.muli arg18 c32_i32_111
  let v149 : BitVec 32 := Scalar.addi v147 v148
  let v225 : Index := Scalar.indexCast v149
  ![v225.toNat]
def k0_off17 (v9 : BitVec 32) (k0_t3 : Fin (k0_t3_loop v9).trips) (k0_t8 : Fin k0_t8_loop.trips) : Fin 1 → Nat :=
  let c0_i32_44 : BitVec 32 := 0#32
  let c1_i32_46 : BitVec 32 := 1#32
  let arg16 : BitVec 32 := Scf.iv c0_i32_44 c1_i32_46 k0_t3
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t8
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]

def k0_chk2 (v9 : BitVec 32) (k0_t3 : Fin (k0_t3_loop v9).trips) (v88 : BitVec 32) : Prop :=
  ((k0_t5_loop v88).OK) ∧
  (∀ k0_t5 : Fin (k0_t5_loop v88).trips, ∀ (r : Fin 16), ∀ a, (k0_off8 v9 k0_t3 v88 k0_t5 (BitVec.ofNat 32 (16 * r.val))) a + S16.size a ≤ S16384.size a) ∧
  (∀ (k0_t5 : Fin (k0_t5_loop v88).trips) (k0_t6 : Fin k0_t6_loop.trips), ∀ a, (k0_off9 v9 k0_t3 k0_t6) a + S16.size a ≤ S8704.size a) ∧
  (∀ (k0_t5 : Fin (k0_t5_loop v88).trips) (k0_t6 : Fin k0_t6_loop.trips), ∀ a, (k0_off10 v9 k0_t3 k0_t6) a + S16.size a ≤ S8704.size a) ∧
  (∀ (k0_t5 : Fin (k0_t5_loop v88).trips) (k0_t6 : Fin k0_t6_loop.trips), ∀ a, (k0_off11 v9 k0_t3 k0_t6) a + S16.size a ≤ S8704.size a) ∧
  (∀ (k0_t5 : Fin (k0_t5_loop v88).trips) (k0_t6 : Fin k0_t6_loop.trips), ∀ a, (k0_off12 v9 k0_t3 k0_t6) a + S16.size a ≤ S8704.size a) ∧
  ((k0_t7_loop v88).OK) ∧
  (∀ k0_t7 : Fin (k0_t7_loop v88).trips, ∀ (r : Fin 16), ∀ a, (k0_off13 v9 k0_t3 v88 k0_t7 (BitVec.ofNat 32 (16 * r.val))) a + S16.size a ≤ S16384.size a) ∧
  (∀ (k0_t7 : Fin (k0_t7_loop v88).trips) (k0_t8 : Fin k0_t8_loop.trips), ∀ a, (k0_off14 v9 k0_t3 k0_t8) a + S16.size a ≤ S8704.size a) ∧
  (∀ (k0_t7 : Fin (k0_t7_loop v88).trips) (k0_t8 : Fin k0_t8_loop.trips), ∀ a, (k0_off15 v9 k0_t3 k0_t8) a + S16.size a ≤ S8704.size a) ∧
  (∀ (k0_t7 : Fin (k0_t7_loop v88).trips) (k0_t8 : Fin k0_t8_loop.trips), ∀ a, (k0_off16 v9 k0_t3 k0_t8) a + S16.size a ≤ S8704.size a) ∧
  (∀ (k0_t7 : Fin (k0_t7_loop v88).trips) (k0_t8 : Fin k0_t8_loop.trips), ∀ a, (k0_off17 v9 k0_t3 k0_t8) a + S16.size a ≤ S8704.size a)
theorem k0_t5_ok : ∀ (v9 : BitVec 32) (k0_t3 : Fin (k0_t3_loop v9).trips) (v88 : BitVec 32) (k0_hw2 : k0_chk2 v9 k0_t3 v88), (k0_t5_loop v88).OK := fun v9 k0_t3 v88 k0_hw2 => k0_hw2.1
theorem k0_off8_inb : ∀ (v9 : BitVec 32) (k0_t3 : Fin (k0_t3_loop v9).trips) (v88 : BitVec 32) (k0_hw2 : k0_chk2 v9 k0_t3 v88) (k0_t5 : Fin (k0_t5_loop v88).trips), ∀ (r : Fin 16), ∀ a, (k0_off8 v9 k0_t3 v88 k0_t5 (BitVec.ofNat 32 (16 * r.val))) a + S16.size a ≤ S16384.size a := fun v9 k0_t3 v88 k0_hw2 k0_t5 r => k0_hw2.2.1 k0_t5 r
theorem k0_off9_inb : ∀ (v9 : BitVec 32) (k0_t3 : Fin (k0_t3_loop v9).trips) (v88 : BitVec 32) (k0_hw2 : k0_chk2 v9 k0_t3 v88) (k0_t5 : Fin (k0_t5_loop v88).trips) (k0_t6 : Fin k0_t6_loop.trips), ∀ a, (k0_off9 v9 k0_t3 k0_t6) a + S16.size a ≤ S8704.size a := fun v9 k0_t3 v88 k0_hw2 k0_t5 k0_t6 => k0_hw2.2.2.1 k0_t5 k0_t6
theorem k0_off10_inb : ∀ (v9 : BitVec 32) (k0_t3 : Fin (k0_t3_loop v9).trips) (v88 : BitVec 32) (k0_hw2 : k0_chk2 v9 k0_t3 v88) (k0_t5 : Fin (k0_t5_loop v88).trips) (k0_t6 : Fin k0_t6_loop.trips), ∀ a, (k0_off10 v9 k0_t3 k0_t6) a + S16.size a ≤ S8704.size a := fun v9 k0_t3 v88 k0_hw2 k0_t5 k0_t6 => k0_hw2.2.2.2.1 k0_t5 k0_t6
theorem k0_off11_inb : ∀ (v9 : BitVec 32) (k0_t3 : Fin (k0_t3_loop v9).trips) (v88 : BitVec 32) (k0_hw2 : k0_chk2 v9 k0_t3 v88) (k0_t5 : Fin (k0_t5_loop v88).trips) (k0_t6 : Fin k0_t6_loop.trips), ∀ a, (k0_off11 v9 k0_t3 k0_t6) a + S16.size a ≤ S8704.size a := fun v9 k0_t3 v88 k0_hw2 k0_t5 k0_t6 => k0_hw2.2.2.2.2.1 k0_t5 k0_t6
theorem k0_off12_inb : ∀ (v9 : BitVec 32) (k0_t3 : Fin (k0_t3_loop v9).trips) (v88 : BitVec 32) (k0_hw2 : k0_chk2 v9 k0_t3 v88) (k0_t5 : Fin (k0_t5_loop v88).trips) (k0_t6 : Fin k0_t6_loop.trips), ∀ a, (k0_off12 v9 k0_t3 k0_t6) a + S16.size a ≤ S8704.size a := fun v9 k0_t3 v88 k0_hw2 k0_t5 k0_t6 => k0_hw2.2.2.2.2.2.1 k0_t5 k0_t6
theorem k0_t7_ok : ∀ (v9 : BitVec 32) (k0_t3 : Fin (k0_t3_loop v9).trips) (v88 : BitVec 32) (k0_hw2 : k0_chk2 v9 k0_t3 v88), (k0_t7_loop v88).OK := fun v9 k0_t3 v88 k0_hw2 => k0_hw2.2.2.2.2.2.2.1
theorem k0_off13_inb : ∀ (v9 : BitVec 32) (k0_t3 : Fin (k0_t3_loop v9).trips) (v88 : BitVec 32) (k0_hw2 : k0_chk2 v9 k0_t3 v88) (k0_t7 : Fin (k0_t7_loop v88).trips), ∀ (r : Fin 16), ∀ a, (k0_off13 v9 k0_t3 v88 k0_t7 (BitVec.ofNat 32 (16 * r.val))) a + S16.size a ≤ S16384.size a := fun v9 k0_t3 v88 k0_hw2 k0_t7 r => k0_hw2.2.2.2.2.2.2.2.1 k0_t7 r
theorem k0_off14_inb : ∀ (v9 : BitVec 32) (k0_t3 : Fin (k0_t3_loop v9).trips) (v88 : BitVec 32) (k0_hw2 : k0_chk2 v9 k0_t3 v88) (k0_t7 : Fin (k0_t7_loop v88).trips) (k0_t8 : Fin k0_t8_loop.trips), ∀ a, (k0_off14 v9 k0_t3 k0_t8) a + S16.size a ≤ S8704.size a := fun v9 k0_t3 v88 k0_hw2 k0_t7 k0_t8 => k0_hw2.2.2.2.2.2.2.2.2.1 k0_t7 k0_t8
theorem k0_off15_inb : ∀ (v9 : BitVec 32) (k0_t3 : Fin (k0_t3_loop v9).trips) (v88 : BitVec 32) (k0_hw2 : k0_chk2 v9 k0_t3 v88) (k0_t7 : Fin (k0_t7_loop v88).trips) (k0_t8 : Fin k0_t8_loop.trips), ∀ a, (k0_off15 v9 k0_t3 k0_t8) a + S16.size a ≤ S8704.size a := fun v9 k0_t3 v88 k0_hw2 k0_t7 k0_t8 => k0_hw2.2.2.2.2.2.2.2.2.2.1 k0_t7 k0_t8
theorem k0_off16_inb : ∀ (v9 : BitVec 32) (k0_t3 : Fin (k0_t3_loop v9).trips) (v88 : BitVec 32) (k0_hw2 : k0_chk2 v9 k0_t3 v88) (k0_t7 : Fin (k0_t7_loop v88).trips) (k0_t8 : Fin k0_t8_loop.trips), ∀ a, (k0_off16 v9 k0_t3 k0_t8) a + S16.size a ≤ S8704.size a := fun v9 k0_t3 v88 k0_hw2 k0_t7 k0_t8 => k0_hw2.2.2.2.2.2.2.2.2.2.2.1 k0_t7 k0_t8
theorem k0_off17_inb : ∀ (v9 : BitVec 32) (k0_t3 : Fin (k0_t3_loop v9).trips) (v88 : BitVec 32) (k0_hw2 : k0_chk2 v9 k0_t3 v88) (k0_t7 : Fin (k0_t7_loop v88).trips) (k0_t8 : Fin k0_t8_loop.trips), ∀ a, (k0_off17 v9 k0_t3 k0_t8) a + S16.size a ≤ S8704.size a := fun v9 k0_t3 v88 k0_hw2 k0_t7 k0_t8 => k0_hw2.2.2.2.2.2.2.2.2.2.2.2 k0_t7 k0_t8

@[reducible] def k0_t9_loop (v9 : BitVec 32) : Scf.Loop 32 :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let v45 : BitVec 32 := Scalar.addi c0_i32_44 v44
  let c1_i32_47 : BitVec 32 := 1#32
  ⟨v48, v45, c1_i32_47⟩
def k0_off18 (v9 : BitVec 32) (k0_t9 : Fin (k0_t9_loop v9).trips) : Fin 1 → Nat :=
  let c32_i32_89 : BitVec 32 := 32#32
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c16_i32 : BitVec 32 := 16#32
  let v83 : BitVec 32 := Scalar.muli arg16 c16_i32
  let v84 : BitVec 32 := Scalar.addi c32_i32_89 v83
  let v85 : Index := Scalar.indexCast v84
  ![v85.toNat]
@[reducible] def k0_t10_loop : Scf.Loop 32 :=
  let c0_i32_91 : BitVec 32 := 0#32
  let c32_i32_92 : BitVec 32 := 32#32
  let v89 : BitVec 32 := Scalar.addi c0_i32_91 c32_i32_92
  let c1_i32_93 : BitVec 32 := 1#32
  ⟨c0_i32_91, v89, c1_i32_93⟩
def k0_off19 (v9 : BitVec 32) (k0_t9 : Fin (k0_t9_loop v9).trips) (k0_t10 : Fin k0_t10_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_100 : BitVec 32 := 512#32
  let v96 : BitVec 32 := Scalar.muli arg16 c512_i32_100
  let c0_i32_91 : BitVec 32 := 0#32
  let c1_i32_93 : BitVec 32 := 1#32
  let arg17 : BitVec 32 := Scf.iv c0_i32_91 c1_i32_93 k0_t10
  let c16_i32_101 : BitVec 32 := 16#32
  let v97 : BitVec 32 := Scalar.muli arg17 c16_i32_101
  let v98 : BitVec 32 := Scalar.addi v96 v97
  let v99 : Index := Scalar.indexCast v98
  ![v99.toNat]
@[reducible] def k0_t11_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_98 : BitVec 32 := 1#32
  ⟨c0_i32_96, v94, c1_i32_98⟩

def k0_off20 (v9 : BitVec 32) (k0_t9 : Fin (k0_t9_loop v9).trips) (v88 : BitVec 32) (k0_t11 : Fin (k0_t11_loop v88).trips) (c0_i32_101 : BitVec 32) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c4_i32_100 : BitVec 32 := 4#32
  let v95 : BitVec 32 := Scalar.muli arg16 c4_i32_100
  let c0_i32_96 : BitVec 32 := 0#32
  let c1_i32_98 : BitVec 32 := 1#32
  let arg17 : BitVec 32 := Scf.iv c0_i32_96 c1_i32_98 k0_t11
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t12_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off21 (v9 : BitVec 32) (k0_t9 : Fin (k0_t9_loop v9).trips) (k0_t12 : Fin k0_t12_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t12
  let c32_i32_111 : BitVec 32 := 32#32
  let v148 : BitVec 32 := Scalar.muli arg18 c32_i32_111
  let v149 : BitVec 32 := Scalar.addi v147 v148
  let v150 : Index := Scalar.indexCast v149
  ![v150.toNat]
def k0_off22 (v9 : BitVec 32) (k0_t9 : Fin (k0_t9_loop v9).trips) (k0_t12 : Fin k0_t12_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t12
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk8 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx65_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw8 => k0_hw8.1
theorem k0_idx67_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw8 => k0_hw8.2.1
theorem k0_idx69_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw8 => k0_hw8.2.2.1
theorem k0_idx71_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw8 => k0_hw8.2.2.2.1
theorem k0_idx73_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw8 => k0_hw8.2.2.2.2.1
theorem k0_idx75_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw8 => k0_hw8.2.2.2.2.2.1
theorem k0_idx77_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw8 => k0_hw8.2.2.2.2.2.2.1
theorem k0_idx79_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw8 => k0_hw8.2.2.2.2.2.2.2.1
theorem k0_idx81_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw8 => k0_hw8.2.2.2.2.2.2.2.2.1
theorem k0_idx83_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw8 => k0_hw8.2.2.2.2.2.2.2.2.2.1
theorem k0_idx85_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw8 => k0_hw8.2.2.2.2.2.2.2.2.2.2.1
theorem k0_idx87_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw8 => k0_hw8.2.2.2.2.2.2.2.2.2.2.2.1
theorem k0_idx89_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw8 => k0_hw8.2.2.2.2.2.2.2.2.2.2.2.2.1
theorem k0_idx91_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw8 => k0_hw8.2.2.2.2.2.2.2.2.2.2.2.2.2.1
theorem k0_idx93_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw8 => k0_hw8.2.2.2.2.2.2.2.2.2.2.2.2.2.2.1
theorem k0_idx95_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw8 : k0_chk8 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw8 => k0_hw8.2.2.2.2.2.2.2.2.2.2.2.2.2.2.2

def k0_chk9 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx66_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw9 => k0_hw9.1
theorem k0_idx68_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw9 => k0_hw9.2.1
theorem k0_idx70_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw9 => k0_hw9.2.2.1
theorem k0_idx72_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw9 => k0_hw9.2.2.2.1
theorem k0_idx74_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw9 => k0_hw9.2.2.2.2.1
theorem k0_idx76_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw9 => k0_hw9.2.2.2.2.2.1
theorem k0_idx78_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw9 => k0_hw9.2.2.2.2.2.2.1
theorem k0_idx80_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw9 => k0_hw9.2.2.2.2.2.2.2.1
theorem k0_idx82_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw9 => k0_hw9.2.2.2.2.2.2.2.2.1
theorem k0_idx84_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw9 => k0_hw9.2.2.2.2.2.2.2.2.2.1
theorem k0_idx86_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw9 => k0_hw9.2.2.2.2.2.2.2.2.2.2.1
theorem k0_idx88_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw9 => k0_hw9.2.2.2.2.2.2.2.2.2.2.2.1
theorem k0_idx90_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw9 => k0_hw9.2.2.2.2.2.2.2.2.2.2.2.2.1
theorem k0_idx92_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw9 => k0_hw9.2.2.2.2.2.2.2.2.2.2.2.2.2.1
theorem k0_idx94_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw9 => k0_hw9.2.2.2.2.2.2.2.2.2.2.2.2.2.2.1
theorem k0_idx96_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw9 : k0_chk9 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw9 => k0_hw9.2.2.2.2.2.2.2.2.2.2.2.2.2.2.2
def k0_off23 (v9 : BitVec 32) (k0_t9 : Fin (k0_t9_loop v9).trips) (k0_t12 : Fin k0_t12_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t12
  let c32_i32_111 : BitVec 32 := 32#32
  let v148 : BitVec 32 := Scalar.muli arg18 c32_i32_111
  let v149 : BitVec 32 := Scalar.addi v147 v148
  let v225 : Index := Scalar.indexCast v149
  ![v225.toNat]
def k0_off24 (v9 : BitVec 32) (k0_t9 : Fin (k0_t9_loop v9).trips) (k0_t12 : Fin k0_t12_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t12
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]
@[reducible] def k0_t13_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let v91 : BitVec 32 := Scalar.addi c0_i32_96 v90
  let c1_i32_99 : BitVec 32 := 1#32
  ⟨v94, v91, c1_i32_99⟩
def k0_off25 (v9 : BitVec 32) (k0_t9 : Fin (k0_t9_loop v9).trips) (v88 : BitVec 32) (k0_t13 : Fin (k0_t13_loop v88).trips) (c0_i32_101 : BitVec 32) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c4_i32_100 : BitVec 32 := 4#32
  let v95 : BitVec 32 := Scalar.muli arg16 c4_i32_100
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_99 : BitVec 32 := 1#32
  let arg17 : BitVec 32 := Scf.iv v94 c1_i32_99 k0_t13
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t14_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off26 (v9 : BitVec 32) (k0_t9 : Fin (k0_t9_loop v9).trips) (k0_t14 : Fin k0_t14_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t14
  let c32_i32_111 : BitVec 32 := 32#32
  let v148 : BitVec 32 := Scalar.muli arg18 c32_i32_111
  let v149 : BitVec 32 := Scalar.addi v147 v148
  let v150 : Index := Scalar.indexCast v149
  ![v150.toNat]
def k0_off27 (v9 : BitVec 32) (k0_t9 : Fin (k0_t9_loop v9).trips) (k0_t14 : Fin k0_t14_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t14
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk10 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx97_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw10 => k0_hw10.1
theorem k0_idx99_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw10 => k0_hw10.2.1
theorem k0_idx101_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw10 => k0_hw10.2.2.1
theorem k0_idx103_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw10 => k0_hw10.2.2.2.1
theorem k0_idx105_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw10 => k0_hw10.2.2.2.2.1
theorem k0_idx107_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw10 => k0_hw10.2.2.2.2.2.1
theorem k0_idx109_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw10 => k0_hw10.2.2.2.2.2.2.1
theorem k0_idx111_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw10 => k0_hw10.2.2.2.2.2.2.2.1
theorem k0_idx113_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw10 => k0_hw10.2.2.2.2.2.2.2.2.1
theorem k0_idx115_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw10 => k0_hw10.2.2.2.2.2.2.2.2.2.1
theorem k0_idx117_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw10 => k0_hw10.2.2.2.2.2.2.2.2.2.2.1
theorem k0_idx119_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw10 => k0_hw10.2.2.2.2.2.2.2.2.2.2.2.1
theorem k0_idx121_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw10 => k0_hw10.2.2.2.2.2.2.2.2.2.2.2.2.1
theorem k0_idx123_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw10 => k0_hw10.2.2.2.2.2.2.2.2.2.2.2.2.2.1
theorem k0_idx125_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw10 => k0_hw10.2.2.2.2.2.2.2.2.2.2.2.2.2.2.1
theorem k0_idx127_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw10 : k0_chk10 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw10 => k0_hw10.2.2.2.2.2.2.2.2.2.2.2.2.2.2.2

def k0_chk11 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx98_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw11 => k0_hw11.1
theorem k0_idx100_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw11 => k0_hw11.2.1
theorem k0_idx102_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw11 => k0_hw11.2.2.1
theorem k0_idx104_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw11 => k0_hw11.2.2.2.1
theorem k0_idx106_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw11 => k0_hw11.2.2.2.2.1
theorem k0_idx108_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw11 => k0_hw11.2.2.2.2.2.1
theorem k0_idx110_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw11 => k0_hw11.2.2.2.2.2.2.1
theorem k0_idx112_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw11 => k0_hw11.2.2.2.2.2.2.2.1
theorem k0_idx114_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw11 => k0_hw11.2.2.2.2.2.2.2.2.1
theorem k0_idx116_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw11 => k0_hw11.2.2.2.2.2.2.2.2.2.1
theorem k0_idx118_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw11 => k0_hw11.2.2.2.2.2.2.2.2.2.2.1
theorem k0_idx120_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw11 => k0_hw11.2.2.2.2.2.2.2.2.2.2.2.1
theorem k0_idx122_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw11 => k0_hw11.2.2.2.2.2.2.2.2.2.2.2.2.1
theorem k0_idx124_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw11 => k0_hw11.2.2.2.2.2.2.2.2.2.2.2.2.2.1
theorem k0_idx126_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw11 => k0_hw11.2.2.2.2.2.2.2.2.2.2.2.2.2.2.1
theorem k0_idx128_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw11 : k0_chk11 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw11 => k0_hw11.2.2.2.2.2.2.2.2.2.2.2.2.2.2.2
def k0_off28 (v9 : BitVec 32) (k0_t9 : Fin (k0_t9_loop v9).trips) (k0_t14 : Fin k0_t14_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t14
  let c32_i32_111 : BitVec 32 := 32#32
  let v148 : BitVec 32 := Scalar.muli arg18 c32_i32_111
  let v149 : BitVec 32 := Scalar.addi v147 v148
  let v225 : Index := Scalar.indexCast v149
  ![v225.toNat]
def k0_off29 (v9 : BitVec 32) (k0_t9 : Fin (k0_t9_loop v9).trips) (k0_t14 : Fin k0_t14_loop.trips) : Fin 1 → Nat :=
  let c0_i32_44 : BitVec 32 := 0#32
  let v44 : BitVec 32 := Scalar.subi v9 c0_i32_44
  let c1_i32_45 : BitVec 32 := 1#32
  let v46 : BitVec 32 := Scalar.divsi v44 c1_i32_45
  let v47 : BitVec 32 := Scalar.muli v46 c1_i32_45
  let v48 : BitVec 32 := Scalar.addi c0_i32_44 v47
  let c1_i32_47 : BitVec 32 := 1#32
  let arg16 : BitVec 32 := Scf.iv v48 c1_i32_47 k0_t9
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t14
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]

def k0_chk7 (v9 : BitVec 32) (k0_t9 : Fin (k0_t9_loop v9).trips) (v88 : BitVec 32) : Prop :=
  ((k0_t11_loop v88).OK) ∧
  (∀ k0_t11 : Fin (k0_t11_loop v88).trips, ∀ (r : Fin 16), ∀ a, (k0_off20 v9 k0_t9 v88 k0_t11 (BitVec.ofNat 32 (16 * r.val))) a + S16.size a ≤ S16384.size a) ∧
  (∀ (k0_t11 : Fin (k0_t11_loop v88).trips) (k0_t12 : Fin k0_t12_loop.trips), ∀ a, (k0_off21 v9 k0_t9 k0_t12) a + S16.size a ≤ S8704.size a) ∧
  (∀ (k0_t11 : Fin (k0_t11_loop v88).trips) (k0_t12 : Fin k0_t12_loop.trips), ∀ a, (k0_off22 v9 k0_t9 k0_t12) a + S16.size a ≤ S8704.size a) ∧
  (∀ (k0_t11 : Fin (k0_t11_loop v88).trips) (k0_t12 : Fin k0_t12_loop.trips), ∀ a, (k0_off23 v9 k0_t9 k0_t12) a + S16.size a ≤ S8704.size a) ∧
  (∀ (k0_t11 : Fin (k0_t11_loop v88).trips) (k0_t12 : Fin k0_t12_loop.trips), ∀ a, (k0_off24 v9 k0_t9 k0_t12) a + S16.size a ≤ S8704.size a) ∧
  ((k0_t13_loop v88).OK) ∧
  (∀ k0_t13 : Fin (k0_t13_loop v88).trips, ∀ (r : Fin 16), ∀ a, (k0_off25 v9 k0_t9 v88 k0_t13 (BitVec.ofNat 32 (16 * r.val))) a + S16.size a ≤ S16384.size a) ∧
  (∀ (k0_t13 : Fin (k0_t13_loop v88).trips) (k0_t14 : Fin k0_t14_loop.trips), ∀ a, (k0_off26 v9 k0_t9 k0_t14) a + S16.size a ≤ S8704.size a) ∧
  (∀ (k0_t13 : Fin (k0_t13_loop v88).trips) (k0_t14 : Fin k0_t14_loop.trips), ∀ a, (k0_off27 v9 k0_t9 k0_t14) a + S16.size a ≤ S8704.size a) ∧
  (∀ (k0_t13 : Fin (k0_t13_loop v88).trips) (k0_t14 : Fin k0_t14_loop.trips), ∀ a, (k0_off28 v9 k0_t9 k0_t14) a + S16.size a ≤ S8704.size a) ∧
  (∀ (k0_t13 : Fin (k0_t13_loop v88).trips) (k0_t14 : Fin k0_t14_loop.trips), ∀ a, (k0_off29 v9 k0_t9 k0_t14) a + S16.size a ≤ S8704.size a)
theorem k0_t11_ok : ∀ (v9 : BitVec 32) (k0_t9 : Fin (k0_t9_loop v9).trips) (v88 : BitVec 32) (k0_hw7 : k0_chk7 v9 k0_t9 v88), (k0_t11_loop v88).OK := fun v9 k0_t9 v88 k0_hw7 => k0_hw7.1
theorem k0_off20_inb : ∀ (v9 : BitVec 32) (k0_t9 : Fin (k0_t9_loop v9).trips) (v88 : BitVec 32) (k0_hw7 : k0_chk7 v9 k0_t9 v88) (k0_t11 : Fin (k0_t11_loop v88).trips), ∀ (r : Fin 16), ∀ a, (k0_off20 v9 k0_t9 v88 k0_t11 (BitVec.ofNat 32 (16 * r.val))) a + S16.size a ≤ S16384.size a := fun v9 k0_t9 v88 k0_hw7 k0_t11 r => k0_hw7.2.1 k0_t11 r
theorem k0_off21_inb : ∀ (v9 : BitVec 32) (k0_t9 : Fin (k0_t9_loop v9).trips) (v88 : BitVec 32) (k0_hw7 : k0_chk7 v9 k0_t9 v88) (k0_t11 : Fin (k0_t11_loop v88).trips) (k0_t12 : Fin k0_t12_loop.trips), ∀ a, (k0_off21 v9 k0_t9 k0_t12) a + S16.size a ≤ S8704.size a := fun v9 k0_t9 v88 k0_hw7 k0_t11 k0_t12 => k0_hw7.2.2.1 k0_t11 k0_t12
theorem k0_off22_inb : ∀ (v9 : BitVec 32) (k0_t9 : Fin (k0_t9_loop v9).trips) (v88 : BitVec 32) (k0_hw7 : k0_chk7 v9 k0_t9 v88) (k0_t11 : Fin (k0_t11_loop v88).trips) (k0_t12 : Fin k0_t12_loop.trips), ∀ a, (k0_off22 v9 k0_t9 k0_t12) a + S16.size a ≤ S8704.size a := fun v9 k0_t9 v88 k0_hw7 k0_t11 k0_t12 => k0_hw7.2.2.2.1 k0_t11 k0_t12
theorem k0_off23_inb : ∀ (v9 : BitVec 32) (k0_t9 : Fin (k0_t9_loop v9).trips) (v88 : BitVec 32) (k0_hw7 : k0_chk7 v9 k0_t9 v88) (k0_t11 : Fin (k0_t11_loop v88).trips) (k0_t12 : Fin k0_t12_loop.trips), ∀ a, (k0_off23 v9 k0_t9 k0_t12) a + S16.size a ≤ S8704.size a := fun v9 k0_t9 v88 k0_hw7 k0_t11 k0_t12 => k0_hw7.2.2.2.2.1 k0_t11 k0_t12
theorem k0_off24_inb : ∀ (v9 : BitVec 32) (k0_t9 : Fin (k0_t9_loop v9).trips) (v88 : BitVec 32) (k0_hw7 : k0_chk7 v9 k0_t9 v88) (k0_t11 : Fin (k0_t11_loop v88).trips) (k0_t12 : Fin k0_t12_loop.trips), ∀ a, (k0_off24 v9 k0_t9 k0_t12) a + S16.size a ≤ S8704.size a := fun v9 k0_t9 v88 k0_hw7 k0_t11 k0_t12 => k0_hw7.2.2.2.2.2.1 k0_t11 k0_t12
theorem k0_t13_ok : ∀ (v9 : BitVec 32) (k0_t9 : Fin (k0_t9_loop v9).trips) (v88 : BitVec 32) (k0_hw7 : k0_chk7 v9 k0_t9 v88), (k0_t13_loop v88).OK := fun v9 k0_t9 v88 k0_hw7 => k0_hw7.2.2.2.2.2.2.1
theorem k0_off25_inb : ∀ (v9 : BitVec 32) (k0_t9 : Fin (k0_t9_loop v9).trips) (v88 : BitVec 32) (k0_hw7 : k0_chk7 v9 k0_t9 v88) (k0_t13 : Fin (k0_t13_loop v88).trips), ∀ (r : Fin 16), ∀ a, (k0_off25 v9 k0_t9 v88 k0_t13 (BitVec.ofNat 32 (16 * r.val))) a + S16.size a ≤ S16384.size a := fun v9 k0_t9 v88 k0_hw7 k0_t13 r => k0_hw7.2.2.2.2.2.2.2.1 k0_t13 r
theorem k0_off26_inb : ∀ (v9 : BitVec 32) (k0_t9 : Fin (k0_t9_loop v9).trips) (v88 : BitVec 32) (k0_hw7 : k0_chk7 v9 k0_t9 v88) (k0_t13 : Fin (k0_t13_loop v88).trips) (k0_t14 : Fin k0_t14_loop.trips), ∀ a, (k0_off26 v9 k0_t9 k0_t14) a + S16.size a ≤ S8704.size a := fun v9 k0_t9 v88 k0_hw7 k0_t13 k0_t14 => k0_hw7.2.2.2.2.2.2.2.2.1 k0_t13 k0_t14
theorem k0_off27_inb : ∀ (v9 : BitVec 32) (k0_t9 : Fin (k0_t9_loop v9).trips) (v88 : BitVec 32) (k0_hw7 : k0_chk7 v9 k0_t9 v88) (k0_t13 : Fin (k0_t13_loop v88).trips) (k0_t14 : Fin k0_t14_loop.trips), ∀ a, (k0_off27 v9 k0_t9 k0_t14) a + S16.size a ≤ S8704.size a := fun v9 k0_t9 v88 k0_hw7 k0_t13 k0_t14 => k0_hw7.2.2.2.2.2.2.2.2.2.1 k0_t13 k0_t14
theorem k0_off28_inb : ∀ (v9 : BitVec 32) (k0_t9 : Fin (k0_t9_loop v9).trips) (v88 : BitVec 32) (k0_hw7 : k0_chk7 v9 k0_t9 v88) (k0_t13 : Fin (k0_t13_loop v88).trips) (k0_t14 : Fin k0_t14_loop.trips), ∀ a, (k0_off28 v9 k0_t9 k0_t14) a + S16.size a ≤ S8704.size a := fun v9 k0_t9 v88 k0_hw7 k0_t13 k0_t14 => k0_hw7.2.2.2.2.2.2.2.2.2.2.1 k0_t13 k0_t14
theorem k0_off29_inb : ∀ (v9 : BitVec 32) (k0_t9 : Fin (k0_t9_loop v9).trips) (v88 : BitVec 32) (k0_hw7 : k0_chk7 v9 k0_t9 v88) (k0_t13 : Fin (k0_t13_loop v88).trips) (k0_t14 : Fin k0_t14_loop.trips), ∀ a, (k0_off29 v9 k0_t9 k0_t14) a + S16.size a ≤ S8704.size a := fun v9 k0_t9 v88 k0_hw7 k0_t13 k0_t14 => k0_hw7.2.2.2.2.2.2.2.2.2.2.2 k0_t13 k0_t14

@[reducible] def k0_t15_loop : Scf.Loop 32 :=
  let c0_i32_49 : BitVec 32 := 0#32
  let c128_i32 : BitVec 32 := 128#32
  let v49 : BitVec 32 := Scalar.addi c0_i32_49 c128_i32
  let c1_i32_50 : BitVec 32 := 1#32
  ⟨c0_i32_49, v49, c1_i32_50⟩

def k0_chk12 (v86 : IVec S16 32) : Prop :=
  (∀ a x, ((![v86] : Fin 1 → IVec S16 32) a x).toNat < S8704.size a)
theorem k0_idx129_inb : ∀ (v86 : IVec S16 32) (k0_hw12 : k0_chk12 v86), ∀ a x, ((![v86] : Fin 1 → IVec S16 32) a x).toNat < S8704.size a := fun v86 k0_hw12 => k0_hw12
def k0_off30 (k0_t15 : Fin k0_t15_loop.trips) : Fin 2 → Nat :=
  let c0_i32_91 : BitVec 32 := 0#32
  let c0_i32_49 : BitVec 32 := 0#32
  let c1_i32_50 : BitVec 32 := 1#32
  let arg16 : BitVec 32 := Scf.iv c0_i32_49 c1_i32_50 k0_t15
  let c4_i32_89 : BitVec 32 := 4#32
  let v83 : BitVec 32 := Scalar.muli arg16 c4_i32_89
  let c0_i32_90 : BitVec 32 := 0#32
  let v84 : BitVec 32 := Scalar.addi v83 c0_i32_90
  let v88 : BitVec 32 := Scalar.addi c0_i32_91 v84
  let v89 : Index := Scalar.indexCast v88
  let c0_92 : Index := 0#32
  ![v89.toNat, 0]

def k0_chk13 (v94 : IVec S16 32) : Prop :=
  (∀ a x, ((![v94] : Fin 1 → IVec S16 32) a x).toNat < S8704.size a)
theorem k0_idx130_inb : ∀ (v94 : IVec S16 32) (k0_hw13 : k0_chk13 v94), ∀ a x, ((![v94] : Fin 1 → IVec S16 32) a x).toNat < S8704.size a := fun v94 k0_hw13 => k0_hw13
def k0_off31 (k0_t15 : Fin k0_t15_loop.trips) : Fin 2 → Nat :=
  let c0_i32_95 : BitVec 32 := 0#32
  let c0_i32_49 : BitVec 32 := 0#32
  let c1_i32_50 : BitVec 32 := 1#32
  let arg16 : BitVec 32 := Scf.iv c0_i32_49 c1_i32_50 k0_t15
  let c4_i32_93 : BitVec 32 := 4#32
  let v91 : BitVec 32 := Scalar.muli arg16 c4_i32_93
  let c1_i32_94 : BitVec 32 := 1#32
  let v92 : BitVec 32 := Scalar.addi v91 c1_i32_94
  let v96 : BitVec 32 := Scalar.addi c0_i32_95 v92
  let v97 : Index := Scalar.indexCast v96
  let c0_96 : Index := 0#32
  ![v97.toNat, 0]

def k0_chk14 (v102 : IVec S16 32) : Prop :=
  (∀ a x, ((![v102] : Fin 1 → IVec S16 32) a x).toNat < S8704.size a)
theorem k0_idx131_inb : ∀ (v102 : IVec S16 32) (k0_hw14 : k0_chk14 v102), ∀ a x, ((![v102] : Fin 1 → IVec S16 32) a x).toNat < S8704.size a := fun v102 k0_hw14 => k0_hw14
def k0_off32 (k0_t15 : Fin k0_t15_loop.trips) : Fin 2 → Nat :=
  let c0_i32_99 : BitVec 32 := 0#32
  let c0_i32_49 : BitVec 32 := 0#32
  let c1_i32_50 : BitVec 32 := 1#32
  let arg16 : BitVec 32 := Scf.iv c0_i32_49 c1_i32_50 k0_t15
  let c4_i32_97 : BitVec 32 := 4#32
  let v99 : BitVec 32 := Scalar.muli arg16 c4_i32_97
  let c2_i32_98 : BitVec 32 := 2#32
  let v100 : BitVec 32 := Scalar.addi v99 c2_i32_98
  let v104 : BitVec 32 := Scalar.addi c0_i32_99 v100
  let v105 : Index := Scalar.indexCast v104
  let c0_100 : Index := 0#32
  ![v105.toNat, 0]

def k0_chk15 (v110 : IVec S16 32) : Prop :=
  (∀ a x, ((![v110] : Fin 1 → IVec S16 32) a x).toNat < S8704.size a)
theorem k0_idx132_inb : ∀ (v110 : IVec S16 32) (k0_hw15 : k0_chk15 v110), ∀ a x, ((![v110] : Fin 1 → IVec S16 32) a x).toNat < S8704.size a := fun v110 k0_hw15 => k0_hw15
def k0_off33 (k0_t15 : Fin k0_t15_loop.trips) : Fin 2 → Nat :=
  let c0_i32_103 : BitVec 32 := 0#32
  let c0_i32_49 : BitVec 32 := 0#32
  let c1_i32_50 : BitVec 32 := 1#32
  let arg16 : BitVec 32 := Scf.iv c0_i32_49 c1_i32_50 k0_t15
  let c4_i32_101 : BitVec 32 := 4#32
  let v107 : BitVec 32 := Scalar.muli arg16 c4_i32_101
  let c3_i32_102 : BitVec 32 := 3#32
  let v108 : BitVec 32 := Scalar.addi v107 c3_i32_102
  let v112 : BitVec 32 := Scalar.addi c0_i32_103 v108
  let v113 : Index := Scalar.indexCast v112
  let c0_104 : Index := 0#32
  ![v113.toNat, 0]
def k0_off34 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c512_i32_52 : BitVec 32 := 512#32
  let v50 : BitVec 32 := Scalar.muli v27 c512_i32_52
  let v51 : BitVec 32 := Scalar.addi v2 v50
  let c0_i32_55 : BitVec 32 := 0#32
  ![v51.toNat, 0]
def k0_off35 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c1_i32_59 : BitVec 32 := 1#32
  let v56 : BitVec 32 := Scalar.addi v27 c1_i32_59
  let c512_i32_60 : BitVec 32 := 512#32
  let v57 : BitVec 32 := Scalar.muli v56 c512_i32_60
  let v58 : BitVec 32 := Scalar.addi v2 v57
  let c0_i32_63 : BitVec 32 := 0#32
  ![v58.toNat, 0]
def k0_cond2 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c3_i32 : BitVec 32 := 3#32
  let v63 : BitVec 1 := Scalar.cmpi .slt arg15 c3_i32
  let v64 : BitVec 32 := Scalar.extui v63
  let c0_i32_67 : BitVec 32 := 0#32
  let v65 : BitVec 1 := Scalar.cmpi .ne v64 c0_i32_67
  v65

def k0_off36 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c2_i32_89 : BitVec 32 := 2#32
  let v83 : BitVec 32 := Scalar.addi v27 c2_i32_89
  let c512_i32_90 : BitVec 32 := 512#32
  let v84 : BitVec 32 := Scalar.muli v83 c512_i32_90
  let v85 : BitVec 32 := Scalar.addi v2 v84
  let c0_i32_93 : BitVec 32 := 0#32
  ![v85.toNat, 0]
def k0_cond3 (k0_t2 : Fin k0_t2_loop.trips) : BitVec 1 :=
  let c0_i32_10 : BitVec 32 := 0#32
  let c1_i32_11 : BitVec 32 := 1#32
  let arg15 : BitVec 32 := Scf.iv c0_i32_10 c1_i32_11 k0_t2
  let c0_i32_68 : BitVec 32 := 0#32
  let v66 : BitVec 1 := Scalar.cmpi .sgt arg15 c0_i32_68
  let v67 : BitVec 32 := Scalar.extui v66
  let c0_i32_69 : BitVec 32 := 0#32
  let v68 : BitVec 1 := Scalar.cmpi .ne v67 c0_i32_69
  v68

def k0_off37 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c1_i32_89 : BitVec 32 := 1#32
  let v83 : BitVec 32 := Scalar.subi v27 c1_i32_89
  let c512_i32_90 : BitVec 32 := 512#32
  let v84 : BitVec 32 := Scalar.muli v83 c512_i32_90
  let v85 : BitVec 32 := Scalar.addi v2 v84
  let c0_i32_93 : BitVec 32 := 0#32
  ![v85.toNat, 0]
@[reducible] def k0_t16_loop (v9 : BitVec 32) : Scf.Loop 32 :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_74 : BitVec 32 := 1#32
  ⟨c0_i32_72, v74, c1_i32_74⟩
def k0_off38 (v9 : BitVec 32) (k0_t16 : Fin (k0_t16_loop v9).trips) : Fin 1 → Nat :=
  let c32_i32_89 : BitVec 32 := 32#32
  let c0_i32_72 : BitVec 32 := 0#32
  let c1_i32_74 : BitVec 32 := 1#32
  let arg16 : BitVec 32 := Scf.iv c0_i32_72 c1_i32_74 k0_t16
  let c16_i32 : BitVec 32 := 16#32
  let v83 : BitVec 32 := Scalar.muli arg16 c16_i32
  let v84 : BitVec 32 := Scalar.addi c32_i32_89 v83
  let v85 : Index := Scalar.indexCast v84
  ![v85.toNat]
@[reducible] def k0_t17_loop : Scf.Loop 32 :=
  let c0_i32_91 : BitVec 32 := 0#32
  let c32_i32_92 : BitVec 32 := 32#32
  let v89 : BitVec 32 := Scalar.addi c0_i32_91 c32_i32_92
  let c1_i32_93 : BitVec 32 := 1#32
  ⟨c0_i32_91, v89, c1_i32_93⟩
def k0_off39 (v9 : BitVec 32) (k0_t16 : Fin (k0_t16_loop v9).trips) (k0_t17 : Fin k0_t17_loop.trips) : Fin 1 → Nat :=
  let c0_i32_72 : BitVec 32 := 0#32
  let c1_i32_74 : BitVec 32 := 1#32
  let arg16 : BitVec 32 := Scf.iv c0_i32_72 c1_i32_74 k0_t16
  let c512_i32_100 : BitVec 32 := 512#32
  let v96 : BitVec 32 := Scalar.muli arg16 c512_i32_100
  let c0_i32_91 : BitVec 32 := 0#32
  let c1_i32_93 : BitVec 32 := 1#32
  let arg17 : BitVec 32 := Scf.iv c0_i32_91 c1_i32_93 k0_t17
  let c16_i32_101 : BitVec 32 := 16#32
  let v97 : BitVec 32 := Scalar.muli arg17 c16_i32_101
  let v98 : BitVec 32 := Scalar.addi v96 v97
  let v99 : Index := Scalar.indexCast v98
  ![v99.toNat]
@[reducible] def k0_t18_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_98 : BitVec 32 := 1#32
  ⟨c0_i32_96, v94, c1_i32_98⟩

def k0_off40 (v9 : BitVec 32) (k0_t16 : Fin (k0_t16_loop v9).trips) (v88 : BitVec 32) (k0_t18 : Fin (k0_t18_loop v88).trips) (c0_i32_101 : BitVec 32) : Fin 1 → Nat :=
  let c0_i32_72 : BitVec 32 := 0#32
  let c1_i32_74 : BitVec 32 := 1#32
  let arg16 : BitVec 32 := Scf.iv c0_i32_72 c1_i32_74 k0_t16
  let c4_i32_100 : BitVec 32 := 4#32
  let v95 : BitVec 32 := Scalar.muli arg16 c4_i32_100
  let c0_i32_96 : BitVec 32 := 0#32
  let c1_i32_98 : BitVec 32 := 1#32
  let arg17 : BitVec 32 := Scf.iv c0_i32_96 c1_i32_98 k0_t18
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t19_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off41 (v9 : BitVec 32) (k0_t16 : Fin (k0_t16_loop v9).trips) (k0_t19 : Fin k0_t19_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t19
  let c32_i32_111 : BitVec 32 := 32#32
  let v148 : BitVec 32 := Scalar.muli arg18 c32_i32_111
  let v149 : BitVec 32 := Scalar.addi v147 v148
  let v150 : Index := Scalar.indexCast v149
  ![v150.toNat]
def k0_off42 (v9 : BitVec 32) (k0_t16 : Fin (k0_t16_loop v9).trips) (k0_t19 : Fin k0_t19_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t19
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk17 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx133_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw17 => k0_hw17.1
theorem k0_idx135_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw17 => k0_hw17.2.1
theorem k0_idx137_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw17 => k0_hw17.2.2.1
theorem k0_idx139_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw17 => k0_hw17.2.2.2.1
theorem k0_idx141_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw17 => k0_hw17.2.2.2.2.1
theorem k0_idx143_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw17 => k0_hw17.2.2.2.2.2.1
theorem k0_idx145_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw17 => k0_hw17.2.2.2.2.2.2.1
theorem k0_idx147_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw17 => k0_hw17.2.2.2.2.2.2.2.1
theorem k0_idx149_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw17 => k0_hw17.2.2.2.2.2.2.2.2.1
theorem k0_idx151_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw17 => k0_hw17.2.2.2.2.2.2.2.2.2.1
theorem k0_idx153_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw17 => k0_hw17.2.2.2.2.2.2.2.2.2.2.1
theorem k0_idx155_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw17 => k0_hw17.2.2.2.2.2.2.2.2.2.2.2.1
theorem k0_idx157_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw17 => k0_hw17.2.2.2.2.2.2.2.2.2.2.2.2.1
theorem k0_idx159_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw17 => k0_hw17.2.2.2.2.2.2.2.2.2.2.2.2.2.1
theorem k0_idx161_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw17 => k0_hw17.2.2.2.2.2.2.2.2.2.2.2.2.2.2.1
theorem k0_idx163_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw17 : k0_chk17 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw17 => k0_hw17.2.2.2.2.2.2.2.2.2.2.2.2.2.2.2

def k0_chk18 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx134_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw18 => k0_hw18.1
theorem k0_idx136_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw18 => k0_hw18.2.1
theorem k0_idx138_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw18 => k0_hw18.2.2.1
theorem k0_idx140_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw18 => k0_hw18.2.2.2.1
theorem k0_idx142_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw18 => k0_hw18.2.2.2.2.1
theorem k0_idx144_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw18 => k0_hw18.2.2.2.2.2.1
theorem k0_idx146_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw18 => k0_hw18.2.2.2.2.2.2.1
theorem k0_idx148_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw18 => k0_hw18.2.2.2.2.2.2.2.1
theorem k0_idx150_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw18 => k0_hw18.2.2.2.2.2.2.2.2.1
theorem k0_idx152_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw18 => k0_hw18.2.2.2.2.2.2.2.2.2.1
theorem k0_idx154_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw18 => k0_hw18.2.2.2.2.2.2.2.2.2.2.1
theorem k0_idx156_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw18 => k0_hw18.2.2.2.2.2.2.2.2.2.2.2.1
theorem k0_idx158_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw18 => k0_hw18.2.2.2.2.2.2.2.2.2.2.2.2.1
theorem k0_idx160_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw18 => k0_hw18.2.2.2.2.2.2.2.2.2.2.2.2.2.1
theorem k0_idx162_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw18 => k0_hw18.2.2.2.2.2.2.2.2.2.2.2.2.2.2.1
theorem k0_idx164_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw18 : k0_chk18 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw18 => k0_hw18.2.2.2.2.2.2.2.2.2.2.2.2.2.2.2
def k0_off43 (v9 : BitVec 32) (k0_t16 : Fin (k0_t16_loop v9).trips) (k0_t19 : Fin k0_t19_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t19
  let c32_i32_111 : BitVec 32 := 32#32
  let v148 : BitVec 32 := Scalar.muli arg18 c32_i32_111
  let v149 : BitVec 32 := Scalar.addi v147 v148
  let v225 : Index := Scalar.indexCast v149
  ![v225.toNat]
def k0_off44 (v9 : BitVec 32) (k0_t16 : Fin (k0_t16_loop v9).trips) (k0_t19 : Fin k0_t19_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t19
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]
@[reducible] def k0_t20_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let v91 : BitVec 32 := Scalar.addi c0_i32_96 v90
  let c1_i32_99 : BitVec 32 := 1#32
  ⟨v94, v91, c1_i32_99⟩
def k0_off45 (v9 : BitVec 32) (k0_t16 : Fin (k0_t16_loop v9).trips) (v88 : BitVec 32) (k0_t20 : Fin (k0_t20_loop v88).trips) (c0_i32_101 : BitVec 32) : Fin 1 → Nat :=
  let c0_i32_72 : BitVec 32 := 0#32
  let c1_i32_74 : BitVec 32 := 1#32
  let arg16 : BitVec 32 := Scf.iv c0_i32_72 c1_i32_74 k0_t16
  let c4_i32_100 : BitVec 32 := 4#32
  let v95 : BitVec 32 := Scalar.muli arg16 c4_i32_100
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_99 : BitVec 32 := 1#32
  let arg17 : BitVec 32 := Scf.iv v94 c1_i32_99 k0_t20
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t21_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off46 (v9 : BitVec 32) (k0_t16 : Fin (k0_t16_loop v9).trips) (k0_t21 : Fin k0_t21_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t21
  let c32_i32_111 : BitVec 32 := 32#32
  let v148 : BitVec 32 := Scalar.muli arg18 c32_i32_111
  let v149 : BitVec 32 := Scalar.addi v147 v148
  let v150 : Index := Scalar.indexCast v149
  ![v150.toNat]
def k0_off47 (v9 : BitVec 32) (k0_t16 : Fin (k0_t16_loop v9).trips) (k0_t21 : Fin k0_t21_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t21
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk19 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx165_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw19 => k0_hw19.1
theorem k0_idx167_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw19 => k0_hw19.2.1
theorem k0_idx169_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw19 => k0_hw19.2.2.1
theorem k0_idx171_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw19 => k0_hw19.2.2.2.1
theorem k0_idx173_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw19 => k0_hw19.2.2.2.2.1
theorem k0_idx175_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw19 => k0_hw19.2.2.2.2.2.1
theorem k0_idx177_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw19 => k0_hw19.2.2.2.2.2.2.1
theorem k0_idx179_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw19 => k0_hw19.2.2.2.2.2.2.2.1
theorem k0_idx181_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw19 => k0_hw19.2.2.2.2.2.2.2.2.1
theorem k0_idx183_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw19 => k0_hw19.2.2.2.2.2.2.2.2.2.1
theorem k0_idx185_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw19 => k0_hw19.2.2.2.2.2.2.2.2.2.2.1
theorem k0_idx187_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw19 => k0_hw19.2.2.2.2.2.2.2.2.2.2.2.1
theorem k0_idx189_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw19 => k0_hw19.2.2.2.2.2.2.2.2.2.2.2.2.1
theorem k0_idx191_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw19 => k0_hw19.2.2.2.2.2.2.2.2.2.2.2.2.2.1
theorem k0_idx193_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw19 => k0_hw19.2.2.2.2.2.2.2.2.2.2.2.2.2.2.1
theorem k0_idx195_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw19 : k0_chk19 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw19 => k0_hw19.2.2.2.2.2.2.2.2.2.2.2.2.2.2.2

def k0_chk20 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx166_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw20 => k0_hw20.1
theorem k0_idx168_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw20 => k0_hw20.2.1
theorem k0_idx170_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw20 => k0_hw20.2.2.1
theorem k0_idx172_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw20 => k0_hw20.2.2.2.1
theorem k0_idx174_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw20 => k0_hw20.2.2.2.2.1
theorem k0_idx176_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw20 => k0_hw20.2.2.2.2.2.1
theorem k0_idx178_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw20 => k0_hw20.2.2.2.2.2.2.1
theorem k0_idx180_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw20 => k0_hw20.2.2.2.2.2.2.2.1
theorem k0_idx182_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw20 => k0_hw20.2.2.2.2.2.2.2.2.1
theorem k0_idx184_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw20 => k0_hw20.2.2.2.2.2.2.2.2.2.1
theorem k0_idx186_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw20 => k0_hw20.2.2.2.2.2.2.2.2.2.2.1
theorem k0_idx188_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw20 => k0_hw20.2.2.2.2.2.2.2.2.2.2.2.1
theorem k0_idx190_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw20 => k0_hw20.2.2.2.2.2.2.2.2.2.2.2.2.1
theorem k0_idx192_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw20 => k0_hw20.2.2.2.2.2.2.2.2.2.2.2.2.2.1
theorem k0_idx194_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw20 => k0_hw20.2.2.2.2.2.2.2.2.2.2.2.2.2.2.1
theorem k0_idx196_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw20 : k0_chk20 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw20 => k0_hw20.2.2.2.2.2.2.2.2.2.2.2.2.2.2.2
def k0_off48 (v9 : BitVec 32) (k0_t16 : Fin (k0_t16_loop v9).trips) (k0_t21 : Fin k0_t21_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t21
  let c32_i32_111 : BitVec 32 := 32#32
  let v148 : BitVec 32 := Scalar.muli arg18 c32_i32_111
  let v149 : BitVec 32 := Scalar.addi v147 v148
  let v225 : Index := Scalar.indexCast v149
  ![v225.toNat]
def k0_off49 (v9 : BitVec 32) (k0_t16 : Fin (k0_t16_loop v9).trips) (k0_t21 : Fin k0_t21_loop.trips) : Fin 1 → Nat :=
  let c0_i32_72 : BitVec 32 := 0#32
  let c1_i32_74 : BitVec 32 := 1#32
  let arg16 : BitVec 32 := Scf.iv c0_i32_72 c1_i32_74 k0_t16
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t21
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]

def k0_chk16 (v9 : BitVec 32) (k0_t16 : Fin (k0_t16_loop v9).trips) (v88 : BitVec 32) : Prop :=
  ((k0_t18_loop v88).OK) ∧
  (∀ k0_t18 : Fin (k0_t18_loop v88).trips, ∀ (r : Fin 16), ∀ a, (k0_off40 v9 k0_t16 v88 k0_t18 (BitVec.ofNat 32 (16 * r.val))) a + S16.size a ≤ S16384.size a) ∧
  (∀ (k0_t18 : Fin (k0_t18_loop v88).trips) (k0_t19 : Fin k0_t19_loop.trips), ∀ a, (k0_off41 v9 k0_t16 k0_t19) a + S16.size a ≤ S8704.size a) ∧
  (∀ (k0_t18 : Fin (k0_t18_loop v88).trips) (k0_t19 : Fin k0_t19_loop.trips), ∀ a, (k0_off42 v9 k0_t16 k0_t19) a + S16.size a ≤ S8704.size a) ∧
  (∀ (k0_t18 : Fin (k0_t18_loop v88).trips) (k0_t19 : Fin k0_t19_loop.trips), ∀ a, (k0_off43 v9 k0_t16 k0_t19) a + S16.size a ≤ S8704.size a) ∧
  (∀ (k0_t18 : Fin (k0_t18_loop v88).trips) (k0_t19 : Fin k0_t19_loop.trips), ∀ a, (k0_off44 v9 k0_t16 k0_t19) a + S16.size a ≤ S8704.size a) ∧
  ((k0_t20_loop v88).OK) ∧
  (∀ k0_t20 : Fin (k0_t20_loop v88).trips, ∀ (r : Fin 16), ∀ a, (k0_off45 v9 k0_t16 v88 k0_t20 (BitVec.ofNat 32 (16 * r.val))) a + S16.size a ≤ S16384.size a) ∧
  (∀ (k0_t20 : Fin (k0_t20_loop v88).trips) (k0_t21 : Fin k0_t21_loop.trips), ∀ a, (k0_off46 v9 k0_t16 k0_t21) a + S16.size a ≤ S8704.size a) ∧
  (∀ (k0_t20 : Fin (k0_t20_loop v88).trips) (k0_t21 : Fin k0_t21_loop.trips), ∀ a, (k0_off47 v9 k0_t16 k0_t21) a + S16.size a ≤ S8704.size a) ∧
  (∀ (k0_t20 : Fin (k0_t20_loop v88).trips) (k0_t21 : Fin k0_t21_loop.trips), ∀ a, (k0_off48 v9 k0_t16 k0_t21) a + S16.size a ≤ S8704.size a) ∧
  (∀ (k0_t20 : Fin (k0_t20_loop v88).trips) (k0_t21 : Fin k0_t21_loop.trips), ∀ a, (k0_off49 v9 k0_t16 k0_t21) a + S16.size a ≤ S8704.size a)
theorem k0_t18_ok : ∀ (v9 : BitVec 32) (k0_t16 : Fin (k0_t16_loop v9).trips) (v88 : BitVec 32) (k0_hw16 : k0_chk16 v9 k0_t16 v88), (k0_t18_loop v88).OK := fun v9 k0_t16 v88 k0_hw16 => k0_hw16.1
theorem k0_off40_inb : ∀ (v9 : BitVec 32) (k0_t16 : Fin (k0_t16_loop v9).trips) (v88 : BitVec 32) (k0_hw16 : k0_chk16 v9 k0_t16 v88) (k0_t18 : Fin (k0_t18_loop v88).trips), ∀ (r : Fin 16), ∀ a, (k0_off40 v9 k0_t16 v88 k0_t18 (BitVec.ofNat 32 (16 * r.val))) a + S16.size a ≤ S16384.size a := fun v9 k0_t16 v88 k0_hw16 k0_t18 r => k0_hw16.2.1 k0_t18 r
theorem k0_off41_inb : ∀ (v9 : BitVec 32) (k0_t16 : Fin (k0_t16_loop v9).trips) (v88 : BitVec 32) (k0_hw16 : k0_chk16 v9 k0_t16 v88) (k0_t18 : Fin (k0_t18_loop v88).trips) (k0_t19 : Fin k0_t19_loop.trips), ∀ a, (k0_off41 v9 k0_t16 k0_t19) a + S16.size a ≤ S8704.size a := fun v9 k0_t16 v88 k0_hw16 k0_t18 k0_t19 => k0_hw16.2.2.1 k0_t18 k0_t19
theorem k0_off42_inb : ∀ (v9 : BitVec 32) (k0_t16 : Fin (k0_t16_loop v9).trips) (v88 : BitVec 32) (k0_hw16 : k0_chk16 v9 k0_t16 v88) (k0_t18 : Fin (k0_t18_loop v88).trips) (k0_t19 : Fin k0_t19_loop.trips), ∀ a, (k0_off42 v9 k0_t16 k0_t19) a + S16.size a ≤ S8704.size a := fun v9 k0_t16 v88 k0_hw16 k0_t18 k0_t19 => k0_hw16.2.2.2.1 k0_t18 k0_t19
theorem k0_off43_inb : ∀ (v9 : BitVec 32) (k0_t16 : Fin (k0_t16_loop v9).trips) (v88 : BitVec 32) (k0_hw16 : k0_chk16 v9 k0_t16 v88) (k0_t18 : Fin (k0_t18_loop v88).trips) (k0_t19 : Fin k0_t19_loop.trips), ∀ a, (k0_off43 v9 k0_t16 k0_t19) a + S16.size a ≤ S8704.size a := fun v9 k0_t16 v88 k0_hw16 k0_t18 k0_t19 => k0_hw16.2.2.2.2.1 k0_t18 k0_t19
theorem k0_off44_inb : ∀ (v9 : BitVec 32) (k0_t16 : Fin (k0_t16_loop v9).trips) (v88 : BitVec 32) (k0_hw16 : k0_chk16 v9 k0_t16 v88) (k0_t18 : Fin (k0_t18_loop v88).trips) (k0_t19 : Fin k0_t19_loop.trips), ∀ a, (k0_off44 v9 k0_t16 k0_t19) a + S16.size a ≤ S8704.size a := fun v9 k0_t16 v88 k0_hw16 k0_t18 k0_t19 => k0_hw16.2.2.2.2.2.1 k0_t18 k0_t19
theorem k0_t20_ok : ∀ (v9 : BitVec 32) (k0_t16 : Fin (k0_t16_loop v9).trips) (v88 : BitVec 32) (k0_hw16 : k0_chk16 v9 k0_t16 v88), (k0_t20_loop v88).OK := fun v9 k0_t16 v88 k0_hw16 => k0_hw16.2.2.2.2.2.2.1
theorem k0_off45_inb : ∀ (v9 : BitVec 32) (k0_t16 : Fin (k0_t16_loop v9).trips) (v88 : BitVec 32) (k0_hw16 : k0_chk16 v9 k0_t16 v88) (k0_t20 : Fin (k0_t20_loop v88).trips), ∀ (r : Fin 16), ∀ a, (k0_off45 v9 k0_t16 v88 k0_t20 (BitVec.ofNat 32 (16 * r.val))) a + S16.size a ≤ S16384.size a := fun v9 k0_t16 v88 k0_hw16 k0_t20 r => k0_hw16.2.2.2.2.2.2.2.1 k0_t20 r
theorem k0_off46_inb : ∀ (v9 : BitVec 32) (k0_t16 : Fin (k0_t16_loop v9).trips) (v88 : BitVec 32) (k0_hw16 : k0_chk16 v9 k0_t16 v88) (k0_t20 : Fin (k0_t20_loop v88).trips) (k0_t21 : Fin k0_t21_loop.trips), ∀ a, (k0_off46 v9 k0_t16 k0_t21) a + S16.size a ≤ S8704.size a := fun v9 k0_t16 v88 k0_hw16 k0_t20 k0_t21 => k0_hw16.2.2.2.2.2.2.2.2.1 k0_t20 k0_t21
theorem k0_off47_inb : ∀ (v9 : BitVec 32) (k0_t16 : Fin (k0_t16_loop v9).trips) (v88 : BitVec 32) (k0_hw16 : k0_chk16 v9 k0_t16 v88) (k0_t20 : Fin (k0_t20_loop v88).trips) (k0_t21 : Fin k0_t21_loop.trips), ∀ a, (k0_off47 v9 k0_t16 k0_t21) a + S16.size a ≤ S8704.size a := fun v9 k0_t16 v88 k0_hw16 k0_t20 k0_t21 => k0_hw16.2.2.2.2.2.2.2.2.2.1 k0_t20 k0_t21
theorem k0_off48_inb : ∀ (v9 : BitVec 32) (k0_t16 : Fin (k0_t16_loop v9).trips) (v88 : BitVec 32) (k0_hw16 : k0_chk16 v9 k0_t16 v88) (k0_t20 : Fin (k0_t20_loop v88).trips) (k0_t21 : Fin k0_t21_loop.trips), ∀ a, (k0_off48 v9 k0_t16 k0_t21) a + S16.size a ≤ S8704.size a := fun v9 k0_t16 v88 k0_hw16 k0_t20 k0_t21 => k0_hw16.2.2.2.2.2.2.2.2.2.2.1 k0_t20 k0_t21
theorem k0_off49_inb : ∀ (v9 : BitVec 32) (k0_t16 : Fin (k0_t16_loop v9).trips) (v88 : BitVec 32) (k0_hw16 : k0_chk16 v9 k0_t16 v88) (k0_t20 : Fin (k0_t20_loop v88).trips) (k0_t21 : Fin k0_t21_loop.trips), ∀ a, (k0_off49 v9 k0_t16 k0_t21) a + S16.size a ≤ S8704.size a := fun v9 k0_t16 v88 k0_hw16 k0_t20 k0_t21 => k0_hw16.2.2.2.2.2.2.2.2.2.2.2 k0_t20 k0_t21

@[reducible] def k0_t22_loop (v9 : BitVec 32) : Scf.Loop 32 :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let v71 : BitVec 32 := Scalar.addi c0_i32_72 v70
  let c1_i32_75 : BitVec 32 := 1#32
  ⟨v74, v71, c1_i32_75⟩
def k0_off50 (v9 : BitVec 32) (k0_t22 : Fin (k0_t22_loop v9).trips) : Fin 1 → Nat :=
  let c32_i32_89 : BitVec 32 := 32#32
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c16_i32 : BitVec 32 := 16#32
  let v83 : BitVec 32 := Scalar.muli arg16 c16_i32
  let v84 : BitVec 32 := Scalar.addi c32_i32_89 v83
  let v85 : Index := Scalar.indexCast v84
  ![v85.toNat]
@[reducible] def k0_t23_loop : Scf.Loop 32 :=
  let c0_i32_91 : BitVec 32 := 0#32
  let c32_i32_92 : BitVec 32 := 32#32
  let v89 : BitVec 32 := Scalar.addi c0_i32_91 c32_i32_92
  let c1_i32_93 : BitVec 32 := 1#32
  ⟨c0_i32_91, v89, c1_i32_93⟩
def k0_off51 (v9 : BitVec 32) (k0_t22 : Fin (k0_t22_loop v9).trips) (k0_t23 : Fin k0_t23_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_100 : BitVec 32 := 512#32
  let v96 : BitVec 32 := Scalar.muli arg16 c512_i32_100
  let c0_i32_91 : BitVec 32 := 0#32
  let c1_i32_93 : BitVec 32 := 1#32
  let arg17 : BitVec 32 := Scf.iv c0_i32_91 c1_i32_93 k0_t23
  let c16_i32_101 : BitVec 32 := 16#32
  let v97 : BitVec 32 := Scalar.muli arg17 c16_i32_101
  let v98 : BitVec 32 := Scalar.addi v96 v97
  let v99 : Index := Scalar.indexCast v98
  ![v99.toNat]

def k0_chk1 (v9 : BitVec 32) : Prop :=
  ((k0_t3_loop v9).OK) ∧
  (∀ k0_t3 : Fin (k0_t3_loop v9).trips, ∀ a, (k0_off6 v9 k0_t3) a + S16.size a ≤ S288.size a) ∧
  (∀ (k0_t3 : Fin (k0_t3_loop v9).trips) (k0_t4 : Fin k0_t4_loop.trips), ∀ a, (k0_off7 v9 k0_t3 k0_t4) a + S16.size a ≤ S8704.size a) ∧
  ((k0_t9_loop v9).OK) ∧
  (∀ k0_t9 : Fin (k0_t9_loop v9).trips, ∀ a, (k0_off18 v9 k0_t9) a + S16.size a ≤ S288.size a) ∧
  (∀ (k0_t9 : Fin (k0_t9_loop v9).trips) (k0_t10 : Fin k0_t10_loop.trips), ∀ a, (k0_off19 v9 k0_t9 k0_t10) a + S16.size a ≤ S8704.size a) ∧
  ((k0_t16_loop v9).OK) ∧
  (∀ k0_t16 : Fin (k0_t16_loop v9).trips, ∀ a, (k0_off38 v9 k0_t16) a + S16.size a ≤ S288.size a) ∧
  (∀ (k0_t16 : Fin (k0_t16_loop v9).trips) (k0_t17 : Fin k0_t17_loop.trips), ∀ a, (k0_off39 v9 k0_t16 k0_t17) a + S16.size a ≤ S8704.size a) ∧
  ((k0_t22_loop v9).OK) ∧
  (∀ k0_t22 : Fin (k0_t22_loop v9).trips, ∀ a, (k0_off50 v9 k0_t22) a + S16.size a ≤ S288.size a) ∧
  (∀ (k0_t22 : Fin (k0_t22_loop v9).trips) (k0_t23 : Fin k0_t23_loop.trips), ∀ a, (k0_off51 v9 k0_t22 k0_t23) a + S16.size a ≤ S8704.size a)
theorem k0_t3_ok : ∀ (v9 : BitVec 32) (k0_hw1 : k0_chk1 v9), (k0_t3_loop v9).OK := fun v9 k0_hw1 => k0_hw1.1
theorem k0_off6_inb : ∀ (v9 : BitVec 32) (k0_hw1 : k0_chk1 v9) (k0_t3 : Fin (k0_t3_loop v9).trips), ∀ a, (k0_off6 v9 k0_t3) a + S16.size a ≤ S288.size a := fun v9 k0_hw1 k0_t3 => k0_hw1.2.1 k0_t3
theorem k0_off7_inb : ∀ (v9 : BitVec 32) (k0_hw1 : k0_chk1 v9) (k0_t3 : Fin (k0_t3_loop v9).trips) (k0_t4 : Fin k0_t4_loop.trips), ∀ a, (k0_off7 v9 k0_t3 k0_t4) a + S16.size a ≤ S8704.size a := fun v9 k0_hw1 k0_t3 k0_t4 => k0_hw1.2.2.1 k0_t3 k0_t4
theorem k0_t9_ok : ∀ (v9 : BitVec 32) (k0_hw1 : k0_chk1 v9), (k0_t9_loop v9).OK := fun v9 k0_hw1 => k0_hw1.2.2.2.1
theorem k0_off18_inb : ∀ (v9 : BitVec 32) (k0_hw1 : k0_chk1 v9) (k0_t9 : Fin (k0_t9_loop v9).trips), ∀ a, (k0_off18 v9 k0_t9) a + S16.size a ≤ S288.size a := fun v9 k0_hw1 k0_t9 => k0_hw1.2.2.2.2.1 k0_t9
theorem k0_off19_inb : ∀ (v9 : BitVec 32) (k0_hw1 : k0_chk1 v9) (k0_t9 : Fin (k0_t9_loop v9).trips) (k0_t10 : Fin k0_t10_loop.trips), ∀ a, (k0_off19 v9 k0_t9 k0_t10) a + S16.size a ≤ S8704.size a := fun v9 k0_hw1 k0_t9 k0_t10 => k0_hw1.2.2.2.2.2.1 k0_t9 k0_t10
theorem k0_t16_ok : ∀ (v9 : BitVec 32) (k0_hw1 : k0_chk1 v9), (k0_t16_loop v9).OK := fun v9 k0_hw1 => k0_hw1.2.2.2.2.2.2.1
theorem k0_off38_inb : ∀ (v9 : BitVec 32) (k0_hw1 : k0_chk1 v9) (k0_t16 : Fin (k0_t16_loop v9).trips), ∀ a, (k0_off38 v9 k0_t16) a + S16.size a ≤ S288.size a := fun v9 k0_hw1 k0_t16 => k0_hw1.2.2.2.2.2.2.2.1 k0_t16
theorem k0_off39_inb : ∀ (v9 : BitVec 32) (k0_hw1 : k0_chk1 v9) (k0_t16 : Fin (k0_t16_loop v9).trips) (k0_t17 : Fin k0_t17_loop.trips), ∀ a, (k0_off39 v9 k0_t16 k0_t17) a + S16.size a ≤ S8704.size a := fun v9 k0_hw1 k0_t16 k0_t17 => k0_hw1.2.2.2.2.2.2.2.2.1 k0_t16 k0_t17
theorem k0_t22_ok : ∀ (v9 : BitVec 32) (k0_hw1 : k0_chk1 v9), (k0_t22_loop v9).OK := fun v9 k0_hw1 => k0_hw1.2.2.2.2.2.2.2.2.2.1
theorem k0_off50_inb : ∀ (v9 : BitVec 32) (k0_hw1 : k0_chk1 v9) (k0_t22 : Fin (k0_t22_loop v9).trips), ∀ a, (k0_off50 v9 k0_t22) a + S16.size a ≤ S288.size a := fun v9 k0_hw1 k0_t22 => k0_hw1.2.2.2.2.2.2.2.2.2.2.1 k0_t22
theorem k0_off51_inb : ∀ (v9 : BitVec 32) (k0_hw1 : k0_chk1 v9) (k0_t22 : Fin (k0_t22_loop v9).trips) (k0_t23 : Fin k0_t23_loop.trips), ∀ a, (k0_off51 v9 k0_t22 k0_t23) a + S16.size a ≤ S8704.size a := fun v9 k0_hw1 k0_t22 k0_t23 => k0_hw1.2.2.2.2.2.2.2.2.2.2.2 k0_t22 k0_t23

@[reducible] def k0_t24_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_98 : BitVec 32 := 1#32
  ⟨c0_i32_96, v94, c1_i32_98⟩

def k0_off52 (v9 : BitVec 32) (k0_t22 : Fin (k0_t22_loop v9).trips) (v88 : BitVec 32) (k0_t24 : Fin (k0_t24_loop v88).trips) (c0_i32_101 : BitVec 32) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c4_i32_100 : BitVec 32 := 4#32
  let v95 : BitVec 32 := Scalar.muli arg16 c4_i32_100
  let c0_i32_96 : BitVec 32 := 0#32
  let c1_i32_98 : BitVec 32 := 1#32
  let arg17 : BitVec 32 := Scf.iv c0_i32_96 c1_i32_98 k0_t24
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t25_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off53 (v9 : BitVec 32) (k0_t22 : Fin (k0_t22_loop v9).trips) (k0_t25 : Fin k0_t25_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t25
  let c32_i32_111 : BitVec 32 := 32#32
  let v148 : BitVec 32 := Scalar.muli arg18 c32_i32_111
  let v149 : BitVec 32 := Scalar.addi v147 v148
  let v150 : Index := Scalar.indexCast v149
  ![v150.toNat]
def k0_off54 (v9 : BitVec 32) (k0_t22 : Fin (k0_t22_loop v9).trips) (k0_t25 : Fin k0_t25_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t25
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk22 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx197_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw22 => k0_hw22.1
theorem k0_idx199_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw22 => k0_hw22.2.1
theorem k0_idx201_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw22 => k0_hw22.2.2.1
theorem k0_idx203_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw22 => k0_hw22.2.2.2.1
theorem k0_idx205_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw22 => k0_hw22.2.2.2.2.1
theorem k0_idx207_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw22 => k0_hw22.2.2.2.2.2.1
theorem k0_idx209_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw22 => k0_hw22.2.2.2.2.2.2.1
theorem k0_idx211_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw22 => k0_hw22.2.2.2.2.2.2.2.1
theorem k0_idx213_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw22 => k0_hw22.2.2.2.2.2.2.2.2.1
theorem k0_idx215_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw22 => k0_hw22.2.2.2.2.2.2.2.2.2.1
theorem k0_idx217_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw22 => k0_hw22.2.2.2.2.2.2.2.2.2.2.1
theorem k0_idx219_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw22 => k0_hw22.2.2.2.2.2.2.2.2.2.2.2.1
theorem k0_idx221_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw22 => k0_hw22.2.2.2.2.2.2.2.2.2.2.2.2.1
theorem k0_idx223_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw22 => k0_hw22.2.2.2.2.2.2.2.2.2.2.2.2.2.1
theorem k0_idx225_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw22 => k0_hw22.2.2.2.2.2.2.2.2.2.2.2.2.2.2.1
theorem k0_idx227_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw22 : k0_chk22 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw22 => k0_hw22.2.2.2.2.2.2.2.2.2.2.2.2.2.2.2

def k0_chk23 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx198_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw23 => k0_hw23.1
theorem k0_idx200_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw23 => k0_hw23.2.1
theorem k0_idx202_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw23 => k0_hw23.2.2.1
theorem k0_idx204_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw23 => k0_hw23.2.2.2.1
theorem k0_idx206_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw23 => k0_hw23.2.2.2.2.1
theorem k0_idx208_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw23 => k0_hw23.2.2.2.2.2.1
theorem k0_idx210_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw23 => k0_hw23.2.2.2.2.2.2.1
theorem k0_idx212_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw23 => k0_hw23.2.2.2.2.2.2.2.1
theorem k0_idx214_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw23 => k0_hw23.2.2.2.2.2.2.2.2.1
theorem k0_idx216_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw23 => k0_hw23.2.2.2.2.2.2.2.2.2.1
theorem k0_idx218_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw23 => k0_hw23.2.2.2.2.2.2.2.2.2.2.1
theorem k0_idx220_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw23 => k0_hw23.2.2.2.2.2.2.2.2.2.2.2.1
theorem k0_idx222_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw23 => k0_hw23.2.2.2.2.2.2.2.2.2.2.2.2.1
theorem k0_idx224_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw23 => k0_hw23.2.2.2.2.2.2.2.2.2.2.2.2.2.1
theorem k0_idx226_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw23 => k0_hw23.2.2.2.2.2.2.2.2.2.2.2.2.2.2.1
theorem k0_idx228_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw23 : k0_chk23 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw23 => k0_hw23.2.2.2.2.2.2.2.2.2.2.2.2.2.2.2
def k0_off55 (v9 : BitVec 32) (k0_t22 : Fin (k0_t22_loop v9).trips) (k0_t25 : Fin k0_t25_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t25
  let c32_i32_111 : BitVec 32 := 32#32
  let v148 : BitVec 32 := Scalar.muli arg18 c32_i32_111
  let v149 : BitVec 32 := Scalar.addi v147 v148
  let v225 : Index := Scalar.indexCast v149
  ![v225.toNat]
def k0_off56 (v9 : BitVec 32) (k0_t22 : Fin (k0_t22_loop v9).trips) (k0_t25 : Fin k0_t25_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t25
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]
@[reducible] def k0_t26_loop (v88 : BitVec 32) : Scf.Loop 32 :=
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let v91 : BitVec 32 := Scalar.addi c0_i32_96 v90
  let c1_i32_99 : BitVec 32 := 1#32
  ⟨v94, v91, c1_i32_99⟩
def k0_off57 (v9 : BitVec 32) (k0_t22 : Fin (k0_t22_loop v9).trips) (v88 : BitVec 32) (k0_t26 : Fin (k0_t26_loop v88).trips) (c0_i32_101 : BitVec 32) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c4_i32_100 : BitVec 32 := 4#32
  let v95 : BitVec 32 := Scalar.muli arg16 c4_i32_100
  let c0_i32_96 : BitVec 32 := 0#32
  let v90 : BitVec 32 := Scalar.subi v88 c0_i32_96
  let c1_i32_97 : BitVec 32 := 1#32
  let v92 : BitVec 32 := Scalar.divsi v90 c1_i32_97
  let v93 : BitVec 32 := Scalar.muli v92 c1_i32_97
  let v94 : BitVec 32 := Scalar.addi c0_i32_96 v93
  let c1_i32_99 : BitVec 32 := 1#32
  let arg17 : BitVec 32 := Scf.iv v94 c1_i32_99 k0_t26
  let v96 : BitVec 32 := Scalar.addi v95 arg17
  let c256_i32 : BitVec 32 := 256#32
  let v97 : BitVec 32 := Scalar.muli v96 c256_i32
  let v98 : BitVec 32 := Scalar.addi v97 c0_i32_101
  let v99 : Index := Scalar.indexCast v98
  ![v99.toNat]
@[reducible] def k0_t27_loop : Scf.Loop 32 :=
  let c0_i32_106 : BitVec 32 := 0#32
  let c16_i32_107 : BitVec 32 := 16#32
  let v146 : BitVec 32 := Scalar.addi c0_i32_106 c16_i32_107
  let c1_i32_108 : BitVec 32 := 1#32
  ⟨c0_i32_106, v146, c1_i32_108⟩
def k0_off58 (v9 : BitVec 32) (k0_t22 : Fin (k0_t22_loop v9).trips) (k0_t27 : Fin k0_t27_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t27
  let c32_i32_111 : BitVec 32 := 32#32
  let v148 : BitVec 32 := Scalar.muli arg18 c32_i32_111
  let v149 : BitVec 32 := Scalar.addi v147 v148
  let v150 : Index := Scalar.indexCast v149
  ![v150.toNat]
def k0_off59 (v9 : BitVec 32) (k0_t22 : Fin (k0_t22_loop v9).trips) (k0_t27 : Fin k0_t27_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t27
  let c32_i32_111 : BitVec 32 := 32#32
  let v148 : BitVec 32 := Scalar.muli arg18 c32_i32_111
  let v149 : BitVec 32 := Scalar.addi v147 v148
  let c16_i32_112 : BitVec 32 := 16#32
  let v152 : BitVec 32 := Scalar.addi v149 c16_i32_112
  let v153 : Index := Scalar.indexCast v152
  ![v153.toNat]

def k0_chk24 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) : Prop :=
  (∀ a x, ((![v158, v100] : Fin 2 → IVec S16 32) a x).toNat < S1024x64.size a) ∧
  (∀ a x, ((![v158, v103] : Fin 2 → IVec S16 32) a x).toNat < S1024x64.size a) ∧
  (∀ a x, ((![v158, v106] : Fin 2 → IVec S16 32) a x).toNat < S1024x64.size a) ∧
  (∀ a x, ((![v158, v109] : Fin 2 → IVec S16 32) a x).toNat < S1024x64.size a) ∧
  (∀ a x, ((![v158, v112] : Fin 2 → IVec S16 32) a x).toNat < S1024x64.size a) ∧
  (∀ a x, ((![v158, v115] : Fin 2 → IVec S16 32) a x).toNat < S1024x64.size a) ∧
  (∀ a x, ((![v158, v118] : Fin 2 → IVec S16 32) a x).toNat < S1024x64.size a) ∧
  (∀ a x, ((![v158, v121] : Fin 2 → IVec S16 32) a x).toNat < S1024x64.size a) ∧
  (∀ a x, ((![v158, v124] : Fin 2 → IVec S16 32) a x).toNat < S1024x64.size a) ∧
  (∀ a x, ((![v158, v127] : Fin 2 → IVec S16 32) a x).toNat < S1024x64.size a) ∧
  (∀ a x, ((![v158, v130] : Fin 2 → IVec S16 32) a x).toNat < S1024x64.size a) ∧
  (∀ a x, ((![v158, v133] : Fin 2 → IVec S16 32) a x).toNat < S1024x64.size a) ∧
  (∀ a x, ((![v158, v136] : Fin 2 → IVec S16 32) a x).toNat < S1024x64.size a) ∧
  (∀ a x, ((![v158, v139] : Fin 2 → IVec S16 32) a x).toNat < S1024x64.size a) ∧
  (∀ a x, ((![v158, v142] : Fin 2 → IVec S16 32) a x).toNat < S1024x64.size a) ∧
  (∀ a x, ((![v158, v145] : Fin 2 → IVec S16 32) a x).toNat < S1024x64.size a)
theorem k0_idx229_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v100] : Fin 2 → IVec S16 32) a x).toNat < S1024x64.size a := fun v100 v103 v106 v109 v112 v115 v118 v121 v124 v127 v130 v133 v136 v139 v142 v145 v158 k0_hw24 => k0_hw24.1
theorem k0_idx231_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v103] : Fin 2 → IVec S16 32) a x).toNat < S1024x64.size a := fun v100 v103 v106 v109 v112 v115 v118 v121 v124 v127 v130 v133 v136 v139 v142 v145 v158 k0_hw24 => k0_hw24.2.1
theorem k0_idx233_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v106] : Fin 2 → IVec S16 32) a x).toNat < S1024x64.size a := fun v100 v103 v106 v109 v112 v115 v118 v121 v124 v127 v130 v133 v136 v139 v142 v145 v158 k0_hw24 => k0_hw24.2.2.1
theorem k0_idx235_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v109] : Fin 2 → IVec S16 32) a x).toNat < S1024x64.size a := fun v100 v103 v106 v109 v112 v115 v118 v121 v124 v127 v130 v133 v136 v139 v142 v145 v158 k0_hw24 => k0_hw24.2.2.2.1
theorem k0_idx237_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v112] : Fin 2 → IVec S16 32) a x).toNat < S1024x64.size a := fun v100 v103 v106 v109 v112 v115 v118 v121 v124 v127 v130 v133 v136 v139 v142 v145 v158 k0_hw24 => k0_hw24.2.2.2.2.1
theorem k0_idx239_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v115] : Fin 2 → IVec S16 32) a x).toNat < S1024x64.size a := fun v100 v103 v106 v109 v112 v115 v118 v121 v124 v127 v130 v133 v136 v139 v142 v145 v158 k0_hw24 => k0_hw24.2.2.2.2.2.1
theorem k0_idx241_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v118] : Fin 2 → IVec S16 32) a x).toNat < S1024x64.size a := fun v100 v103 v106 v109 v112 v115 v118 v121 v124 v127 v130 v133 v136 v139 v142 v145 v158 k0_hw24 => k0_hw24.2.2.2.2.2.2.1
theorem k0_idx243_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v121] : Fin 2 → IVec S16 32) a x).toNat < S1024x64.size a := fun v100 v103 v106 v109 v112 v115 v118 v121 v124 v127 v130 v133 v136 v139 v142 v145 v158 k0_hw24 => k0_hw24.2.2.2.2.2.2.2.1
theorem k0_idx245_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v124] : Fin 2 → IVec S16 32) a x).toNat < S1024x64.size a := fun v100 v103 v106 v109 v112 v115 v118 v121 v124 v127 v130 v133 v136 v139 v142 v145 v158 k0_hw24 => k0_hw24.2.2.2.2.2.2.2.2.1
theorem k0_idx247_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v127] : Fin 2 → IVec S16 32) a x).toNat < S1024x64.size a := fun v100 v103 v106 v109 v112 v115 v118 v121 v124 v127 v130 v133 v136 v139 v142 v145 v158 k0_hw24 => k0_hw24.2.2.2.2.2.2.2.2.2.1
theorem k0_idx249_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v130] : Fin 2 → IVec S16 32) a x).toNat < S1024x64.size a := fun v100 v103 v106 v109 v112 v115 v118 v121 v124 v127 v130 v133 v136 v139 v142 v145 v158 k0_hw24 => k0_hw24.2.2.2.2.2.2.2.2.2.2.1
theorem k0_idx251_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v133] : Fin 2 → IVec S16 32) a x).toNat < S1024x64.size a := fun v100 v103 v106 v109 v112 v115 v118 v121 v124 v127 v130 v133 v136 v139 v142 v145 v158 k0_hw24 => k0_hw24.2.2.2.2.2.2.2.2.2.2.2.1
theorem k0_idx253_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v136] : Fin 2 → IVec S16 32) a x).toNat < S1024x64.size a := fun v100 v103 v106 v109 v112 v115 v118 v121 v124 v127 v130 v133 v136 v139 v142 v145 v158 k0_hw24 => k0_hw24.2.2.2.2.2.2.2.2.2.2.2.2.1
theorem k0_idx255_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v139] : Fin 2 → IVec S16 32) a x).toNat < S1024x64.size a := fun v100 v103 v106 v109 v112 v115 v118 v121 v124 v127 v130 v133 v136 v139 v142 v145 v158 k0_hw24 => k0_hw24.2.2.2.2.2.2.2.2.2.2.2.2.2.1
theorem k0_idx257_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v142] : Fin 2 → IVec S16 32) a x).toNat < S1024x64.size a := fun v100 v103 v106 v109 v112 v115 v118 v121 v124 v127 v130 v133 v136 v139 v142 v145 v158 k0_hw24 => k0_hw24.2.2.2.2.2.2.2.2.2.2.2.2.2.2.1
theorem k0_idx259_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v158 : IVec S16 32) (k0_hw24 : k0_chk24 v100 v103 v106 v109 v112 v115 v118 v121 v124 v127 v130 v133 v136 v139 v142 v145 v158), ∀ a x, ((![v158, v145] : Fin 2 → IVec S16 32) a x).toNat < S1024x64.size a := fun v100 v103 v106 v109 v112 v115 v118 v121 v124 v127 v130 v133 v136 v139 v142 v145 v158 k0_hw24 => k0_hw24.2.2.2.2.2.2.2.2.2.2.2.2.2.2.2

def k0_chk25 (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) : Prop :=
  (∀ a x, ((![v160, v100] : Fin 2 → IVec S16 32) a x).toNat < S1024x64.size a) ∧
  (∀ a x, ((![v160, v103] : Fin 2 → IVec S16 32) a x).toNat < S1024x64.size a) ∧
  (∀ a x, ((![v160, v106] : Fin 2 → IVec S16 32) a x).toNat < S1024x64.size a) ∧
  (∀ a x, ((![v160, v109] : Fin 2 → IVec S16 32) a x).toNat < S1024x64.size a) ∧
  (∀ a x, ((![v160, v112] : Fin 2 → IVec S16 32) a x).toNat < S1024x64.size a) ∧
  (∀ a x, ((![v160, v115] : Fin 2 → IVec S16 32) a x).toNat < S1024x64.size a) ∧
  (∀ a x, ((![v160, v118] : Fin 2 → IVec S16 32) a x).toNat < S1024x64.size a) ∧
  (∀ a x, ((![v160, v121] : Fin 2 → IVec S16 32) a x).toNat < S1024x64.size a) ∧
  (∀ a x, ((![v160, v124] : Fin 2 → IVec S16 32) a x).toNat < S1024x64.size a) ∧
  (∀ a x, ((![v160, v127] : Fin 2 → IVec S16 32) a x).toNat < S1024x64.size a) ∧
  (∀ a x, ((![v160, v130] : Fin 2 → IVec S16 32) a x).toNat < S1024x64.size a) ∧
  (∀ a x, ((![v160, v133] : Fin 2 → IVec S16 32) a x).toNat < S1024x64.size a) ∧
  (∀ a x, ((![v160, v136] : Fin 2 → IVec S16 32) a x).toNat < S1024x64.size a) ∧
  (∀ a x, ((![v160, v139] : Fin 2 → IVec S16 32) a x).toNat < S1024x64.size a) ∧
  (∀ a x, ((![v160, v142] : Fin 2 → IVec S16 32) a x).toNat < S1024x64.size a) ∧
  (∀ a x, ((![v160, v145] : Fin 2 → IVec S16 32) a x).toNat < S1024x64.size a)
theorem k0_idx230_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v100] : Fin 2 → IVec S16 32) a x).toNat < S1024x64.size a := fun v100 v103 v106 v109 v112 v115 v118 v121 v124 v127 v130 v133 v136 v139 v142 v145 v160 k0_hw25 => k0_hw25.1
theorem k0_idx232_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v103] : Fin 2 → IVec S16 32) a x).toNat < S1024x64.size a := fun v100 v103 v106 v109 v112 v115 v118 v121 v124 v127 v130 v133 v136 v139 v142 v145 v160 k0_hw25 => k0_hw25.2.1
theorem k0_idx234_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v106] : Fin 2 → IVec S16 32) a x).toNat < S1024x64.size a := fun v100 v103 v106 v109 v112 v115 v118 v121 v124 v127 v130 v133 v136 v139 v142 v145 v160 k0_hw25 => k0_hw25.2.2.1
theorem k0_idx236_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v109] : Fin 2 → IVec S16 32) a x).toNat < S1024x64.size a := fun v100 v103 v106 v109 v112 v115 v118 v121 v124 v127 v130 v133 v136 v139 v142 v145 v160 k0_hw25 => k0_hw25.2.2.2.1
theorem k0_idx238_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v112] : Fin 2 → IVec S16 32) a x).toNat < S1024x64.size a := fun v100 v103 v106 v109 v112 v115 v118 v121 v124 v127 v130 v133 v136 v139 v142 v145 v160 k0_hw25 => k0_hw25.2.2.2.2.1
theorem k0_idx240_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v115] : Fin 2 → IVec S16 32) a x).toNat < S1024x64.size a := fun v100 v103 v106 v109 v112 v115 v118 v121 v124 v127 v130 v133 v136 v139 v142 v145 v160 k0_hw25 => k0_hw25.2.2.2.2.2.1
theorem k0_idx242_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v118] : Fin 2 → IVec S16 32) a x).toNat < S1024x64.size a := fun v100 v103 v106 v109 v112 v115 v118 v121 v124 v127 v130 v133 v136 v139 v142 v145 v160 k0_hw25 => k0_hw25.2.2.2.2.2.2.1
theorem k0_idx244_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v121] : Fin 2 → IVec S16 32) a x).toNat < S1024x64.size a := fun v100 v103 v106 v109 v112 v115 v118 v121 v124 v127 v130 v133 v136 v139 v142 v145 v160 k0_hw25 => k0_hw25.2.2.2.2.2.2.2.1
theorem k0_idx246_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v124] : Fin 2 → IVec S16 32) a x).toNat < S1024x64.size a := fun v100 v103 v106 v109 v112 v115 v118 v121 v124 v127 v130 v133 v136 v139 v142 v145 v160 k0_hw25 => k0_hw25.2.2.2.2.2.2.2.2.1
theorem k0_idx248_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v127] : Fin 2 → IVec S16 32) a x).toNat < S1024x64.size a := fun v100 v103 v106 v109 v112 v115 v118 v121 v124 v127 v130 v133 v136 v139 v142 v145 v160 k0_hw25 => k0_hw25.2.2.2.2.2.2.2.2.2.1
theorem k0_idx250_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v130] : Fin 2 → IVec S16 32) a x).toNat < S1024x64.size a := fun v100 v103 v106 v109 v112 v115 v118 v121 v124 v127 v130 v133 v136 v139 v142 v145 v160 k0_hw25 => k0_hw25.2.2.2.2.2.2.2.2.2.2.1
theorem k0_idx252_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v133] : Fin 2 → IVec S16 32) a x).toNat < S1024x64.size a := fun v100 v103 v106 v109 v112 v115 v118 v121 v124 v127 v130 v133 v136 v139 v142 v145 v160 k0_hw25 => k0_hw25.2.2.2.2.2.2.2.2.2.2.2.1
theorem k0_idx254_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v136] : Fin 2 → IVec S16 32) a x).toNat < S1024x64.size a := fun v100 v103 v106 v109 v112 v115 v118 v121 v124 v127 v130 v133 v136 v139 v142 v145 v160 k0_hw25 => k0_hw25.2.2.2.2.2.2.2.2.2.2.2.2.1
theorem k0_idx256_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v139] : Fin 2 → IVec S16 32) a x).toNat < S1024x64.size a := fun v100 v103 v106 v109 v112 v115 v118 v121 v124 v127 v130 v133 v136 v139 v142 v145 v160 k0_hw25 => k0_hw25.2.2.2.2.2.2.2.2.2.2.2.2.2.1
theorem k0_idx258_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v142] : Fin 2 → IVec S16 32) a x).toNat < S1024x64.size a := fun v100 v103 v106 v109 v112 v115 v118 v121 v124 v127 v130 v133 v136 v139 v142 v145 v160 k0_hw25 => k0_hw25.2.2.2.2.2.2.2.2.2.2.2.2.2.2.1
theorem k0_idx260_inb : ∀ (v100 : IVec S16 32) (v103 : IVec S16 32) (v106 : IVec S16 32) (v109 : IVec S16 32) (v112 : IVec S16 32) (v115 : IVec S16 32) (v118 : IVec S16 32) (v121 : IVec S16 32) (v124 : IVec S16 32) (v127 : IVec S16 32) (v130 : IVec S16 32) (v133 : IVec S16 32) (v136 : IVec S16 32) (v139 : IVec S16 32) (v142 : IVec S16 32) (v145 : IVec S16 32) (v160 : IVec S16 32) (k0_hw25 : k0_chk25 v100 v103 v106 v109 v112 v115 v118 v121 v124 v127 v130 v133 v136 v139 v142 v145 v160), ∀ a x, ((![v160, v145] : Fin 2 → IVec S16 32) a x).toNat < S1024x64.size a := fun v100 v103 v106 v109 v112 v115 v118 v121 v124 v127 v130 v133 v136 v139 v142 v145 v160 k0_hw25 => k0_hw25.2.2.2.2.2.2.2.2.2.2.2.2.2.2.2
def k0_off60 (v9 : BitVec 32) (k0_t22 : Fin (k0_t22_loop v9).trips) (k0_t27 : Fin k0_t27_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t27
  let c32_i32_111 : BitVec 32 := 32#32
  let v148 : BitVec 32 := Scalar.muli arg18 c32_i32_111
  let v149 : BitVec 32 := Scalar.addi v147 v148
  let v225 : Index := Scalar.indexCast v149
  ![v225.toNat]
def k0_off61 (v9 : BitVec 32) (k0_t22 : Fin (k0_t22_loop v9).trips) (k0_t27 : Fin k0_t27_loop.trips) : Fin 1 → Nat :=
  let c0_i32_72 : BitVec 32 := 0#32
  let v70 : BitVec 32 := Scalar.subi v9 c0_i32_72
  let c1_i32_73 : BitVec 32 := 1#32
  let v72 : BitVec 32 := Scalar.divsi v70 c1_i32_73
  let v73 : BitVec 32 := Scalar.muli v72 c1_i32_73
  let v74 : BitVec 32 := Scalar.addi c0_i32_72 v73
  let c1_i32_75 : BitVec 32 := 1#32
  let arg16 : BitVec 32 := Scf.iv v74 c1_i32_75 k0_t22
  let c512_i32_110 : BitVec 32 := 512#32
  let v147 : BitVec 32 := Scalar.muli arg16 c512_i32_110
  let c0_i32_106 : BitVec 32 := 0#32
  let c1_i32_108 : BitVec 32 := 1#32
  let arg18 : BitVec 32 := Scf.iv c0_i32_106 c1_i32_108 k0_t27
  let c32_i32_111 : BitVec 32 := 32#32
  let v148 : BitVec 32 := Scalar.muli arg18 c32_i32_111
  let v149 : BitVec 32 := Scalar.addi v147 v148
  let c16_i32_116 : BitVec 32 := 16#32
  let v227 : BitVec 32 := Scalar.addi v149 c16_i32_116
  let v228 : Index := Scalar.indexCast v227
  ![v228.toNat]

def k0_chk21 (v9 : BitVec 32) (k0_t22 : Fin (k0_t22_loop v9).trips) (v88 : BitVec 32) : Prop :=
  ((k0_t24_loop v88).OK) ∧
  (∀ k0_t24 : Fin (k0_t24_loop v88).trips, ∀ (r : Fin 16), ∀ a, (k0_off52 v9 k0_t22 v88 k0_t24 (BitVec.ofNat 32 (16 * r.val))) a + S16.size a ≤ S16384.size a) ∧
  (∀ (k0_t24 : Fin (k0_t24_loop v88).trips) (k0_t25 : Fin k0_t25_loop.trips), ∀ a, (k0_off53 v9 k0_t22 k0_t25) a + S16.size a ≤ S8704.size a) ∧
  (∀ (k0_t24 : Fin (k0_t24_loop v88).trips) (k0_t25 : Fin k0_t25_loop.trips), ∀ a, (k0_off54 v9 k0_t22 k0_t25) a + S16.size a ≤ S8704.size a) ∧
  (∀ (k0_t24 : Fin (k0_t24_loop v88).trips) (k0_t25 : Fin k0_t25_loop.trips), ∀ a, (k0_off55 v9 k0_t22 k0_t25) a + S16.size a ≤ S8704.size a) ∧
  (∀ (k0_t24 : Fin (k0_t24_loop v88).trips) (k0_t25 : Fin k0_t25_loop.trips), ∀ a, (k0_off56 v9 k0_t22 k0_t25) a + S16.size a ≤ S8704.size a) ∧
  ((k0_t26_loop v88).OK) ∧
  (∀ k0_t26 : Fin (k0_t26_loop v88).trips, ∀ (r : Fin 16), ∀ a, (k0_off57 v9 k0_t22 v88 k0_t26 (BitVec.ofNat 32 (16 * r.val))) a + S16.size a ≤ S16384.size a) ∧
  (∀ (k0_t26 : Fin (k0_t26_loop v88).trips) (k0_t27 : Fin k0_t27_loop.trips), ∀ a, (k0_off58 v9 k0_t22 k0_t27) a + S16.size a ≤ S8704.size a) ∧
  (∀ (k0_t26 : Fin (k0_t26_loop v88).trips) (k0_t27 : Fin k0_t27_loop.trips), ∀ a, (k0_off59 v9 k0_t22 k0_t27) a + S16.size a ≤ S8704.size a) ∧
  (∀ (k0_t26 : Fin (k0_t26_loop v88).trips) (k0_t27 : Fin k0_t27_loop.trips), ∀ a, (k0_off60 v9 k0_t22 k0_t27) a + S16.size a ≤ S8704.size a) ∧
  (∀ (k0_t26 : Fin (k0_t26_loop v88).trips) (k0_t27 : Fin k0_t27_loop.trips), ∀ a, (k0_off61 v9 k0_t22 k0_t27) a + S16.size a ≤ S8704.size a)
theorem k0_t24_ok : ∀ (v9 : BitVec 32) (k0_t22 : Fin (k0_t22_loop v9).trips) (v88 : BitVec 32) (k0_hw21 : k0_chk21 v9 k0_t22 v88), (k0_t24_loop v88).OK := fun v9 k0_t22 v88 k0_hw21 => k0_hw21.1
theorem k0_off52_inb : ∀ (v9 : BitVec 32) (k0_t22 : Fin (k0_t22_loop v9).trips) (v88 : BitVec 32) (k0_hw21 : k0_chk21 v9 k0_t22 v88) (k0_t24 : Fin (k0_t24_loop v88).trips), ∀ (r : Fin 16), ∀ a, (k0_off52 v9 k0_t22 v88 k0_t24 (BitVec.ofNat 32 (16 * r.val))) a + S16.size a ≤ S16384.size a := fun v9 k0_t22 v88 k0_hw21 k0_t24 r => k0_hw21.2.1 k0_t24 r
theorem k0_off53_inb : ∀ (v9 : BitVec 32) (k0_t22 : Fin (k0_t22_loop v9).trips) (v88 : BitVec 32) (k0_hw21 : k0_chk21 v9 k0_t22 v88) (k0_t24 : Fin (k0_t24_loop v88).trips) (k0_t25 : Fin k0_t25_loop.trips), ∀ a, (k0_off53 v9 k0_t22 k0_t25) a + S16.size a ≤ S8704.size a := fun v9 k0_t22 v88 k0_hw21 k0_t24 k0_t25 => k0_hw21.2.2.1 k0_t24 k0_t25
theorem k0_off54_inb : ∀ (v9 : BitVec 32) (k0_t22 : Fin (k0_t22_loop v9).trips) (v88 : BitVec 32) (k0_hw21 : k0_chk21 v9 k0_t22 v88) (k0_t24 : Fin (k0_t24_loop v88).trips) (k0_t25 : Fin k0_t25_loop.trips), ∀ a, (k0_off54 v9 k0_t22 k0_t25) a + S16.size a ≤ S8704.size a := fun v9 k0_t22 v88 k0_hw21 k0_t24 k0_t25 => k0_hw21.2.2.2.1 k0_t24 k0_t25
theorem k0_off55_inb : ∀ (v9 : BitVec 32) (k0_t22 : Fin (k0_t22_loop v9).trips) (v88 : BitVec 32) (k0_hw21 : k0_chk21 v9 k0_t22 v88) (k0_t24 : Fin (k0_t24_loop v88).trips) (k0_t25 : Fin k0_t25_loop.trips), ∀ a, (k0_off55 v9 k0_t22 k0_t25) a + S16.size a ≤ S8704.size a := fun v9 k0_t22 v88 k0_hw21 k0_t24 k0_t25 => k0_hw21.2.2.2.2.1 k0_t24 k0_t25
theorem k0_off56_inb : ∀ (v9 : BitVec 32) (k0_t22 : Fin (k0_t22_loop v9).trips) (v88 : BitVec 32) (k0_hw21 : k0_chk21 v9 k0_t22 v88) (k0_t24 : Fin (k0_t24_loop v88).trips) (k0_t25 : Fin k0_t25_loop.trips), ∀ a, (k0_off56 v9 k0_t22 k0_t25) a + S16.size a ≤ S8704.size a := fun v9 k0_t22 v88 k0_hw21 k0_t24 k0_t25 => k0_hw21.2.2.2.2.2.1 k0_t24 k0_t25
theorem k0_t26_ok : ∀ (v9 : BitVec 32) (k0_t22 : Fin (k0_t22_loop v9).trips) (v88 : BitVec 32) (k0_hw21 : k0_chk21 v9 k0_t22 v88), (k0_t26_loop v88).OK := fun v9 k0_t22 v88 k0_hw21 => k0_hw21.2.2.2.2.2.2.1
theorem k0_off57_inb : ∀ (v9 : BitVec 32) (k0_t22 : Fin (k0_t22_loop v9).trips) (v88 : BitVec 32) (k0_hw21 : k0_chk21 v9 k0_t22 v88) (k0_t26 : Fin (k0_t26_loop v88).trips), ∀ (r : Fin 16), ∀ a, (k0_off57 v9 k0_t22 v88 k0_t26 (BitVec.ofNat 32 (16 * r.val))) a + S16.size a ≤ S16384.size a := fun v9 k0_t22 v88 k0_hw21 k0_t26 r => k0_hw21.2.2.2.2.2.2.2.1 k0_t26 r
theorem k0_off58_inb : ∀ (v9 : BitVec 32) (k0_t22 : Fin (k0_t22_loop v9).trips) (v88 : BitVec 32) (k0_hw21 : k0_chk21 v9 k0_t22 v88) (k0_t26 : Fin (k0_t26_loop v88).trips) (k0_t27 : Fin k0_t27_loop.trips), ∀ a, (k0_off58 v9 k0_t22 k0_t27) a + S16.size a ≤ S8704.size a := fun v9 k0_t22 v88 k0_hw21 k0_t26 k0_t27 => k0_hw21.2.2.2.2.2.2.2.2.1 k0_t26 k0_t27
theorem k0_off59_inb : ∀ (v9 : BitVec 32) (k0_t22 : Fin (k0_t22_loop v9).trips) (v88 : BitVec 32) (k0_hw21 : k0_chk21 v9 k0_t22 v88) (k0_t26 : Fin (k0_t26_loop v88).trips) (k0_t27 : Fin k0_t27_loop.trips), ∀ a, (k0_off59 v9 k0_t22 k0_t27) a + S16.size a ≤ S8704.size a := fun v9 k0_t22 v88 k0_hw21 k0_t26 k0_t27 => k0_hw21.2.2.2.2.2.2.2.2.2.1 k0_t26 k0_t27
theorem k0_off60_inb : ∀ (v9 : BitVec 32) (k0_t22 : Fin (k0_t22_loop v9).trips) (v88 : BitVec 32) (k0_hw21 : k0_chk21 v9 k0_t22 v88) (k0_t26 : Fin (k0_t26_loop v88).trips) (k0_t27 : Fin k0_t27_loop.trips), ∀ a, (k0_off60 v9 k0_t22 k0_t27) a + S16.size a ≤ S8704.size a := fun v9 k0_t22 v88 k0_hw21 k0_t26 k0_t27 => k0_hw21.2.2.2.2.2.2.2.2.2.2.1 k0_t26 k0_t27
theorem k0_off61_inb : ∀ (v9 : BitVec 32) (k0_t22 : Fin (k0_t22_loop v9).trips) (v88 : BitVec 32) (k0_hw21 : k0_chk21 v9 k0_t22 v88) (k0_t26 : Fin (k0_t26_loop v88).trips) (k0_t27 : Fin k0_t27_loop.trips), ∀ a, (k0_off61 v9 k0_t22 k0_t27) a + S16.size a ≤ S8704.size a := fun v9 k0_t22 v88 k0_hw21 k0_t26 k0_t27 => k0_hw21.2.2.2.2.2.2.2.2.2.2.2 k0_t26 k0_t27

@[reducible] def k0_t28_loop : Scf.Loop 32 :=
  let c0_i32_77 : BitVec 32 := 0#32
  let c128_i32_78 : BitVec 32 := 128#32
  let v75 : BitVec 32 := Scalar.addi c0_i32_77 c128_i32_78
  let c1_i32_79 : BitVec 32 := 1#32
  ⟨c0_i32_77, v75, c1_i32_79⟩

def k0_chk26 (v86 : IVec S16 32) : Prop :=
  (∀ a x, ((![v86] : Fin 1 → IVec S16 32) a x).toNat < S8704.size a)
theorem k0_idx261_inb : ∀ (v86 : IVec S16 32) (k0_hw26 : k0_chk26 v86), ∀ a x, ((![v86] : Fin 1 → IVec S16 32) a x).toNat < S8704.size a := fun v86 k0_hw26 => k0_hw26
def k0_off62 (k0_t28 : Fin k0_t28_loop.trips) : Fin 2 → Nat :=
  let c512_i32_91 : BitVec 32 := 512#32
  let c0_i32_77 : BitVec 32 := 0#32
  let c1_i32_79 : BitVec 32 := 1#32
  let arg16 : BitVec 32 := Scf.iv c0_i32_77 c1_i32_79 k0_t28
  let c4_i32_89 : BitVec 32 := 4#32
  let v83 : BitVec 32 := Scalar.muli arg16 c4_i32_89
  let c0_i32_90 : BitVec 32 := 0#32
  let v84 : BitVec 32 := Scalar.addi v83 c0_i32_90
  let v88 : BitVec 32 := Scalar.addi c512_i32_91 v84
  let v89 : Index := Scalar.indexCast v88
  let c0_92 : Index := 0#32
  ![v89.toNat, 0]

def k0_chk27 (v94 : IVec S16 32) : Prop :=
  (∀ a x, ((![v94] : Fin 1 → IVec S16 32) a x).toNat < S8704.size a)
theorem k0_idx262_inb : ∀ (v94 : IVec S16 32) (k0_hw27 : k0_chk27 v94), ∀ a x, ((![v94] : Fin 1 → IVec S16 32) a x).toNat < S8704.size a := fun v94 k0_hw27 => k0_hw27
def k0_off63 (k0_t28 : Fin k0_t28_loop.trips) : Fin 2 → Nat :=
  let c512_i32_95 : BitVec 32 := 512#32
  let c0_i32_77 : BitVec 32 := 0#32
  let c1_i32_79 : BitVec 32 := 1#32
  let arg16 : BitVec 32 := Scf.iv c0_i32_77 c1_i32_79 k0_t28
  let c4_i32_93 : BitVec 32 := 4#32
  let v91 : BitVec 32 := Scalar.muli arg16 c4_i32_93
  let c1_i32_94 : BitVec 32 := 1#32
  let v92 : BitVec 32 := Scalar.addi v91 c1_i32_94
  let v96 : BitVec 32 := Scalar.addi c512_i32_95 v92
  let v97 : Index := Scalar.indexCast v96
  let c0_96 : Index := 0#32
  ![v97.toNat, 0]

def k0_chk28 (v102 : IVec S16 32) : Prop :=
  (∀ a x, ((![v102] : Fin 1 → IVec S16 32) a x).toNat < S8704.size a)
theorem k0_idx263_inb : ∀ (v102 : IVec S16 32) (k0_hw28 : k0_chk28 v102), ∀ a x, ((![v102] : Fin 1 → IVec S16 32) a x).toNat < S8704.size a := fun v102 k0_hw28 => k0_hw28
def k0_off64 (k0_t28 : Fin k0_t28_loop.trips) : Fin 2 → Nat :=
  let c512_i32_99 : BitVec 32 := 512#32
  let c0_i32_77 : BitVec 32 := 0#32
  let c1_i32_79 : BitVec 32 := 1#32
  let arg16 : BitVec 32 := Scf.iv c0_i32_77 c1_i32_79 k0_t28
  let c4_i32_97 : BitVec 32 := 4#32
  let v99 : BitVec 32 := Scalar.muli arg16 c4_i32_97
  let c2_i32_98 : BitVec 32 := 2#32
  let v100 : BitVec 32 := Scalar.addi v99 c2_i32_98
  let v104 : BitVec 32 := Scalar.addi c512_i32_99 v100
  let v105 : Index := Scalar.indexCast v104
  let c0_100 : Index := 0#32
  ![v105.toNat, 0]

def k0_chk29 (v110 : IVec S16 32) : Prop :=
  (∀ a x, ((![v110] : Fin 1 → IVec S16 32) a x).toNat < S8704.size a)
theorem k0_idx264_inb : ∀ (v110 : IVec S16 32) (k0_hw29 : k0_chk29 v110), ∀ a x, ((![v110] : Fin 1 → IVec S16 32) a x).toNat < S8704.size a := fun v110 k0_hw29 => k0_hw29
def k0_off65 (k0_t28 : Fin k0_t28_loop.trips) : Fin 2 → Nat :=
  let c512_i32_103 : BitVec 32 := 512#32
  let c0_i32_77 : BitVec 32 := 0#32
  let c1_i32_79 : BitVec 32 := 1#32
  let arg16 : BitVec 32 := Scf.iv c0_i32_77 c1_i32_79 k0_t28
  let c4_i32_101 : BitVec 32 := 4#32
  let v107 : BitVec 32 := Scalar.muli arg16 c4_i32_101
  let c3_i32_102 : BitVec 32 := 3#32
  let v108 : BitVec 32 := Scalar.addi v107 c3_i32_102
  let v112 : BitVec 32 := Scalar.addi c512_i32_103 v108
  let v113 : Index := Scalar.indexCast v112
  let c0_104 : Index := 0#32
  ![v113.toNat, 0]
def k0_off66 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c2_i32_25 : BitVec 32 := 2#32
  let c0_i32_10 : BitVec 32 := 0#32
  let c1_i32_11 : BitVec 32 := 1#32
  let arg15 : BitVec 32 := Scf.iv c0_i32_10 c1_i32_11 k0_t2
  let v27 : BitVec 32 := Scalar.muli c2_i32_25 arg15
  let c1_i32_81 : BitVec 32 := 1#32
  let v76 : BitVec 32 := Scalar.addi v27 c1_i32_81
  let c512_i32_82 : BitVec 32 := 512#32
  let v77 : BitVec 32 := Scalar.muli v76 c512_i32_82
  let v78 : BitVec 32 := Scalar.addi v2 v77
  let c0_i32_85 : BitVec 32 := 0#32
  ![v78.toNat, 0]
def k0_off67 (i : grid0.Coords) (c3072_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v17 : BitVec 32 := Scalar.addi v2 c3072_i32
  let c0_i32_15 : BitVec 32 := 0#32
  ![v17.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x64 : Shape := ⟨2, ![131072, 64]⟩
abbrev S64x16 : Shape := ⟨2, ![64, 16]⟩
abbrev S64x1 : Shape := ⟨2, ![64, 1]⟩
abbrev S64 : Shape := ⟨1, ![64]⟩
abbrev S_ : Shape := ⟨0, ![]⟩
abbrev S1x64 : Shape := ⟨2, ![1, 64]⟩
abbrev S131072 : Shape := ⟨1, ![131072]⟩
abbrev S131072x1 : Shape := ⟨2, ![131072, 1]⟩
abbrev S131072x16 : Shape := ⟨2, ![131072, 16]⟩

abbrev nBuf : Space → Nat
  | .hbm => 259
  | .vmem => 0
  | .smem => 0
  | _ => 0

abbrev hbmTy0_0 (i : Nat) : BufTy := match i % 128 with
  | 0 => ⟨S131072x64, .f32⟩
  | 1 => ⟨S64x16, .i1⟩
  | 2 => ⟨S64x1, .i1⟩
  | 3 => ⟨S64, .i1⟩
  | 4 => ⟨S_, .i1⟩
  | 5 => ⟨S_, .i1⟩
  | 6 => ⟨S1x64, .i1⟩
  | 7 => ⟨S_, .f32⟩
  | 8 => ⟨S_, .f32⟩
  | 9 => ⟨S131072x64, .i1⟩
  | 10 => ⟨S131072x64, .f32⟩
  | 11 => ⟨S131072x64, .f32⟩
  | 12 => ⟨S_, .f32⟩
  | 13 => ⟨S131072, .f32⟩
  | 14 => ⟨S_, .f32⟩
  | 15 => ⟨S131072, .f32⟩
  | 16 => ⟨S131072, .f32⟩
  | 17 => ⟨S64x1, .i1⟩
  | 18 => ⟨S64, .i1⟩
  | 19 => ⟨S_, .i1⟩
  | 20 => ⟨S_, .i1⟩
  | 21 => ⟨S1x64, .i1⟩
  | 22 => ⟨S_, .f32⟩
  | 23 => ⟨S_, .f32⟩
  | 24 => ⟨S131072x64, .i1⟩
  | 25 => ⟨S131072x64, .f32⟩
  | 26 => ⟨S131072x64, .f32⟩
  | 27 => ⟨S_, .f32⟩
  | 28 => ⟨S131072, .f32⟩
  | 29 => ⟨S_, .f32⟩
  | 30 => ⟨S131072, .f32⟩
  | 31 => ⟨S131072, .f32⟩
  | 32 => ⟨S64x1, .i1⟩
  | 33 => ⟨S64, .i1⟩
  | 34 => ⟨S_, .i1⟩
  | 35 => ⟨S_, .i1⟩
  | 36 => ⟨S1x64, .i1⟩
  | 37 => ⟨S_, .f32⟩
  | 38 => ⟨S_, .f32⟩
  | 39 => ⟨S131072x64, .i1⟩
  | 40 => ⟨S131072x64, .f32⟩
  | 41 => ⟨S131072x64, .f32⟩
  | 42 => ⟨S_, .f32⟩
  | 43 => ⟨S131072, .f32⟩
  | 44 => ⟨S_, .f32⟩
  | 45 => ⟨S131072, .f32⟩
  | 46 => ⟨S131072, .f32⟩
  | 47 => ⟨S64x1, .i1⟩
  | 48 => ⟨S64, .i1⟩
  | 49 => ⟨S_, .i1⟩
  | 50 => ⟨S_, .i1⟩
  | 51 => ⟨S1x64, .i1⟩
  | 52 => ⟨S_, .f32⟩
  | 53 => ⟨S_, .f32⟩
  | 54 => ⟨S131072x64, .i1⟩
  | 55 => ⟨S131072x64, .f32⟩
  | 56 => ⟨S131072x64, .f32⟩
  | 57 => ⟨S_, .f32⟩
  | 58 => ⟨S131072, .f32⟩
  | 59 => ⟨S_, .f32⟩
  | 60 => ⟨S131072, .f32⟩
  | 61 => ⟨S131072, .f32⟩
  | 62 => ⟨S64x1, .i1⟩
  | 63 => ⟨S64, .i1⟩
  | 64 => ⟨S_, .i1⟩
  | 65 => ⟨S_, .i1⟩
  | 66 => ⟨S1x64, .i1⟩
  | 67 => ⟨S_, .f32⟩
  | 68 => ⟨S_, .f32⟩
  | 69 => ⟨S131072x64, .i1⟩
  | 70 => ⟨S131072x64, .f32⟩
  | 71 => ⟨S131072x64, .f32⟩
  | 72 => ⟨S_, .f32⟩
  | 73 => ⟨S131072, .f32⟩
  | 74 => ⟨S_, .f32⟩
  | 75 => ⟨S131072, .f32⟩
  | 76 => ⟨S131072, .f32⟩
  | 77 => ⟨S64x1, .i1⟩
  | 78 => ⟨S64, .i1⟩
  | 79 => ⟨S_, .i1⟩
  | 80 => ⟨S_, .i1⟩
  | 81 => ⟨S1x64, .i1⟩
  | 82 => ⟨S_, .f32⟩
  | 83 => ⟨S_, .f32⟩
  | 84 => ⟨S131072x64, .i1⟩
  | 85 => ⟨S131072x64, .f32⟩
  | 86 => ⟨S131072x64, .f32⟩
  | 87 => ⟨S_, .f32⟩
  | 88 => ⟨S131072, .f32⟩
  | 89 => ⟨S_, .f32⟩
  | 90 => ⟨S131072, .f32⟩
  | 91 => ⟨S131072, .f32⟩
  | 92 => ⟨S64x1, .i1⟩
  | 93 => ⟨S64, .i1⟩
  | 94 => ⟨S_, .i1⟩
  | 95 => ⟨S_, .i1⟩
  | 96 => ⟨S1x64, .i1⟩
  | 97 => ⟨S_, .f32⟩
  | 98 => ⟨S_, .f32⟩
  | 99 => ⟨S131072x64, .i1⟩
  | 100 => ⟨S131072x64, .f32⟩
  | 101 => ⟨S131072x64, .f32⟩
  | 102 => ⟨S_, .f32⟩
  | 103 => ⟨S131072, .f32⟩
  | 104 => ⟨S_, .f32⟩
  | 105 => ⟨S131072, .f32⟩
  | 106 => ⟨S131072, .f32⟩
  | 107 => ⟨S64x1, .i1⟩
  | 108 => ⟨S64, .i1⟩
  | 109 => ⟨S_, .i1⟩
  | 110 => ⟨S_, .i1⟩
  | 111 => ⟨S1x64, .i1⟩
  | 112 => ⟨S_, .f32⟩
  | 113 => ⟨S_, .f32⟩
  | 114 => ⟨S131072x64, .i1⟩
  | 115 => ⟨S131072x64, .f32⟩
  | 116 => ⟨S131072x64, .f32⟩
  | 117 => ⟨S_, .f32⟩
  | 118 => ⟨S131072, .f32⟩
  | 119 => ⟨S_, .f32⟩
  | 120 => ⟨S131072, .f32⟩
  | 121 => ⟨S131072, .f32⟩
  | 122 => ⟨S64x1, .i1⟩
  | 123 => ⟨S64, .i1⟩
  | 124 => ⟨S_, .i1⟩
  | 125 => ⟨S_, .i1⟩
  | 126 => ⟨S1x64, .i1⟩
  | 127 => ⟨S_, .f32⟩
  | _ => ⟨S131072x64, .f32⟩

abbrev hbmTy0_1 (i : Nat) : BufTy := match i % 128 with
  | 0 => ⟨S_, .f32⟩
  | 1 => ⟨S131072x64, .i1⟩
  | 2 => ⟨S131072x64, .f32⟩
  | 3 => ⟨S131072x64, .f32⟩
  | 4 => ⟨S_, .f32⟩
  | 5 => ⟨S131072, .f32⟩
  | 6 => ⟨S_, .f32⟩
  | 7 => ⟨S131072, .f32⟩
  | 8 => ⟨S131072, .f32⟩
  | 9 => ⟨S64x1, .i1⟩
  | 10 => ⟨S64, .i1⟩
  | 11 => ⟨S_, .i1⟩
  | 12 => ⟨S_, .i1⟩
  | 13 => ⟨S1x64, .i1⟩
  | 14 => ⟨S_, .f32⟩
  | 15 => ⟨S_, .f32⟩
  | 16 => ⟨S131072x64, .i1⟩
  | 17 => ⟨S131072x64, .f32⟩
  | 18 => ⟨S131072x64, .f32⟩
  | 19 => ⟨S_, .f32⟩
  | 20 => ⟨S131072, .f32⟩
  | 21 => ⟨S_, .f32⟩
  | 22 => ⟨S131072, .f32⟩
  | 23 => ⟨S131072, .f32⟩
  | 24 => ⟨S64x1, .i1⟩
  | 25 => ⟨S64, .i1⟩
  | 26 => ⟨S_, .i1⟩
  | 27 => ⟨S_, .i1⟩
  | 28 => ⟨S1x64, .i1⟩
  | 29 => ⟨S_, .f32⟩
  | 30 => ⟨S_, .f32⟩
  | 31 => ⟨S131072x64, .i1⟩
  | 32 => ⟨S131072x64, .f32⟩
  | 33 => ⟨S131072x64, .f32⟩
  | 34 => ⟨S_, .f32⟩
  | 35 => ⟨S131072, .f32⟩
  | 36 => ⟨S_, .f32⟩
  | 37 => ⟨S131072, .f32⟩
  | 38 => ⟨S131072, .f32⟩
  | 39 => ⟨S64x1, .i1⟩
  | 40 => ⟨S64, .i1⟩
  | 41 => ⟨S_, .i1⟩
  | 42 => ⟨S_, .i1⟩
  | 43 => ⟨S1x64, .i1⟩
  | 44 => ⟨S_, .f32⟩
  | 45 => ⟨S_, .f32⟩
  | 46 => ⟨S131072x64, .i1⟩
  | 47 => ⟨S131072x64, .f32⟩
  | 48 => ⟨S131072x64, .f32⟩
  | 49 => ⟨S_, .f32⟩
  | 50 => ⟨S131072, .f32⟩
  | 51 => ⟨S_, .f32⟩
  | 52 => ⟨S131072, .f32⟩
  | 53 => ⟨S131072, .f32⟩
  | 54 => ⟨S64x1, .i1⟩
  | 55 => ⟨S64, .i1⟩
  | 56 => ⟨S_, .i1⟩
  | 57 => ⟨S_, .i1⟩
  | 58 => ⟨S1x64, .i1⟩
  | 59 => ⟨S_, .f32⟩
  | 60 => ⟨S_, .f32⟩
  | 61 => ⟨S131072x64, .i1⟩
  | 62 => ⟨S131072x64, .f32⟩
  | 63 => ⟨S131072x64, .f32⟩
  | 64 => ⟨S_, .f32⟩
  | 65 => ⟨S131072, .f32⟩
  | 66 => ⟨S_, .f32⟩
  | 67 => ⟨S131072, .f32⟩
  | 68 => ⟨S131072, .f32⟩
  | 69 => ⟨S64x1, .i1⟩
  | 70 => ⟨S64, .i1⟩
  | 71 => ⟨S_, .i1⟩
  | 72 => ⟨S_, .i1⟩
  | 73 => ⟨S1x64, .i1⟩
  | 74 => ⟨S_, .f32⟩
  | 75 => ⟨S_, .f32⟩
  | 76 => ⟨S131072x64, .i1⟩
  | 77 => ⟨S131072x64, .f32⟩
  | 78 => ⟨S131072x64, .f32⟩
  | 79 => ⟨S_, .f32⟩
  | 80 => ⟨S131072, .f32⟩
  | 81 => ⟨S_, .f32⟩
  | 82 => ⟨S131072, .f32⟩
  | 83 => ⟨S131072, .f32⟩
  | 84 => ⟨S64x1, .i1⟩
  | 85 => ⟨S64, .i1⟩
  | 86 => ⟨S_, .i1⟩
  | 87 => ⟨S_, .i1⟩
  | 88 => ⟨S1x64, .i1⟩
  | 89 => ⟨S_, .f32⟩
  | 90 => ⟨S_, .f32⟩
  | 91 => ⟨S131072x64, .i1⟩
  | 92 => ⟨S131072x64, .f32⟩
  | 93 => ⟨S131072x64, .f32⟩
  | 94 => ⟨S_, .f32⟩
  | 95 => ⟨S131072, .f32⟩
  | 96 => ⟨S_, .f32⟩
  | 97 => ⟨S131072, .f32⟩
  | 98 => ⟨S131072, .f32⟩
  | 99 => ⟨S64x1, .i1⟩
  | 100 => ⟨S64, .i1⟩
  | 101 => ⟨S_, .i1⟩
  | 102 => ⟨S_, .i1⟩
  | 103 => ⟨S1x64, .i1⟩
  | 104 => ⟨S_, .f32⟩
  | 105 => ⟨S_, .f32⟩
  | 106 => ⟨S131072x64, .i1⟩
  | 107 => ⟨S131072x64, .f32⟩
  | 108 => ⟨S131072x64, .f32⟩
  | 109 => ⟨S_, .f32⟩
  | 110 => ⟨S131072, .f32⟩
  | 111 => ⟨S_, .f32⟩
  | 112 => ⟨S131072, .f32⟩
  | 113 => ⟨S131072, .f32⟩
  | 114 => ⟨S131072x1, .f32⟩
  | 115 => ⟨S131072x1, .f32⟩
  | 116 => ⟨S131072x1, .f32⟩
  | 117 => ⟨S131072x1, .f32⟩
  | 118 => ⟨S131072x1, .f32⟩
  | 119 => ⟨S131072x1, .f32⟩
  | 120 => ⟨S131072x1, .f32⟩
  | 121 => ⟨S131072x1, .f32⟩
  | 122 => ⟨S131072x1, .f32⟩
  | 123 => ⟨S131072x1, .f32⟩
  | 124 => ⟨S131072x1, .f32⟩
  | 125 => ⟨S131072x1, .f32⟩
  | 126 => ⟨S131072x1, .f32⟩
  | 127 => ⟨S131072x1, .f32⟩
  | _ => ⟨S131072x64, .f32⟩

abbrev hbmTy0_2 (i : Nat) : BufTy := match i % 128 with
  | 0 => ⟨S131072x1, .f32⟩
  | 1 => ⟨S131072x1, .f32⟩
  | 2 => ⟨S131072x16, .f32⟩
  | _ => ⟨S131072x64, .f32⟩

abbrev hbmTy (i : Nat) : BufTy := match i / 128 with
  | 0 => hbmTy0_0 i
  | 1 => hbmTy0_1 i
  | 2 => hbmTy0_2 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_v20 : Ref sig .tc := ⟨.hbm, 41, rfl⟩
abbrev main_cst_8 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_call6_v0 : Ref sig .tc := ⟨.hbm, 53, rfl⟩
abbrev main_call6_v1 : Ref sig .tc := ⟨.hbm, 54, rfl⟩
abbrev main_call6_v2 : Ref sig .tc := ⟨.hbm, 55, rfl⟩
abbrev main_v28 : Ref sig .tc := ⟨.hbm, 56, rfl⟩
abbrev main_cst_12 : Ref sig .tc := ⟨.hbm, 57, rfl⟩
abbrev main_v29 : Ref sig .tc := ⟨.hbm, 58, rfl⟩
abbrev main_cst_13 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_14 : Ref sig .tc := ⟨.hbm, 64, rfl⟩
abbrev main_v34 : Ref sig .tc := ⟨.hbm, 65, rfl⟩
abbrev main_v35 : Ref sig .tc := ⟨.hbm, 66, rfl⟩
abbrev main_cst_15 : Ref sig .tc := ⟨.hbm, 67, rfl⟩
abbrev main_call8_v0 : Ref sig .tc := ⟨.hbm, 68, rfl⟩
abbrev main_call8_v1 : Ref sig .tc := ⟨.hbm, 69, rfl⟩
abbrev main_call8_v2 : Ref sig .tc := ⟨.hbm, 70, rfl⟩
abbrev main_v36 : Ref sig .tc := ⟨.hbm, 71, rfl⟩
abbrev main_cst_16 : Ref sig .tc := ⟨.hbm, 72, rfl⟩
abbrev main_v37 : Ref sig .tc := ⟨.hbm, 73, rfl⟩
abbrev main_cst_17 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_18 : Ref sig .tc := ⟨.hbm, 79, rfl⟩
abbrev main_v42 : Ref sig .tc := ⟨.hbm, 80, rfl⟩
abbrev main_v43 : Ref sig .tc := ⟨.hbm, 81, rfl⟩
abbrev main_cst_19 : Ref sig .tc := ⟨.hbm, 82, rfl⟩
abbrev main_call10_v0 : Ref sig .tc := ⟨.hbm, 83, rfl⟩
abbrev main_call10_v1 : Ref sig .tc := ⟨.hbm, 84, rfl⟩
abbrev main_call10_v2 : Ref sig .tc := ⟨.hbm, 85, rfl⟩
abbrev main_v44 : Ref sig .tc := ⟨.hbm, 86, rfl⟩
abbrev main_cst_20 : Ref sig .tc := ⟨.hbm, 87, rfl⟩
abbrev main_v45 : Ref sig .tc := ⟨.hbm, 88, rfl⟩
abbrev main_cst_21 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_22 : Ref sig .tc := ⟨.hbm, 94, rfl⟩
abbrev main_v50 : Ref sig .tc := ⟨.hbm, 95, rfl⟩
abbrev main_v51 : Ref sig .tc := ⟨.hbm, 96, rfl⟩
abbrev main_cst_23 : Ref sig .tc := ⟨.hbm, 97, rfl⟩
abbrev main_call12_v0 : Ref sig .tc := ⟨.hbm, 98, rfl⟩
abbrev main_call12_v1 : Ref sig .tc := ⟨.hbm, 99, rfl⟩
abbrev main_call12_v2 : Ref sig .tc := ⟨.hbm, 100, rfl⟩
abbrev main_v52 : Ref sig .tc := ⟨.hbm, 101, rfl⟩
abbrev main_cst_24 : Ref sig .tc := ⟨.hbm, 102, rfl⟩
abbrev main_v53 : Ref sig .tc := ⟨.hbm, 103, rfl⟩
abbrev main_cst_25 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_26 : Ref sig .tc := ⟨.hbm, 109, rfl⟩
abbrev main_v58 : Ref sig .tc := ⟨.hbm, 110, rfl⟩
abbrev main_v59 : Ref sig .tc := ⟨.hbm, 111, rfl⟩
abbrev main_cst_27 : Ref sig .tc := ⟨.hbm, 112, rfl⟩
abbrev main_call14_v0 : Ref sig .tc := ⟨.hbm, 113, rfl⟩
abbrev main_call14_v1 : Ref sig .tc := ⟨.hbm, 114, rfl⟩
abbrev main_call14_v2 : Ref sig .tc := ⟨.hbm, 115, rfl⟩
abbrev main_v60 : Ref sig .tc := ⟨.hbm, 116, rfl⟩
abbrev main_cst_28 : Ref sig .tc := ⟨.hbm, 117, rfl⟩
abbrev main_v61 : Ref sig .tc := ⟨.hbm, 118, rfl⟩
abbrev main_cst_29 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_c_30 : Ref sig .tc := ⟨.hbm, 124, rfl⟩
abbrev main_v66 : Ref sig .tc := ⟨.hbm, 125, rfl⟩
abbrev main_v67 : Ref sig .tc := ⟨.hbm, 126, rfl⟩
abbrev main_cst_31 : Ref sig .tc := ⟨.hbm, 127, rfl⟩
abbrev main_call16_v0 : Ref sig .tc := ⟨.hbm, 128, rfl⟩
abbrev main_call16_v1 : Ref sig .tc := ⟨.hbm, 129, rfl⟩
abbrev main_call16_v2 : Ref sig .tc := ⟨.hbm, 130, rfl⟩
abbrev main_v68 : Ref sig .tc := ⟨.hbm, 131, rfl⟩
abbrev main_cst_32 : Ref sig .tc := ⟨.hbm, 132, rfl⟩
abbrev main_v69 : Ref sig .tc := ⟨.hbm, 133, rfl⟩
abbrev main_cst_33 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_34 : Ref sig .tc := ⟨.hbm, 139, rfl⟩
abbrev main_v74 : Ref sig .tc := ⟨.hbm, 140, rfl⟩
abbrev main_v75 : Ref sig .tc := ⟨.hbm, 141, rfl⟩
abbrev main_cst_35 : Ref sig .tc := ⟨.hbm, 142, rfl⟩
abbrev main_call18_v0 : Ref sig .tc := ⟨.hbm, 143, rfl⟩
abbrev main_call18_v1 : Ref sig .tc := ⟨.hbm, 144, rfl⟩
abbrev main_call18_v2 : Ref sig .tc := ⟨.hbm, 145, rfl⟩
abbrev main_v76 : Ref sig .tc := ⟨.hbm, 146, rfl⟩
abbrev main_cst_36 : Ref sig .tc := ⟨.hbm, 147, rfl⟩
abbrev main_v77 : Ref sig .tc := ⟨.hbm, 148, rfl⟩
abbrev main_cst_37 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_c_38 : Ref sig .tc := ⟨.hbm, 154, rfl⟩
abbrev main_v82 : Ref sig .tc := ⟨.hbm, 155, rfl⟩
abbrev main_v83 : Ref sig .tc := ⟨.hbm, 156, rfl⟩
abbrev main_cst_39 : Ref sig .tc := ⟨.hbm, 157, rfl⟩
abbrev main_call20_v0 : Ref sig .tc := ⟨.hbm, 158, rfl⟩
abbrev main_call20_v1 : Ref sig .tc := ⟨.hbm, 159, rfl⟩
abbrev main_call20_v2 : Ref sig .tc := ⟨.hbm, 160, rfl⟩
abbrev main_v84 : Ref sig .tc := ⟨.hbm, 161, rfl⟩
abbrev main_cst_40 : Ref sig .tc := ⟨.hbm, 162, rfl⟩
abbrev main_v85 : Ref sig .tc := ⟨.hbm, 163, rfl⟩
abbrev main_cst_41 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_c_42 : Ref sig .tc := ⟨.hbm, 169, rfl⟩
abbrev main_v90 : Ref sig .tc := ⟨.hbm, 170, rfl⟩
abbrev main_v91 : Ref sig .tc := ⟨.hbm, 171, rfl⟩
abbrev main_cst_43 : Ref sig .tc := ⟨.hbm, 172, rfl⟩
abbrev main_call22_v0 : Ref sig .tc := ⟨.hbm, 173, rfl⟩
abbrev main_call22_v1 : Ref sig .tc := ⟨.hbm, 174, rfl⟩
abbrev main_call22_v2 : Ref sig .tc := ⟨.hbm, 175, rfl⟩
abbrev main_v92 : Ref sig .tc := ⟨.hbm, 176, rfl⟩
abbrev main_cst_44 : Ref sig .tc := ⟨.hbm, 177, rfl⟩
abbrev main_v93 : Ref sig .tc := ⟨.hbm, 178, rfl⟩
abbrev main_cst_45 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_c_46 : Ref sig .tc := ⟨.hbm, 184, rfl⟩
abbrev main_v98 : Ref sig .tc := ⟨.hbm, 185, rfl⟩
abbrev main_v99 : Ref sig .tc := ⟨.hbm, 186, rfl⟩
abbrev main_cst_47 : Ref sig .tc := ⟨.hbm, 187, rfl⟩
abbrev main_call24_v0 : Ref sig .tc := ⟨.hbm, 188, rfl⟩
abbrev main_call24_v1 : Ref sig .tc := ⟨.hbm, 189, rfl⟩
abbrev main_call24_v2 : Ref sig .tc := ⟨.hbm, 190, rfl⟩
abbrev main_v100 : Ref sig .tc := ⟨.hbm, 191, rfl⟩
abbrev main_cst_48 : Ref sig .tc := ⟨.hbm, 192, rfl⟩
abbrev main_v101 : Ref sig .tc := ⟨.hbm, 193, rfl⟩
abbrev main_cst_49 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_c_50 : Ref sig .tc := ⟨.hbm, 199, rfl⟩
abbrev main_v106 : Ref sig .tc := ⟨.hbm, 200, rfl⟩
abbrev main_v107 : Ref sig .tc := ⟨.hbm, 201, rfl⟩
abbrev main_cst_51 : Ref sig .tc := ⟨.hbm, 202, rfl⟩
abbrev main_call26_v0 : Ref sig .tc := ⟨.hbm, 203, rfl⟩
abbrev main_call26_v1 : Ref sig .tc := ⟨.hbm, 204, rfl⟩
abbrev main_call26_v2 : Ref sig .tc := ⟨.hbm, 205, rfl⟩
abbrev main_v108 : Ref sig .tc := ⟨.hbm, 206, rfl⟩
abbrev main_cst_52 : Ref sig .tc := ⟨.hbm, 207, rfl⟩
abbrev main_v109 : Ref sig .tc := ⟨.hbm, 208, rfl⟩
abbrev main_cst_53 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_c_54 : Ref sig .tc := ⟨.hbm, 214, rfl⟩
abbrev main_v114 : Ref sig .tc := ⟨.hbm, 215, rfl⟩
abbrev main_v115 : Ref sig .tc := ⟨.hbm, 216, rfl⟩
abbrev main_cst_55 : Ref sig .tc := ⟨.hbm, 217, rfl⟩
abbrev main_call28_v0 : Ref sig .tc := ⟨.hbm, 218, rfl⟩
abbrev main_call28_v1 : Ref sig .tc := ⟨.hbm, 219, rfl⟩
abbrev main_call28_v2 : Ref sig .tc := ⟨.hbm, 220, rfl⟩
abbrev main_v116 : Ref sig .tc := ⟨.hbm, 221, rfl⟩
abbrev main_cst_56 : Ref sig .tc := ⟨.hbm, 222, rfl⟩
abbrev main_v117 : Ref sig .tc := ⟨.hbm, 223, rfl⟩
abbrev main_cst_57 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_c_58 : Ref sig .tc := ⟨.hbm, 229, rfl⟩
abbrev main_v122 : Ref sig .tc := ⟨.hbm, 230, rfl⟩
abbrev main_v123 : Ref sig .tc := ⟨.hbm, 231, rfl⟩
abbrev main_cst_59 : Ref sig .tc := ⟨.hbm, 232, rfl⟩
abbrev main_call30_v0 : Ref sig .tc := ⟨.hbm, 233, rfl⟩
abbrev main_call30_v1 : Ref sig .tc := ⟨.hbm, 234, rfl⟩
abbrev main_call30_v2 : Ref sig .tc := ⟨.hbm, 235, rfl⟩
abbrev main_v124 : Ref sig .tc := ⟨.hbm, 236, rfl⟩
abbrev main_cst_60 : Ref sig .tc := ⟨.hbm, 237, rfl⟩
abbrev main_v125 : Ref sig .tc := ⟨.hbm, 238, rfl⟩
abbrev main_cst_61 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩

abbrev nD : Nat := 1
abbrev τ : Topo := Topo.v7x

variable {F : FTy → Type} [FloatOps F]
-- ==== Proof.Setup.lean ====
/-
  The kernel as the launch theorem sees it: its configuration, the ghost state its proof uses, and
  names for its buffers. Stated for the idealized program over any float values `F`, so that the
  printed program at its own float words is the instance `F := Bits`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are told apart as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the write mode of buffers a copy is filling, the copies' counters -/

abbrev UH : Type := URounds (GSem nD τ sig) ℕ
abbrev UW (F : FTy → Type) : Type := WmRA nD τ sig (Elt F)
abbrev UU (F : FTy → Type) : Type := UH × (UW F × Counters)

local notation "𝕄" => MT nD τ sig (HIx 1) (Elt F) ℕ (UU F) ℕ

abbrev EH : Emb UH (MT nD τ sig (HIx 1) (Elt F) ℕ (UU F) ℕ) := embL
/-- Where the write-mode library's state lies: the left half of the right factor. -/
def EW : UEmb (UW F) (UU F) := (UEmb.inl : UEmb (UW F) (UW F × Counters)).trans UEmb.inr
/-- Where the counters of the copies in flight lie. -/
abbrev EC : UEmb Counters (MT nD τ sig (HIx 1) (Elt F) ℕ (UU F) ℕ) := countersEmb

end Cert.Proof.Pool
-- ==== Proof.Words.lean ====
/-
  The tile's one-dimensional scratch arrays as functions of a natural number: what a load of
  sixteen words reads, what a store of sixteen words leaves, and the two as program rules; and
  the rule by which a loop that makes no trip is passed.
-/
module

public import proofs.«01_k».proof.Proof.Setup

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

/-! ## Positions -/

/-- Position `n` of an array of `N` words (taken round, so that every number names one). -/
def ix (N : ℕ) [NeZero N] (n : ℕ) : (⟨1, ![N]⟩ : Shape).Idx :=
  fun a => ⟨n % N, by rw [Fin.fin_one_eq_zero a]; exact Nat.mod_lt _ (NeZero.pos N)⟩

/-- Row `r`, column `c` of an `M` by `N` array. -/
def ix2 (M N : ℕ) [NeZero M] [NeZero N] (r c : ℕ) : (⟨2, ![M, N]⟩ : Shape).Idx :=
  fun a => ⟨(if a = 0 then r % M else c % N), by
    fin_cases a
    · exact Nat.mod_lt _ (NeZero.pos M)
    · exact Nat.mod_lt _ (NeZero.pos N)⟩

/-- An index's number. -/
theorem ix_val {N : ℕ} [NeZero N] {n : ℕ} (h : n < N) (a : Fin 1) : (ix N n a).val = n := Nat.mod_eq_of_lt h

/-- An index from its own number. -/
theorem ix_self {N : ℕ} [NeZero N] (y : (⟨1, ![N]⟩ : Shape).Idx) : ix N (y 0).val = y := by
  funext a; obtain rfl := Fin.fin_one_eq_zero a
  exact Fin.ext (Nat.mod_eq_of_lt (y 0).isLt)

/-- An index by its number. -/
theorem ix_eq {N : ℕ} [NeZero N] {n : ℕ} {y : (⟨1, ![N]⟩ : Shape).Idx} (h : (y 0).val = n) : y = ix N n := by
  rw [← h, ix_self]

/-- An index from its own row and column. -/
theorem ix2_self {M N : ℕ} [NeZero M] [NeZero N] (y : (⟨2, ![M, N]⟩ : Shape).Idx) : ix2 M N (y 0).val (y 1).val = y := by
  funext a; refine Fin.ext ?_
  fin_cases a
  · exact Nat.mod_eq_of_lt (y 0).isLt
  · exact Nat.mod_eq_of_lt (y 1).isLt

/-- An index by its row and column. -/
theorem ix2_eq {M N : ℕ} [NeZero M] [NeZero N] {r c : ℕ} {y : (⟨2, ![M, N]⟩ : Shape).Idx} (h : (y 0).val = r) (h' : (y 1).val = c) :
    y = ix2 M N r c := by rw [← h, ← h', ix2_self]

/-- Lane `n` of a sixteen-word vector. -/
abbrev lane (n : ℕ) : S16.Idx := ix 16 n

/-- A lane is below sixteen. -/
theorem lane_lt (x : S16.Idx) : (x 0).val < 16 := (x 0).isLt

/-! ## Sixteen words read and written -/

section View

variable {Val : EltTy → Type} {κ : Kind} {sp : Space} {e : EltTy} {N : ℕ} [NeZero N]

/-- A load of sixteen words from offset `o` reads, at each lane, the word that many places after. -/
theorem read16 (v : View sig κ sp ⟨1, ![N]⟩ e) (f : v.ty.Contents Val) (off : Fin 1 → ℕ)
    (inb : ∀ a, off a + S16.size a ≤ (⟨1, ![N]⟩ : Shape).size a) (x : S16.Idx) :
    v.readAt Val (Rect.unit (s := ⟨1, ![N]⟩) off S16.size inb).toLoadRect f x = v.read Val f (ix N (off 0 + (x 0).val)) := by
  rw [View.readAt_apply]
  congr 1
  refine ix_eq ?_
  show off 0 + 1 * (x 0).val = off 0 + (x 0).val
  omega

/-- A store of sixteen words at offset `o` changes those words and no other. -/
theorem write16 (m : Memref sig κ sp ⟨1, ![N]⟩ e) (f : m.view.ty.Contents Val) (off : Fin 1 → ℕ)
    (inb : ∀ a, off a + S16.size a ≤ (⟨1, ![N]⟩ : Shape).size a) (w : S16.Idx → Val e) (n : ℕ) (hn : n < N) :
    m.view.read Val ((m.access (Rect.unit (s := ⟨1, ![N]⟩) off S16.size inb)).write Val f w Finset.univ) (ix N n)
      = if off 0 ≤ n ∧ n < off 0 + 16 then w (lane (n - off 0)) else m.view.read Val f (ix N n) := by
  split
  · next h =>
    refine View.read_writes_cons_hit_of_coords m.view f (Rect.unit (s := ⟨1, ![N]⟩) off S16.size inb) w [] (lane (n - off 0)) (ix N n) fun a => ?_
    obtain rfl := Fin.fin_one_eq_zero a
    show n % N = off 0 + 1 * ((n - off 0) % 16)
    rw [Nat.mod_eq_of_lt hn, Nat.mod_eq_of_lt (by omega)]; omega
  · next h =>
    refine View.read_writes_cons_miss_of_axis m.view f ⟨Rect.unit (s := ⟨1, ![N]⟩) off S16.size inb, w⟩ [] (ix N n) 0 (off 0) 16 rfl rfl rfl ?_
    show n % N < off 0 ∨ off 0 + 16 ≤ n % N
    rw [Nat.mod_eq_of_lt hn]; omega

end View

/-! ## The tile's scratch arrays -/

abbrev mX : Memref sig .scVector .vmem S1024x64 .f32 := Memref.whole cc0_scratch0
abbrev mO : Memref sig .scVector .vmem S1024x16 .f32 := Memref.whole cc0_scratch1
abbrev mR : Memref sig .scVector .vmem S8704 .f32 := Memref.whole cc0_scratch2
abbrev mE : Memref sig .scVector .vmem S16384 .i32 := Memref.whole cc0_scratch3
abbrev mM : Memref sig .scVector .vmem S288 .i32 := Memref.whole cc0_scratch4

section Rules

variable [FloatOps F] (d : Dev nD) (i : grid0.Coords)

/-- The tile at grid point `i`: SparseCore `i 0`, subcore `i 1`. -/
abbrev thr : Thread nD τ := V d ((i 0).castLE hcore0) ((i 1).castLE hsub0)

/-- A program of the tile. -/
abbrev PR (F : FTy → Type) (i : grid0.Coords) (α : Type) : Type 1 :=
  Prog (TpuEff nD τ sig (Elt F) Λ₀ (.scVector ((i 0).castLE hcore0) ((i 1).castLE hsub0))) α

/-- What running a program of the tile to a post needs. -/
abbrev wpt {α : Type} (p : PR F i α) (Q : α → sProp 𝕄) : sProp 𝕄 :=
  wp frame (wpE (defs₀ (F := F)) 𝒱₀ (thr d i) none) Set.univ p Q

variable {α : Type} {Q : α → sProp (MT nD τ sig (HIx 1) (Elt F) ℕ (UU F) ℕ)} {e : EltTy} {N : ℕ} [NeZero N]

/-- Sixteen words read: the program goes on with the words. -/
theorem wp_ld (m : Memref sig .scVector .vmem ⟨1, ![N]⟩ e) (off : Fin 1 → ℕ)
    (inb : ∀ a, off a + S16.size a ≤ (⟨1, ![N]⟩ : Shape).size a)
    (hl : m.view.LoadsAt (Rect.unit (s := ⟨1, ![N]⟩) off S16.size inb).toLoadRect)
    {k : (S16.Idx → Elt F e) → PR F i α} {q : PosShare TreeShare} {f : Buf (Elt F) (m.view.loc (thr d i))} :
    (m.view.loc (thr d i) ↦[Finset.univ]{q} f)
      ⊢ iprop(((m.view.loc (thr d i) ↦[Finset.univ]{q} f)
            -∗ wpt d i (k fun x => m.view.read (Elt F) f (ix N (off 0 + (x 0).val))) Q)
          -∗ wpt d i (Prog.lift (.load m (Rect.unit (s := ⟨1, ![N]⟩) off S16.size inb).toLoadRect hl) >>= k) Q) := by
  have h : (m.view.loc (thr d i) ↦[Finset.univ]{q} f)
      ⊢ iprop(((m.view.loc (thr d i) ↦[Finset.univ]{q} f)
            -∗ wpt d i (k (m.view.readAt (Elt F) (Rect.unit (s := ⟨1, ![N]⟩) off S16.size inb).toLoadRect f)) Q)
          -∗ wpt d i (Prog.lift (.load m (Rect.unit (s := ⟨1, ![N]⟩) off S16.size inb).toLoadRect hl) >>= k) Q) :=
    wp_load 𝒱₀ (thr d i) none Set.univ (hl := hl) (Finset.subset_univ _)
  have e : (m.view.readAt (Elt F) (Rect.unit (s := ⟨1, ![N]⟩) off S16.size inb).toLoadRect f)
      = fun x => m.view.read (Elt F) f (ix N (off 0 + (x 0).val)) := funext fun x => read16 m.view f off inb x
  rw [e] at h
  exact h

/-- Sixteen words written: the program goes on with contents that differ there and nowhere else. -/
theorem wp_st (m : Memref sig .scVector .vmem ⟨1, ![N]⟩ e) (off : Fin 1 → ℕ)
    (inb : ∀ a, off a + S16.size a ≤ (⟨1, ![N]⟩ : Shape).size a) (w : S16.Idx → Elt F e)
    {hx : (m.access (Rect.unit (s := ⟨1, ![N]⟩) off S16.size inb)).Stores Finset.univ} {hm}
    {k : PUnit → PR F i α} {f : Buf (Elt F) (m.view.loc (thr d i))} :
    (m.view.loc (thr d i) ↦[Finset.univ]{fullShare} f)
      ⊢ iprop((∀ f', ⌜∀ n < N, m.view.read (Elt F) f' (ix N n) = if off 0 ≤ n ∧ n < off 0 + 16 then w (lane (n - off 0)) else m.view.read (Elt F) f (ix N n)⌝
            -∗ (m.view.loc (thr d i) ↦[Finset.univ]{fullShare} f') -∗ wpt d i (k ⟨⟩) Q)
          -∗ wpt d i (Prog.lift (.store m (Rect.unit (s := ⟨1, ![N]⟩) off S16.size inb) w Finset.univ hx hm) >>= k) Q) := by
  iintro Hm Hk
  iapply (wp_store (defs := defs₀ (F := F)) 𝒱₀ (thr d i) none Set.univ (m := m) (r := Rect.unit (s := ⟨1, ![N]⟩) off S16.size inb) (w := w) (Mk := Finset.univ) (hx := hx) (hm := hm)
    (k := k) (Q := Q) (f := f) (Finset.subset_univ _)) $$ Hm
  iintro Hm
  ispecialize Hk $$ %((m.access (Rect.unit (s := ⟨1, ![N]⟩) off S16.size inb)).write (Elt F) f w Finset.univ) %(fun n hn => write16 m f off inb w n hn)
  iapply Hk; iexact Hm

/-- A program that has ended owes its post. -/
theorem wp_done (a : α) : Q a ⊢ wpt d i (pure a) Q := by
  show _ ⊢ wp frame (wpE (defs₀ (F := F)) 𝒱₀ (thr d i) none) Set.univ (pure a) Q
  rw [wp_pure]
  exact fupd_intro

/-- A check that holds is passed. -/
theorem wp_chk {P : Prop} {dP : Decidable P} (h : P) {k : PLift P → PR F i α} :
    wpt d i (k ⟨h⟩) Q ⊢ wpt d i (Prog.lift (TpuEff.assume P dP) >>= k) Q :=
  wp_assume 𝒱₀ (thr d i) none Set.univ h

/-- A loop, by what holds before each trip. -/
theorem wp_loop {l : Scf.Loop 32} {ok : l.OK} {body : Fin l.trips → Unit → PR F i Unit} (I : ℕ → sProp 𝕄)
    (hb : ∀ k : Fin l.trips, I k.val ⊢ wpt d i (body k ⟨⟩) fun _ => I (k.val + 1))
    {k : Unit → PR F i α} :
    I 0 ⊢ iprop((I l.trips -∗ wpt d i (k ⟨⟩) Q) -∗ wpt d i (Scf.Loop.for l ok ⟨⟩ body >>= k) Q) := by
  have h := Scf.wp_for_bind frame (wpE (defs₀ (F := F)) 𝒱₀ (thr d i) none) Set.univ l.lb l.ub l.st ok ⟨⟩ body (fun n _ => I n) (fun k _ => hb k) (kk := k) (Q := Q)
  refine h.trans (wand_mono_left ?_)
  iintro H %acc HI
  iapply H; iexact HI

/-- A loop that makes no trip is passed. -/
theorem wp_loop0 {l : Scf.Loop 32} {ok : l.OK} {body : Fin l.trips → Unit → PR F i Unit} (h0 : l.trips = 0)
    {k : Unit → PR F i α} :
    wpt d i (k ⟨⟩) Q ⊢ wpt d i (Scf.Loop.for l ok ⟨⟩ body >>= k) Q := by
  have h := wp_loop (F := F) d i (l := l) (ok := ok) (body := body) (Q := Q) (fun _ => iprop(emp)) (fun k => absurd (h0 ▸ k.isLt : k.val < 0) (Nat.not_lt_zero _)) (k := k)
  iintro H
  iapply h
  · iempintro
  · iintro He; iexact H

end Rules

end Cert.Proof.Pool
-- ==== Proof.Compute.lean ====
/-
  The pooling of one chunk, as the tile runs it for either half of its row buffer: a program over
  the offsets and index vectors the half gives it, with what it leaves in the accumulators. The two
  halves' printed loops are instances (Halves.lean).
-/
module

public import proofs.«01_k».proof.Proof.Words

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The value an empty maximum starts from: the float word of minus infinity. -/
def ninf : F .f32 := Scalar.ofBits .f32 0xFF800000#32
/-- The value of a composite unit with no node. -/
def fzero : F .f32 := Scalar.ofBits .f32 0x00000000#32

/-- The running maximum of row `p` of `X` over the first `n` entries of list `D` of the node table `E`,
    as the lane of row `p` takes them: of each sixteen entries, all sixteen, each lane starting at its own. -/
def acc (X : ℕ → ℕ → F .f32) (E : ℕ → ℕ) (D p : ℕ) : ℕ → F .f32
  | 0 => ninf
  | n + 1 => FloatOps.maximumf (acc X E D p n) (X p (E (D * 1024 + n * 16 + p % 16)))

/-- The running maximum of row `p` of `X` taken on from `a` over the columns lane `x` of the vectors `l` names. -/
def mfold (X : ℕ → ℕ → F .f32) (l : List (IVec S16 32)) (p : ℕ) (x : S16.Idx) (a : F .f32) : F .f32 :=
  l.foldl (fun a s => FloatOps.maximumf a (X p (s x).toNat)) a

/-- Taking on the vectors that hold the table's next entries carries the running maximum on by their number. -/
theorem mfold_acc (X : ℕ → ℕ → F .f32) (E : ℕ → ℕ) (D p : ℕ) (x : S16.Idx) :
    ∀ (l : List (IVec S16 32)) (n : ℕ), (∀ s (hs : s < l.length), (l[s] x).toNat = E (D * 1024 + (n + s) * 16 + p % 16)) →
      mfold X l p x (acc X E D p n) = acc X E D p (n + l.length)
  | [], n, _ => rfl
  | s :: l, n, h => by
    have h0 := h 0 (by simp)
    have ih := mfold_acc X E D p x l (n + 1) fun t ht => by
      have := h (t + 1) (by simpa using ht)
      rw [List.getElem_cons_succ] at this
      rw [this]; congr 2; omega
    simp only [List.getElem_cons_zero, Nat.add_zero] at h0
    show mfold X l p x (FloatOps.maximumf (acc X E D p n) (X p (s x).toNat)) = _
    rw [h0, List.length_cons, show n + (l.length + 1) = n + 1 + l.length by omega]
    exact ih

section

variable (d : Dev nD) (i : grid0.Coords)

/-- Word `n` of the accumulators' contents `f`. -/
abbrev at8 (f : Buf (Elt F) (mR.view.loc (thr d i))) (n : ℕ) : F .f32 := mR.view.read (Elt F) f (ix 8704 n)

/-! ## The gathers out of a half of the row buffer -/

/-- A pair of index vectors names places of the row buffer. -/
abbrev InB (p s : IVec S16 32) : Prop := ∀ a x, ((![p, s] : Fin 2 → IVec S16 32) a x).toNat < S1024x64.size a

/-- Holding `R`, a gather whose rows lie in the half from `lo` reads the rows of `X`, and `R` stays. -/
def Gathers (R : sProp (MT nD τ sig (HIx 1) (Elt F) ℕ (UU F) ℕ)) (X : ℕ → ℕ → F .f32) (lo : ℕ) : Prop :=
  ∀ (p s : IVec S16 32) (h : InB p s) (hl : mX.view.Loads) (Q : Unit → sProp (MT nD τ sig (HIx 1) (Elt F) ℕ (UU F) ℕ)) (k : (S16.Idx → F .f32) → PR F i Unit),
    (∀ x, lo ≤ (p x).toNat ∧ (p x).toNat < lo + 512) →
    R ⊢ iprop((R -∗ wpt d i (k fun x => X ((p x).toNat - lo) (s x).toNat) Q)
      -∗ wpt d i (SparseCore.vectorLoadIdx mX ![p, s] h hl >>= k) Q)

/-- The gathers of two groups of sixteen rows, the column vectors taken in turn, each value taken into its group's maximum. -/
def glist (p0 p1 : IVec S16 32) : (l : List (IVec S16 32)) → (∀ s ∈ l, InB p0 s) → (∀ s ∈ l, InB p1 s) →
    FVec F S16 .f32 → FVec F S16 .f32 → (FVec F S16 .f32 → FVec F S16 .f32 → PR F i Unit) → PR F i Unit
  | [], _, _, a0, a1, k => k a0 a1
  | s :: l, h0, h1, a0, a1, k => do
    let v : Vec F S16 .f32 ← SparseCore.vectorLoadIdx mX ![p0, s] (h0 s List.mem_cons_self) (View.loads_vmem h_S1024x64)
    let w : Vec F S16 .f32 ← SparseCore.vectorLoadIdx mX ![p1, s] (h1 s List.mem_cons_self) (View.loads_vmem h_S1024x64)
    glist p0 p1 l (fun t ht => h0 t (List.mem_cons_of_mem _ ht)) (fun t ht => h1 t (List.mem_cons_of_mem _ ht))
      (maximumf a0 v) (maximumf a1 w) k

/-- A list of gathers and maxima takes a running maximum on over all its vectors. -/
theorem wp_glist {R : sProp (MT nD τ sig (HIx 1) (Elt F) ℕ (UU F) ℕ)} {X : ℕ → ℕ → F .f32} {lo : ℕ} (hg : Gathers d i R X lo)
    {p0 p1 : IVec S16 32} {P : ℕ} (hP : P + 32 ≤ 512) (hp0 : ∀ x, (p0 x).toNat = lo + P + (x 0).val)
    (hp1 : ∀ x, (p1 x).toNat = lo + P + 16 + (x 0).val) {Q : Unit → sProp (MT nD τ sig (HIx 1) (Elt F) ℕ (UU F) ℕ)} :
    ∀ (l : List (IVec S16 32)) (h0 : ∀ s ∈ l, InB p0 s) (h1 : ∀ s ∈ l, InB p1 s) (a0 a1 : FVec F S16 .f32) (k : FVec F S16 .f32 → FVec F S16 .f32 → PR F i Unit),
      R ⊢ iprop((R -∗ wpt d i (k (fun x => mfold X l (P + (x 0).val) x (a0 x)) (fun x => mfold X l (P + 16 + (x 0).val) x (a1 x))) Q)
        -∗ wpt d i (glist i p0 p1 l h0 h1 a0 a1 k) Q)
  | [], h0, h1, a0, a1, k => by
    iintro HR Hk; iapply Hk; iexact HR
  | s :: l, h0, h1, a0, a1, k => by
    have e0 : (fun x => X ((p0 x).toNat - lo) (s x).toNat) = fun x : S16.Idx => X (P + (x 0).val) (s x).toNat :=
      funext fun x => by rw [hp0, show lo + P + (x 0).val - lo = P + (x 0).val by omega]
    have e1 : (fun x => X ((p1 x).toNat - lo) (s x).toNat) = fun x : S16.Idx => X (P + 16 + (x 0).val) (s x).toNat :=
      funext fun x => by rw [hp1, show lo + P + 16 + (x 0).val - lo = P + 16 + (x 0).val by omega]
    show R ⊢ iprop(_ -∗ wpt d i (_ >>= _) Q)
    iintro HR Hk
    iapply (hg p0 s (h0 s List.mem_cons_self) _ Q _ (fun x => by have := lane_lt x; rw [hp0]; omega)) $$ HR
    iintro HR
    rw [e0]
    iapply (hg p1 s (h1 s List.mem_cons_self) _ Q _ (fun x => by have := lane_lt x; rw [hp1]; omega)) $$ HR
    iintro HR
    rw [e1]
    iapply (wp_glist hg hP hp0 hp1 l _ _ _ _ k) $$ HR
    iintro HR
    iapply Hk; iexact HR

/-! ## One group of thirty-two rows, against one block of sixteen column vectors -/

abbrev InR (o : Fin 1 → ℕ) : Prop := ∀ a, o a + S16.size a ≤ S8704.size a

/-- A load of sixteen accumulators. -/
abbrev ldR (o : Fin 1 → ℕ) (h : InR o) : PR F i (Vec F S16 .f32) :=
  Prog.lift (.load mR (Rect.unit (s := S8704) o S16.size h).toLoadRect (View.loadsAt_vmem h_S16))

/-- A store of sixteen accumulators. -/
abbrev stR (o : Fin 1 → ℕ) (h : InR o) (w : FVec F S16 .f32) : PR F i PUnit :=
  Prog.lift (.store mR (Rect.unit (s := S8704) o S16.size h) w Finset.univ (View.stores_vmem_bits_univ h_S16 rfl) (.inl rfl))

/-- The group's program. -/
def g6 {oa ob oc od : Fin 1 → ℕ} (ha : InR oa) (hb : InR ob) (hc : InR oc) (hd : InR od) (p0 p1 : IVec S16 32)
    (l : List (IVec S16 32)) (C0 C1 : Prop) (d0 : Decidable C0) (d1 : Decidable C1) (h0 : C0 → ∀ s ∈ l, InB p0 s) (h1 : C1 → ∀ s ∈ l, InB p1 s) :
    PR F i Unit := do
  let a0 ← ldR i oa ha
  let a1 ← ldR i ob hb
  let w0 ← Prog.lift (TpuEff.assume C0 d0)
  let w1 ← Prog.lift (TpuEff.assume C1 d1)
  glist i p0 p1 l (h0 w0.down) (h1 w1.down) a0 a1 fun b0 b1 => do
    let _ ← ldR i oc hc
    stR i oc hc b0
    let _ ← ldR i od hd
    stR i od hd b1
    pure ⟨⟩

/-- One step of a block's loop takes its two vectors of running maxima on. -/
theorem wp_g6 {R : sProp (MT nD τ sig (HIx 1) (Elt F) ℕ (UU F) ℕ)} {X : ℕ → ℕ → F .f32} {lo : ℕ} (hg : Gathers d i R X lo)
    {oa ob oc od : Fin 1 → ℕ} (ha : InR oa) (hb : InR ob) (hc : InR oc) (hd : InR od) {p0 p1 : IVec S16 32}
    {l : List (IVec S16 32)} {C0 C1 : Prop} {d0 : Decidable C0} {d1 : Decidable C1} {h0 : C0 → ∀ s ∈ l, InB p0 s} {h1 : C1 → ∀ s ∈ l, InB p1 s}
    (c0 : C0) (c1 : C1) {A P : ℕ} (ea : oa 0 = A) (eb : ob 0 = A + 16) (ec : oc 0 = A) (ed : od 0 = A + 16)
    (hP : P + 32 ≤ 512) (hp0 : ∀ x, (p0 x).toNat = lo + P + (x 0).val)
    (hp1 : ∀ x, (p1 x).toNat = lo + P + 16 + (x 0).val) (f : Buf (Elt F) (mR.view.loc (thr d i))) :
    iprop(R ∗ (mR.view.loc (thr d i) ↦[Finset.univ]{fullShare} f))
      ⊢ wpt d i (g6 i ha hb hc hd p0 p1 l C0 C1 d0 d1 h0 h1) fun _ => iprop(R ∗ ∃ f',
          ⌜∀ n < 8704, at8 d i f' n = if A ≤ n ∧ n < A + 32 then mfold X l (P + (n - A)) (lane (n - A)) (at8 d i f n) else at8 d i f n⌝
          ∗ (mR.view.loc (thr d i) ↦[Finset.univ]{fullShare} f')) := by
  have hA : A + 32 ≤ 8704 := by have := hd 0; rw [ed] at this; exact this
  iintro ⟨HR, Hm⟩
  unfold g6
  iapply (wp_ld d i mR oa ha _) $$ Hm
  iintro Hm
  iapply (wp_ld d i mR ob hb _) $$ Hm
  iintro Hm
  iapply (wp_chk d i c0)
  iapply (wp_chk d i c1)
  iapply (wp_glist d i hg hP hp0 hp1 l _ _ _ _ _) $$ HR
  iintro HR
  iapply (wp_ld d i mR oc hc _) $$ Hm
  iintro Hm
  iapply (wp_st d i mR oc hc _) $$ Hm
  iintro %f1 %hf1 Hm
  iapply (wp_ld d i mR od hd _) $$ Hm
  iintro Hm
  iapply (wp_st d i mR od hd _) $$ Hm
  iintro %f2 %hf2 Hm
  iapply (wp_done d i)
  isplitl [HR]; · iexact HR
  iexists f2
  isplitr
  · ipureintro
    intro n hn
    have x2 := hf2 n hn
    have x1 := hf1 n hn
    rw [ec] at x1; rw [ed] at x2
    show mR.view.read (Elt F) f2 (ix 8704 n) = _
    rw [x2, x1]
    by_cases hA0 : A ≤ n ∧ n < A + 16
    · rw [if_neg (by omega), if_pos hA0, if_pos (by omega)]
      have e : (lane (n - A) 0).val = n - A := ix_val (by omega) 0
      rw [ea, e, show A + (n - A) = n by omega]
    · by_cases hA1 : A + 16 ≤ n ∧ n < A + 16 + 16
      · rw [if_pos hA1, if_pos (by omega)]
        have e : (lane (n - (A + 16)) 0).val = n - (A + 16) := ix_val (by omega) 0
        have e' : lane (n - (A + 16)) = lane (n - A) := by
          funext a; refine Fin.ext ?_
          show (n - (A + 16)) % 16 = (n - A) % 16
          omega
        rw [eb, e, show A + 16 + (n - (A + 16)) = n by omega, show P + 16 + (n - (A + 16)) = P + (n - A) by omega, e']
      · rw [if_neg hA1, if_neg hA0, if_neg (by omega)]
  · iexact Hm

end

end Cert.Proof.Pool
-- ==== Proof.Halves.lean ====
/-
  The printed loops of the two halves of the row buffer, as instances of one program over the half's
  row indices.
-/
module

public import proofs.«01_k».proof.Proof.Compute

@[expose] public section

set_option maxRecDepth 65536

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The check of a row vector against the sixteen column vectors is that every pair names places of the row buffer. -/
theorem chk3_iff (v100 v103 v106 v109 v112 v115 v118 v121 v124 v127 v130 v133 v136 v139 v142 v145 p : IVec S16 32) :
    k0_chk3 v100 v103 v106 v109 v112 v115 v118 v121 v124 v127 v130 v133 v136 v139 v142 v145 p ↔ ∀ s ∈ [v100, v103, v106, v109, v112, v115, v118, v121, v124, v127, v130, v133, v136, v139, v142, v145], InB p s := by
  simp only [List.forall_mem_cons, List.not_mem_nil, false_imp_iff, implies_true, and_true]
  exact Iff.rfl

/-- The bounds of a block's sixteen gathers, one by one. -/
theorem chk4_iff (v100 v103 v106 v109 v112 v115 v118 v121 v124 v127 v130 v133 v136 v139 v142 v145 p : IVec S16 32) :
    k0_chk4 v100 v103 v106 v109 v112 v115 v118 v121 v124 v127 v130 v133 v136 v139 v142 v145 p ↔ ∀ s ∈ [v100, v103, v106, v109, v112, v115, v118, v121, v124, v127, v130, v133, v136, v139, v142, v145], InB p s := by
  simp only [List.forall_mem_cons, List.not_mem_nil, false_imp_iff, implies_true, and_true]
  exact Iff.rfl

section

variable (i : grid0.Coords)

/-- A load of sixteen node numbers. -/
abbrev ldE (o : Fin 1 → ℕ) (h : ∀ a, o a + S16.size a ≤ S16384.size a) : PR F i (Vec F S16 .i32) :=
  Prog.lift (.load mE (Rect.unit (s := S16384) o S16.size h).toLoadRect (View.loadsAt_vmem h_S16))

variable (pay : Fin k0_t6_loop.trips → IVec S16 32) (v9 : BitVec 32)

/-- One group of rows against one block of node numbers. -/
def b6 (t3 : Fin (k0_t3_loop v9).trips) (v88 : BitVec 32) (hw : k0_chk2 v9 t3 v88) (t5 : Fin (k0_t5_loop v88).trips)
    (v100 v103 v106 v109 v112 v115 v118 v121 v124 v127 v130 v133 v136 v139 v142 v145 : IVec S16 32) : Fin k0_t6_loop.trips → Unit → PR F i Unit :=
  fun t6 _ => g6 i (k0_off9_inb v9 t3 v88 hw t5 t6) (k0_off10_inb v9 t3 v88 hw t5 t6) (k0_off11_inb v9 t3 v88 hw t5 t6)
    (k0_off12_inb v9 t3 v88 hw t5 t6) (pay t6) (k0_pay2 (pay t6)) [v100, v103, v106, v109, v112, v115, v118, v121, v124, v127, v130, v133, v136, v139, v142, v145] _ _
    (k0_chk3.dec v100 v103 v106 v109 v112 v115 v118 v121 v124 v127 v130 v133 v136 v139 v142 v145 (pay t6)) (k0_chk4.dec v100 v103 v106 v109 v112 v115 v118 v121 v124 v127 v130 v133 v136 v139 v142 v145 (k0_pay2 (pay t6))) (chk3_iff v100 v103 v106 v109 v112 v115 v118 v121 v124 v127 v130 v133 v136 v139 v142 v145 _).1 (chk4_iff v100 v103 v106 v109 v112 v115 v118 v121 v124 v127 v130 v133 v136 v139 v142 v145 _).1

/-- All rows of the chunk against one block of node numbers. -/
def b5 (t3 : Fin (k0_t3_loop v9).trips) (v88 : BitVec 32) (hw : k0_chk2 v9 t3 v88) : Fin (k0_t5_loop v88).trips → Unit → PR F i Unit :=
  fun t5 _ => do
    let v100 : Vec F S16 .i32 ← ldE i (k0_off8 v9 t3 v88 t5 0#32) (k0_off8_inb v9 t3 v88 hw t5 0)
    let v103 : Vec F S16 .i32 ← ldE i (k0_off8 v9 t3 v88 t5 16#32) (k0_off8_inb v9 t3 v88 hw t5 1)
    let v106 : Vec F S16 .i32 ← ldE i (k0_off8 v9 t3 v88 t5 32#32) (k0_off8_inb v9 t3 v88 hw t5 2)
    let v109 : Vec F S16 .i32 ← ldE i (k0_off8 v9 t3 v88 t5 48#32) (k0_off8_inb v9 t3 v88 hw t5 3)
    let v112 : Vec F S16 .i32 ← ldE i (k0_off8 v9 t3 v88 t5 64#32) (k0_off8_inb v9 t3 v88 hw t5 4)
    let v115 : Vec F S16 .i32 ← ldE i (k0_off8 v9 t3 v88 t5 80#32) (k0_off8_inb v9 t3 v88 hw t5 5)
    let v118 : Vec F S16 .i32 ← ldE i (k0_off8 v9 t3 v88 t5 96#32) (k0_off8_inb v9 t3 v88 hw t5 6)
    let v121 : Vec F S16 .i32 ← ldE i (k0_off8 v9 t3 v88 t5 112#32) (k0_off8_inb v9 t3 v88 hw t5 7)
    let v124 : Vec F S16 .i32 ← ldE i (k0_off8 v9 t3 v88 t5 128#32) (k0_off8_inb v9 t3 v88 hw t5 8)
    let v127 : Vec F S16 .i32 ← ldE i (k0_off8 v9 t3 v88 t5 144#32) (k0_off8_inb v9 t3 v88 hw t5 9)
    let v130 : Vec F S16 .i32 ← ldE i (k0_off8 v9 t3 v88 t5 160#32) (k0_off8_inb v9 t3 v88 hw t5 10)
    let v133 : Vec F S16 .i32 ← ldE i (k0_off8 v9 t3 v88 t5 176#32) (k0_off8_inb v9 t3 v88 hw t5 11)
    let v136 : Vec F S16 .i32 ← ldE i (k0_off8 v9 t3 v88 t5 192#32) (k0_off8_inb v9 t3 v88 hw t5 12)
    let v139 : Vec F S16 .i32 ← ldE i (k0_off8 v9 t3 v88 t5 208#32) (k0_off8_inb v9 t3 v88 hw t5 13)
    let v142 : Vec F S16 .i32 ← ldE i (k0_off8 v9 t3 v88 t5 224#32) (k0_off8_inb v9 t3 v88 hw t5 14)
    let v145 : Vec F S16 .i32 ← ldE i (k0_off8 v9 t3 v88 t5 240#32) (k0_off8_inb v9 t3 v88 hw t5 15)
    Scf.Loop.for k0_t6_loop k0_t6_ok ⟨⟩ (b6 i pay v9 t3 v88 hw t5 v100 v103 v106 v109 v112 v115 v118 v121 v124 v127 v130 v133 v136 v139 v142 v145)
    pure ⟨⟩

variable (hw1 : k0_chk1 v9) (dead : (t3 : Fin (k0_t3_loop v9).trips) → (v88 : BitVec 32) → k0_chk2 v9 t3 v88 → Fin (k0_t7_loop v88).trips → Unit → PR F i Unit)

/-- One composite unit of `v88` blocks: its accumulators set to minus infinity, then its blocks of node numbers in turn. -/
def b3c (t3 : Fin (k0_t3_loop v9).trips) (v88 : BitVec 32) : PR F i Unit := do
  let w ← Prog.lift (TpuEff.assume (k0_chk2 v9 t3 v88) (k0_chk2.dec v9 t3 v88))
  Scf.Loop.for k0_t4_loop k0_t4_ok ⟨⟩ fun t4 _ => do
    let _ ← ldR i (k0_off7 v9 t3 t4) (k0_off7_inb v9 hw1 t3 t4)
    stR i (k0_off7 v9 t3 t4) (k0_off7_inb v9 hw1 t3 t4) (k0_pay42 (F := F))
    pure ⟨⟩
  Scf.Loop.for (k0_t5_loop v88) (k0_t5_ok v9 t3 v88 w.down) ⟨⟩ (b5 i pay v9 t3 v88 w.down)
  Scf.Loop.for (k0_t7_loop v88) (k0_t7_ok v9 t3 v88 w.down) ⟨⟩ (dead t3 v88 w.down)
  pure ⟨⟩

/-- One composite unit: its block count read, and the unit pooled. -/
def b3 : Fin (k0_t3_loop v9).trips → Unit → PR F i Unit :=
  fun t3 _ => do
    let v86 : Vec F S16 .i32 ← Prog.lift (.load mM (Rect.unit (s := S288) (k0_off6 v9 t3) S16.size (k0_off6_inb v9 hw1 t3)).toLoadRect (View.loadsAt_vmem h_S16))
    b3c i pay v9 hw1 dead t3 (extractAt ![0] (k0_pay41 v86) inpos_S1_p0)

/-- One row of the chunk's result: the accumulators `p` names, stored as row `o` of the output buffer. -/
def ou (o : Fin 2 → ℕ) (ho : ∀ a, o a + S1x16.size a ≤ S1024x16.size a) (p : IVec S16 32)
    (k : PR F i Unit) : PR F i Unit := do
  let w ← Prog.lift (TpuEff.assume (k0_chk12 p) (k0_chk12.dec p))
  let v : Vec F S16 .f32 ← SparseCore.vectorLoadIdx mR ![p] (k0_idx129_inb p w.down) (View.loads_vmem h_S8704)
  let _ : Vec F S1x16 .f32 ← Prog.lift (.load mO (Rect.unit (s := S1024x16) o S1x16.size ho).toLoadRect (View.loadsAt_vmem h_S1x16))
  Prog.lift (.store mO (Rect.unit (s := S1024x16) o S1x16.size ho) (shapeCast S1x16 v shapeCasts_S16_S1x16) Finset.univ (View.stores_vmem_bits_univ h_S1x16 rfl) (.inl rfl))
  k

/-- Four rows of the chunk's result. -/
def b15 (v6 : IVec S16 32) (o : Fin 4 → Fin k0_t15_loop.trips → Fin 2 → ℕ) (ho : ∀ u t a, o u t a + S1x16.size a ≤ S1024x16.size a) :
    Fin k0_t15_loop.trips → Unit → PR F i Unit :=
  fun t _ => ou i (o 0 t) (ho 0 t) (k0_pay17 v6 0#32 1#32 t) <| ou i (o 1 t) (ho 1 t) (k0_pay18 v6 0#32 1#32 t) <|
    ou i (o 2 t) (ho 2 t) (k0_pay19 v6 0#32 1#32 t) <| ou i (o 3 t) (ho 3 t) (k0_pay20 v6 0#32 1#32 t) (pure ⟨⟩)

end

/-- The row numbers of group `t` of the half that starts at row `base`. -/
def rows (v3 : IVec S16 32) (base : BitVec 32) (t : Fin k0_t6_loop.trips) : IVec S16 32 :=
  addi (broadcast S16 (Scalar.addi base (Scalar.muli (Scf.iv 0#32 1#32 t) 32#32))) v3

/-! ## The printed loops -/

variable (i : grid0.Coords) (v2 : BitVec 32) (v3 v6 : IVec S16 32) (v9 : BitVec 32) (hw1 : k0_chk1 v9)

/-- Where the first half's output loop stores its rows. -/
def rowAt0 : Fin 4 → Fin k0_t15_loop.trips → Fin 2 → ℕ
  | 0 => k0_off30 | 1 => k0_off31 | 2 => k0_off32 | 3 => k0_off33

/-- Where the second half's output loop stores its rows. -/
def rowAt1 : Fin 4 → Fin k0_t15_loop.trips → Fin 2 → ℕ
  | 0 => k0_off62 | 1 => k0_off63 | 2 => k0_off64 | 3 => k0_off65

/-- The rows written in the first half lie inside the buffer. -/
theorem rowAt0_inb : ∀ u t a, rowAt0 u t a + S1x16.size a ≤ S1024x16.size a
  | 0 => k0_off30_inb | 1 => k0_off31_inb | 2 => k0_off32_inb | 3 => k0_off33_inb

/-- The same in the second half. -/
theorem rowAt1_inb : ∀ u t a, rowAt1 u t a + S1x16.size a ≤ S1024x16.size a
  | 0 => k0_off62_inb | 1 => k0_off63_inb | 2 => k0_off64_inb | 3 => k0_off65_inb

/-! ### The printed bodies are the instances -/

theorem t6_eq (c0 c1 : BitVec 32) (t2 : Fin k0_t2_loop.trips) (t3 : Fin (k0_t3_loop v9).trips) (a : BitVec 32) (v88 : BitVec 32) (hw : k0_chk2 v9 t3 v88) (t5 : Fin (k0_t5_loop v88).trips) (v100 v103 v106 v109 v112 v115 v118 v121 v124 v127 v130 v133 v136 v139 v142 v145 : IVec S16 32) :
    k0_t6_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 c0 c1 t2 t3 a v88 hw t5 v100 v103 v106 v109 v112 v115 v118 v121 v124 v127 v130 v133 v136 v139 v142 v145 = b6 i (rows v3 0#32) v9 t3 v88 hw t5 v100 v103 v106 v109 v112 v115 v118 v121 v124 v127 v130 v133 v136 v139 v142 v145 := by
  funext t x
  unfold k0_t6_body
  rw [k0_part1_eq_skeleton]
  unfold k0_part1_skel b6 g6
  simp only [glist]
  rfl

/-- The first half's loop over the blocks, in the common form. -/
theorem t5_eq (c0 c1 : BitVec 32) (t2 : Fin k0_t2_loop.trips) (t3 : Fin (k0_t3_loop v9).trips) (a : BitVec 32) (v88 : BitVec 32) (hw : k0_chk2 v9 t3 v88) :
    k0_t5_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 c0 c1 t2 t3 a v88 hw = b5 i (rows v3 0#32) v9 t3 v88 hw := by
  funext t x
  unfold k0_t5_body
  rw [k0_part2_eq_skeleton]
  simp only [t6_eq]
  unfold k0_part2_skel b5
  rfl

/-- The first half's loop over the columns, in the common form. -/
theorem t3_eq (c0 c1 : BitVec 32) (t2 : Fin k0_t2_loop.trips) :
    k0_t3_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 c0 c1 t2
      = b3 i (rows v3 0#32) v9 hw1 fun t3 v88 hw => k0_t7_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 c0 c1 t2 t3 (Scf.iv 0#32 1#32 t3) v88 hw
        (Scalar.addi 0#32 (Scalar.muli (Scalar.divsi (Scalar.subi v88 0#32) 1#32) 1#32)) := by
  funext t x
  unfold k0_t3_body
  simp only [t5_eq]
  unfold b3 b3c k0_t4_body
  rfl

/-- The second half's loop over the points, in the common form. -/
theorem t19_eq (t2 : Fin k0_t2_loop.trips) (a b c : BitVec 32) (t3 : Fin (k0_t16_loop v9).trips) (d : BitVec 32) (v88 : BitVec 32) (hw : k0_chk16 v9 t3 v88) (t5 : Fin (k0_t18_loop v88).trips) (v100 v103 v106 v109 v112 v115 v118 v121 v124 v127 v130 v133 v136 v139 v142 v145 : IVec S16 32) :
    k0_t19_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 t2 a b c t3 d v88 hw t5 v100 v103 v106 v109 v112 v115 v118 v121 v124 v127 v130 v133 v136 v139 v142 v145 = b6 i (rows v3 512#32) v9 t3 v88 hw t5 v100 v103 v106 v109 v112 v115 v118 v121 v124 v127 v130 v133 v136 v139 v142 v145 := by
  funext t x
  unfold k0_t19_body
  rw [k0_part10_eq_skeleton]
  unfold k0_part10_skel b6 g6
  simp only [glist]
  rfl

/-- The second half's loop over the blocks, in the common form. -/
theorem t18_eq (t2 : Fin k0_t2_loop.trips) (a b c : BitVec 32) (t3 : Fin (k0_t16_loop v9).trips) (d : BitVec 32) (v88 : BitVec 32) (hw : k0_chk16 v9 t3 v88) :
    k0_t18_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 t2 a b c t3 d v88 hw = b5 i (rows v3 512#32) v9 t3 v88 hw := by
  funext t x
  unfold k0_t18_body
  rw [k0_part11_eq_skeleton]
  simp only [t19_eq]
  unfold k0_part11_skel b5
  rfl

/-- The second half's loop over the columns, in the common form. -/
theorem t16_eq (t2 : Fin k0_t2_loop.trips) (a b c : BitVec 32) :
    k0_t16_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 t2 a b c
      = b3 i (rows v3 512#32) v9 hw1 fun t3 v88 hw => k0_t20_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 t2 a b c t3 (Scf.iv 0#32 1#32 t3) v88 hw
        (Scalar.addi 0#32 (Scalar.muli (Scalar.divsi (Scalar.subi v88 0#32) 1#32) 1#32)) := by
  funext t x
  unfold k0_t16_body
  simp only [t18_eq]
  unfold b3 b3c k0_t17_body
  rfl

/-- The first half's loop of writes, in the common form. -/
theorem t15_eq (c0 c1 : BitVec 32) (t2 : Fin k0_t2_loop.trips) :
    k0_t15_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 c0 c1 t2 = b15 i v6 rowAt0 rowAt0_inb := by
  funext t x
  unfold k0_t15_body
  rw [k0_part9_eq_skeleton]
  unfold k0_part9_skel b15 ou
  rfl

/-- The second half's loop of writes, in the common form. -/
theorem t28_eq (t2 : Fin k0_t2_loop.trips) (a b c : BitVec 32) :
    k0_t28_body (F := F) i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v6 v9 hw1 t2 a b c = b15 i v6 rowAt1 rowAt1_inb := by
  funext t x
  unfold k0_t28_body
  rw [k0_part18_eq_skeleton]
  unfold k0_part18_skel b15 ou
  rfl

end Cert.Proof.Pool
-- ==== Proof.Chunk.lean ====
/-
  What the pooling of one chunk leaves in the accumulators: after composite unit `D` the running maxima
  of units up to `D`, over all the unit's node numbers, and zero in the block past the last unit.
-/
module

public import proofs.«01_k».proof.Proof.Halves

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Trip counts and offsets -/

theorem t4_trips : k0_t4_loop.trips = 32 := by decide +kernel
/-- A block's loop over the points of a chunk takes sixteen steps. -/
theorem t6_trips : k0_t6_loop.trips = 16 := by decide +kernel
/-- The loop that writes a chunk's results takes 128 steps. -/
theorem t15_trips : k0_t15_loop.trips = 128 := by decide +kernel

/-- A word of small value is the word of that value. -/
theorem of_small {n : ℕ} {P : BitVec 32 → Prop} (h : ∀ k : Fin n, P (BitVec.ofNat 32 k.val)) {v : BitVec 32} (hv : v.toNat < n) : P v := by
  have := h ⟨v.toNat, hv⟩
  rwa [BitVec.ofNat_toNat, BitVec.setWidth_eq] at this

/-- The loop over the distinct columns takes as many steps as there are. -/
theorem t3_trips {v : BitVec 32} (h : v.toNat < 17) : (k0_t3_loop v).trips = v.toNat :=
  of_small (P := fun v => (k0_t3_loop v).trips = v.toNat) (by decide +kernel) h
/-- Its remainder loop takes none. -/
theorem t9_trips {v : BitVec 32} (h : v.toNat < 17) : (k0_t9_loop v).trips = 0 :=
  of_small (P := fun v => (k0_t9_loop v).trips = 0) (by decide +kernel) h
/-- The loop over a column's blocks takes as many steps as there are. -/
theorem t5_trips {v : BitVec 32} (h : v.toNat < 5) : (k0_t5_loop v).trips = v.toNat :=
  of_small (P := fun v => (k0_t5_loop v).trips = v.toNat) (by decide +kernel) h
/-- Its remainder loop takes none. -/
theorem t7_trips {v : BitVec 32} (h : v.toNat < 5) : (k0_t7_loop v).trips = 0 :=
  of_small (P := fun v => (k0_t7_loop v).trips = 0) (by decide +kernel) h

section

variable {v9 : BitVec 32} {t3 : Fin (k0_t3_loop v9).trips}

/-- Where a column's number of blocks is read. -/
theorem off6_val (h : t3.val < 16) : k0_off6 v9 t3 0 = 32 + 16 * t3.val := by
  show (32#32 + (0#32 + BitVec.ofNat 32 t3.val * 1#32) * 16#32).toNat = _
  simp only [BitVec.toNat_add, BitVec.toNat_mul, BitVec.toNat_ofNat]; omega

/-- Where a column's running maxima start, sixteen at a time. -/
theorem off7_val (h : t3.val < 16) (t4 : Fin k0_t4_loop.trips) : k0_off7 v9 t3 t4 0 = 512 * t3.val + 16 * t4.val := by
  have := lt_of_lt_of_eq t4.isLt (t4_trips)
  show ((0#32 + BitVec.ofNat 32 t3.val * 1#32) * 512#32 + (0#32 + BitVec.ofNat 32 t4.val * 1#32) * 16#32).toNat = _
  simp only [BitVec.toNat_add, BitVec.toNat_mul, BitVec.toNat_ofNat]; omega

/-- Where a block's sixteen lists are read. -/
theorem off8_val (h : t3.val < 16) {v88 : BitVec 32} (t5 : Fin (k0_t5_loop v88).trips) (h5 : t5.val < 4) {r : ℕ} (hr : r < 16) :
    k0_off8 v9 t3 v88 t5 (BitVec.ofNat 32 (16 * r)) 0 = (4 * t3.val + t5.val) * 256 + 16 * r := by
  show (((0#32 + BitVec.ofNat 32 t3.val * 1#32) * 4#32 + (0#32 + BitVec.ofNat 32 t5.val * 1#32)) * 256#32 + BitVec.ofNat 32 (16 * r)).toNat = _
  simp only [BitVec.toNat_add, BitVec.toNat_mul, BitVec.toNat_ofNat]; omega

/-- Where the first sixteen running maxima of a step are. -/
theorem off9_val (h : t3.val < 16) (t6 : Fin k0_t6_loop.trips) : k0_off9 v9 t3 t6 0 = 512 * t3.val + 32 * t6.val := by
  have := lt_of_lt_of_eq t6.isLt (t6_trips)
  show ((0#32 + BitVec.ofNat 32 t3.val * 1#32) * 512#32 + (0#32 + BitVec.ofNat 32 t6.val * 1#32) * 32#32).toNat = _
  simp only [BitVec.toNat_add, BitVec.toNat_mul, BitVec.toNat_ofNat]; omega

/-- Where the second sixteen are. -/
theorem off10_val (h : t3.val < 16) (t6 : Fin k0_t6_loop.trips) : k0_off10 v9 t3 t6 0 = 512 * t3.val + 32 * t6.val + 16 := by
  have := lt_of_lt_of_eq t6.isLt (t6_trips)
  show ((0#32 + BitVec.ofNat 32 t3.val * 1#32) * 512#32 + (0#32 + BitVec.ofNat 32 t6.val * 1#32) * 32#32 + 16#32).toNat = _
  simp only [BitVec.toNat_add, BitVec.toNat_mul, BitVec.toNat_ofNat]; omega

/-- The check of a unit's block count: four blocks at most keep every access inside its array. -/
theorem chk2_of (h : t3.val < 16) {v88 : BitVec 32} (hv : v88.toNat < 5) : k0_chk2 v9 t3 v88 := by
  have ht5 : ∀ t5 : Fin (k0_t5_loop v88).trips, t5.val < 4 := fun t5 => by have := lt_of_lt_of_eq t5.isLt (t5_trips hv); omega
  have ht7 : ∀ t7 : Fin (k0_t7_loop v88).trips, False := fun t7 => absurd (lt_of_lt_of_eq t7.isLt (t7_trips hv)) (Nat.not_lt_zero _)
  have ht6 : ∀ t6 : Fin k0_t6_loop.trips, t6.val < 16 := fun t6 => lt_of_lt_of_eq t6.isLt (t6_trips)
  refine ⟨of_small (P := fun v => (k0_t5_loop v).OK) (by decide +kernel) hv, fun t5 r a => ?_, fun t5 t6 a => ?_, fun t5 t6 a => ?_, fun t5 t6 a => ?_, fun t5 t6 a => ?_,
    of_small (P := fun v => (k0_t7_loop v).OK) (by decide +kernel) hv, fun t7 => (ht7 t7).elim, fun t7 => (ht7 t7).elim, fun t7 => (ht7 t7).elim, fun t7 => (ht7 t7).elim, fun t7 => (ht7 t7).elim⟩
  · have := ht5 t5
    obtain rfl := Fin.fin_one_eq_zero a
    rw [off8_val h t5 (ht5 t5) r.isLt]
    show _ + 16 ≤ 16384
    omega
  all_goals
    have := ht6 t6
    obtain rfl := Fin.fin_one_eq_zero a
  · rw [off9_val h]; show _ + 16 ≤ 8704; omega
  · rw [off10_val h]; show _ + 16 ≤ 8704; omega
  · show k0_off9 v9 t3 t6 0 + 16 ≤ 8704; rw [off9_val h]; omega
  · show k0_off10 v9 t3 t6 0 + 16 ≤ 8704; rw [off10_val h]; omega

end

/-! ## The accumulators between the loops -/

section

variable (X : ℕ → ℕ → F .f32) (E td : ℕ → ℕ)

/-- Units before `D` are done, and the block past the last unit is zero. -/
def Done (D : ℕ) (g : ℕ → F .f32) : Prop :=
  (∀ D' < D, ∀ p < 512, g (512 * D' + p) = acc X E D' p (16 * td D')) ∧ ∀ n, 8192 ≤ n → n < 8704 → g n = fzero

/-- Units before `D` are done, and unit `D`'s accumulators hold `v`. -/
def Stage (D : ℕ) (v : ℕ → F .f32) (g : ℕ → F .f32) : Prop :=
  Done X E td D g ∧ ∀ p < 512, g (512 * D + p) = v p

variable {X E td}

/-- A change inside unit `D`'s accumulators leaves the units before it done. -/
theorem Done.change {D : ℕ} (hD : D < 16) {g g' : ℕ → F .f32} (h : Done X E td D g)
    (hg : ∀ n < 8704, ¬ (512 * D ≤ n ∧ n < 512 * D + 512) → g' n = g n) : Done X E td D g' := by
  refine ⟨fun D' hD' p hp => ?_, fun n h1 h2 => ?_⟩
  · rw [hg _ (by omega) (by omega)]; exact h.1 D' hD' p hp
  · rw [hg _ (by omega) (by omega)]; exact h.2 n h1 h2

end

section

variable (d : Dev nD) (i : grid0.Coords)

variable {R : sProp (MT nD τ sig (HIx 1) (Elt F) ℕ (UU F) ℕ)} {X : ℕ → ℕ → F .f32} {lo : ℕ} {E td : ℕ → ℕ}
  {pay : Fin k0_t6_loop.trips → IVec S16 32} {v9 : BitVec 32} {t3 : Fin (k0_t3_loop v9).trips}

/-- One block of sixteen column vectors: every row's running maximum is carried on by sixteen entries. -/
theorem wp_b6 (hg : Gathers d i R X lo) (hlo : lo + 512 ≤ 1024) (hpay : ∀ t x, (pay t x).toNat = lo + 32 * t.val + (x 0).val)
    (h3 : t3.val < 16) {v88 : BitVec 32} (hw : k0_chk2 v9 t3 v88) (t5 : Fin (k0_t5_loop v88).trips) (h5 : t5.val < 4)
    (v100 v103 v106 v109 v112 v115 v118 v121 v124 v127 v130 v133 v136 v139 v142 v145 : IVec S16 32) (hE : ∀ n < 1024, E (t3.val * 1024 + n) < 64)
    (w : Fin 16 → IVec S16 32) (hwl : [v100, v103, v106, v109, v112, v115, v118, v121, v124, v127, v130, v133, v136, v139, v142, v145] = List.ofFn w)
    (hw' : ∀ s x, (w s x).toNat = E (t3.val * 1024 + (16 * t5.val + s.val) * 16 + (x 0).val))
    {f : Buf (Elt F) (mR.view.loc (thr d i))} (hf : Stage X E td t3.val (fun p => acc X E t3.val p (16 * t5.val)) (at8 d i f))
    {Q : Unit → sProp (MT nD τ sig (HIx 1) (Elt F) ℕ (UU F) ℕ)} {k : Unit → PR F i Unit} :
    iprop(R ∗ (mR.view.loc (thr d i) ↦[Finset.univ]{fullShare} f))
      ⊢ iprop((∀ f', ⌜Stage X E td t3.val (fun p => acc X E t3.val p (16 * (t5.val + 1))) (at8 d i f')⌝ -∗ R
            -∗ (mR.view.loc (thr d i) ↦[Finset.univ]{fullShare} f') -∗ wpt d i (k ⟨⟩) Q)
          -∗ wpt d i (Scf.Loop.for k0_t6_loop k0_t6_ok ⟨⟩ (b6 i pay v9 t3 v88 hw t5 v100 v103 v106 v109 v112 v115 v118 v121 v124 v127 v130 v133 v136 v139 v142 v145) >>= k) Q) := by
  generalize hL : [v100, v103, v106, v109, v112, v115, v118, v121, v124, v127, v130, v133, v136, v139, v142, v145] = l at hwl
  have hlen : l.length = 16 := by rw [← hL]; rfl
  have hl : ∀ s (hs : s < l.length) (x : S16.Idx), (l[s] x).toNat = E (t3.val * 1024 + (16 * t5.val + s) * 16 + (x 0).val) := by
    subst hwl
    intro s hs x
    rw [List.getElem_ofFn, hw']
  have hin : ∀ p : IVec S16 32, (∀ x, (p x).toNat < 1024) → ∀ s ∈ l, InB p s := by
    intro p hp s hs a x
    obtain ⟨n, hn, rfl⟩ := List.getElem_of_mem hs
    fin_cases a
    · exact hp x
    · have := lane_lt x
      show (l[n] x).toNat < 64
      rw [hl n hn x, Nat.add_assoc]
      exact hE _ (by omega)
  have hp1 : ∀ (t : Fin k0_t6_loop.trips) (x : S16.Idx), (k0_pay2 (pay t) x).toNat = lo + 32 * t.val + 16 + (x 0).val := by
    intro t x
    have := lt_of_lt_of_eq t.isLt (t6_trips)
    have := lane_lt x
    show (pay t x + 16#32).toNat = _
    rw [BitVec.toNat_add, hpay]
    show (lo + 32 * t.val + (x 0).val + 16) % 2 ^ 32 = _
    omega
  iintro ⟨HR, Hm⟩ Hk
  iapply (wp_loop d i (l := k0_t6_loop) (fun g => iprop(R ∗ ∃ f',
      ⌜Stage X E td t3.val (fun p => if p < 32 * g then acc X E t3.val p (16 * (t5.val + 1)) else acc X E t3.val p (16 * t5.val)) (at8 d i f')⌝
      ∗ (mR.view.loc (thr d i) ↦[Finset.univ]{fullShare} f'))) ?_) $$ [HR Hm]
  · intro t6
    have ht6 : t6.val < 16 := lt_of_lt_of_eq t6.isLt t6_trips
    iintro ⟨HR, %f0, %h0, Hm⟩
    have hrun := wp_g6 d i hg (k0_off9_inb v9 t3 v88 hw t5 t6) (k0_off10_inb v9 t3 v88 hw t5 t6) (k0_off11_inb v9 t3 v88 hw t5 t6)
      (k0_off12_inb v9 t3 v88 hw t5 t6) (p0 := pay t6) (p1 := k0_pay2 (pay t6)) (l := [v100, v103, v106, v109, v112, v115, v118, v121, v124, v127, v130, v133, v136, v139, v142, v145])
      (d0 := k0_chk3.dec v100 v103 v106 v109 v112 v115 v118 v121 v124 v127 v130 v133 v136 v139 v142 v145 (pay t6)) (d1 := k0_chk4.dec v100 v103 v106 v109 v112 v115 v118 v121 v124 v127 v130 v133 v136 v139 v142 v145 (k0_pay2 (pay t6)))
      (h0 := (chk3_iff v100 v103 v106 v109 v112 v115 v118 v121 v124 v127 v130 v133 v136 v139 v142 v145 _).1) (h1 := (chk4_iff v100 v103 v106 v109 v112 v115 v118 v121 v124 v127 v130 v133 v136 v139 v142 v145 _).1)
      ((chk3_iff v100 v103 v106 v109 v112 v115 v118 v121 v124 v127 v130 v133 v136 v139 v142 v145 _).2 (hL ▸ hin _ fun x => by have := lane_lt x; rw [hpay]; omega))
      ((chk4_iff v100 v103 v106 v109 v112 v115 v118 v121 v124 v127 v130 v133 v136 v139 v142 v145 _).2 (hL ▸ hin _ fun x => by have := lane_lt x; rw [hp1]; omega))
      (A := 512 * t3.val + 32 * t6.val) (P := 32 * t6.val) (off9_val h3 t6) (off10_val h3 t6) (off9_val h3 t6) (off10_val h3 t6)
      (by omega) (fun x => hpay t6 x) (fun x => hp1 t6 x) f0
    ihave Hw := hrun $$ [HR Hm]
    · isplitl [HR] <;> iassumption
    iapply (wp_mono frame (wpE (defs₀ (F := F)) 𝒱₀ (thr d i) none) Set.univ (fun _ => ?_)) $$ Hw
    iintro ⟨HR, %f1, %h1, Hm⟩
    rw [hL] at h1
    isplitl [HR]; · iexact HR
    iexists f1
    isplitr
    · ipureintro
      refine ⟨h0.1.change h3 fun n hn hne => ?_, fun p hp => ?_⟩
      · rw [h1 n hn, if_neg (by omega)]
      · rw [h1 _ (by omega), h0.2 p hp]
        beta_reduce
        by_cases hA : 32 * t6.val ≤ p ∧ p < 32 * t6.val + 32
        · rw [if_pos (by omega), if_neg (by omega), if_pos (by omega)]
          have e : 32 * t6.val + (512 * t3.val + p - (512 * t3.val + 32 * t6.val)) = p := by omega
          rw [e, mfold_acc X E t3.val p _ l (16 * t5.val) fun s hs => ?_, hlen, Nat.mul_succ]
          rw [hl s hs]
          congr 1
          show _ + (512 * t3.val + p - (512 * t3.val + 32 * t6.val)) % 16 = _
          omega
        · rw [if_neg (by omega)]
          by_cases hB : p < 32 * t6.val
          · rw [if_pos hB, if_pos (by omega)]
          · rw [if_neg hB, if_neg (by omega)]
    · iexact Hm
  · isplitl [HR]; · iexact HR
    iexists f
    isplitr
    · ipureintro
      refine ⟨hf.1, fun p hp => ?_⟩
      exact (hf.2 p hp).trans (if_neg (by omega)).symm
    · iexact Hm
  · iintro ⟨HR, %f1, %h1, Hm⟩
    ispecialize Hk $$ %f1 %(⟨h1.1, fun p hp => (h1.2 p hp).trans (if_pos (by rw [t6_trips]; omega))⟩)
    ispecialize Hk $$ HR
    iapply Hk
    iexact Hm

/-- The tables a chunk is pooled by, held while it is: the node table reads as `E`, the metadata as `M`. -/
def Tables (fe : Buf (Elt F) (mE.view.loc (thr d i))) (fm : Buf (Elt F) (mM.view.loc (thr d i))) (E : ℕ → ℕ) (M : ℕ → BitVec 32) : Prop :=
  (∀ n < 16384, (show BitVec 32 from mE.view.read (Elt F) fe (ix 16384 n)).toNat = E n) ∧ ∀ n < 288, mM.view.read (Elt F) fm (ix 288 n) = M n

variable {fe : Buf (Elt F) (mE.view.loc (thr d i))} {fm : Buf (Elt F) (mM.view.loc (thr d i))} {M : ℕ → BitVec 32}

/-- One block's loop over the points carries every running maximum on by the block's sixteen entries. -/
theorem wp_b5 (hg : Gathers d i R X lo) (hlo : lo + 512 ≤ 1024) (hpay : ∀ t x, (pay t x).toNat = lo + 32 * t.val + (x 0).val)
    (h3 : t3.val < 16) {v88 : BitVec 32} (hw : k0_chk2 v9 t3 v88) (t5 : Fin (k0_t5_loop v88).trips) (h5 : t5.val < 4)
    (hE : ∀ n < 1024, E (t3.val * 1024 + n) < 64) (hT : Tables d i fe fm E M)
    {f : Buf (Elt F) (mR.view.loc (thr d i))} (hf : Stage X E td t3.val (fun p => acc X E t3.val p (16 * t5.val)) (at8 d i f)) :
    iprop(R ∗ (mE.view.loc (thr d i) ↦[Finset.univ]{fullShare} fe) ∗ (mR.view.loc (thr d i) ↦[Finset.univ]{fullShare} f))
      ⊢ wpt d i (b5 i pay v9 t3 v88 hw t5 ⟨⟩) fun _ => iprop(R ∗ (mE.view.loc (thr d i) ↦[Finset.univ]{fullShare} fe) ∗ ∃ f',
          ⌜Stage X E td t3.val (fun p => acc X E t3.val p (16 * (t5.val + 1))) (at8 d i f')⌝
          ∗ (mR.view.loc (thr d i) ↦[Finset.univ]{fullShare} f')) := by
  iintro ⟨HR, HE, Hm⟩
  unfold b5
  iterate 16
    iapply (wp_ld d i mE _ _ _) $$ HE
    iintro HE
  iapply (wp_b6 d i hg hlo hpay h3 hw t5 h5 _ _ _ _ _ _ _ _ _ _ _ _ _ _ _ _ hE
    (fun s x => (show BitVec 32 from mE.view.read (Elt F) fe (ix 16384 (k0_off8 v9 t3 v88 t5 (BitVec.ofNat 32 (16 * s.val)) 0 + (x 0).val)))) rfl
    (fun s x => ?_) hf) $$ [HR Hm]
  · have hx := lane_lt x
    show (show BitVec 32 from mE.view.read (Elt F) fe (ix 16384 (k0_off8 v9 t3 v88 t5 (BitVec.ofNat 32 (16 * s.val)) 0 + (x 0).val))).toNat = _
    rw [off8_val h3 t5 h5 s.isLt, hT.1 _ (by omega)]
    congr 1; omega
  · isplitl [HR] <;> iassumption
  · iintro %f' %hf' HR Hm
    iapply (wp_done d i)
    isplitl [HR]; · iexact HR
    isplitl [HE]; · iexact HE
    iexists f'
    isplitr
    · ipureintro; exact hf'
    · iexact Hm

/-- One composite unit pooled: of its `td` blocks of node numbers, every row's maximum over all. -/
theorem wp_b3c (hg : Gathers d i R X lo) (hlo : lo + 512 ≤ 1024) (hpay : ∀ t x, (pay t x).toNat = lo + 32 * t.val + (x 0).val)
    (h3 : t3.val < 16) {v88 : BitVec 32} (hv : v88.toNat = td t3.val) (htd : td t3.val < 5)
    (hE : ∀ n < 1024, E (t3.val * 1024 + n) < 64) (hT : Tables d i fe fm E M)
    (hw1 : k0_chk1 v9) (dead : (t3 : Fin (k0_t3_loop v9).trips) → (v88 : BitVec 32) → k0_chk2 v9 t3 v88 → Fin (k0_t7_loop v88).trips → Unit → PR F i Unit)
    {f : Buf (Elt F) (mR.view.loc (thr d i))} (hf : Done X E td t3.val (at8 d i f)) :
    iprop(R ∗ (mE.view.loc (thr d i) ↦[Finset.univ]{fullShare} fe) ∗ (mR.view.loc (thr d i) ↦[Finset.univ]{fullShare} f))
      ⊢ wpt d i (b3c i pay v9 hw1 dead t3 v88) fun _ => iprop(R ∗ (mE.view.loc (thr d i) ↦[Finset.univ]{fullShare} fe) ∗ ∃ f',
          ⌜Done X E td (t3.val + 1) (at8 d i f')⌝ ∗ (mR.view.loc (thr d i) ↦[Finset.univ]{fullShare} f')) := by
  iintro ⟨HR, HE, Hm⟩
  unfold b3c
  iapply (wp_chk d i (chk2_of h3 (by omega)))
  iapply (wp_loop d i (l := k0_t4_loop) (fun g => iprop(∃ f',
      ⌜Done X E td t3.val (at8 d i f') ∧ ∀ p < 16 * g, at8 d i f' (512 * t3.val + p) = ninf⌝
      ∗ (mR.view.loc (thr d i) ↦[Finset.univ]{fullShare} f'))) ?_) $$ [Hm]
  · intro t4
    have ht4 : t4.val < 32 := lt_of_lt_of_eq t4.isLt t4_trips
    iintro ⟨%f0, %h0, Hm⟩
    iapply (wp_ld d i mR (k0_off7 v9 t3 t4) (k0_off7_inb v9 hw1 t3 t4) _) $$ Hm
    iintro Hm
    iapply (wp_st d i mR (k0_off7 v9 t3 t4) (k0_off7_inb v9 hw1 t3 t4) _) $$ Hm
    iintro %f1 %h1 Hm
    iapply (wp_done d i)
    iexists f1
    isplitr
    · ipureintro
      have h1' : ∀ n < 8704, at8 d i f1 n = if 512 * t3.val + 16 * t4.val ≤ n ∧ n < 512 * t3.val + 16 * t4.val + 16 then ninf else at8 d i f0 n := by
        rw [off7_val h3 t4] at h1; exact h1
      refine ⟨h0.1.change h3 fun n hn hne => ?_, fun p hp => ?_⟩
      · rw [h1' n hn, if_neg (by omega)]
      · rw [h1' _ (by omega)]
        by_cases hA : p < 16 * t4.val
        · rw [if_neg (by omega)]; exact h0.2 p hA
        · rw [if_pos (by omega)]
    · iexact Hm
  · iexists f
    isplitr
    · ipureintro; exact ⟨hf, fun p hp => absurd hp (by omega)⟩
    · iexact Hm
  iintro ⟨%f0, %h0, Hm⟩
  iapply (wp_loop d i (l := k0_t5_loop v88) (fun b => iprop(R ∗ (mE.view.loc (thr d i) ↦[Finset.univ]{fullShare} fe) ∗ ∃ f',
      ⌜Stage X E td t3.val (fun p => acc X E t3.val p (16 * b)) (at8 d i f')⌝
      ∗ (mR.view.loc (thr d i) ↦[Finset.univ]{fullShare} f'))) ?_) $$ [HR HE Hm]
  · intro t5
    have ht5 : t5.val < v88.toNat := lt_of_lt_of_eq t5.isLt (t5_trips (by omega))
    iintro ⟨HR, HE, %f0, %h0, Hm⟩
    iapply (wp_b5 d i hg hlo hpay h3 _ t5 (by omega) hE hT h0)
    isplitl [HR]; · iexact HR
    isplitl [HE] <;> iassumption
  · isplitl [HR]; · iexact HR
    isplitl [HE]; · iexact HE
    iexists f0
    isplitr
    · ipureintro
      exact ⟨h0.1, fun p hp => h0.2 p (by rw [t4_trips]; omega)⟩
    · iexact Hm
  iintro ⟨HR, HE, %f1, %h1, Hm⟩
  iapply (wp_loop0 d i (t7_trips (by omega)))
  iapply (wp_done d i)
  isplitl [HR]; · iexact HR
  isplitl [HE]; · iexact HE
  iexists f1
  isplitr
  · ipureintro
    refine ⟨fun D' hD' p hp => ?_, h1.1.2⟩
    rcases Nat.lt_succ_iff_lt_or_eq.1 hD' with h | rfl
    · exact h1.1.1 D' h p hp
    · exact (h1.2 p hp).trans (congrArg (fun n => acc X E t3.val p (16 * n)) ((t5_trips (by omega)).trans hv))
  · iexact Hm

/-- What the metadata must say for the pooling of a chunk to be in range. -/
structure TabOK (E : ℕ → ℕ) (M : ℕ → BitVec 32) : Prop where
  num : (M 16).toNat < 17
  blocks : ∀ D < (M 16).toNat, (M (32 + 16 * D)).toNat < 5
  nodes : ∀ D < (M 16).toNat, ∀ n < 1024, E (D * 1024 + n) < 64
  units : ∀ c < 16, (M c).toNat < (M 16).toNat ∨ (M c).toNat = 16

/-- The block count of unit `D`. -/
abbrev tdM (M : ℕ → BitVec 32) (D : ℕ) : ℕ := (M (32 + 16 * D)).toNat

/-- The pooling loop: all composite units in turn. -/
theorem wp_units (hg : Gathers d i R X lo) (hlo : lo + 512 ≤ 1024) (hpay : ∀ t x, (pay t x).toNat = lo + 32 * t.val + (x 0).val)
    (hT : Tables d i fe fm E M) (hM : TabOK E M) {ok : (k0_t3_loop (M 16)).OK}
    (hw1 : k0_chk1 (M 16)) (dead : (t3 : Fin (k0_t3_loop (M 16)).trips) → (v88 : BitVec 32) → k0_chk2 (M 16) t3 v88 → Fin (k0_t7_loop v88).trips → Unit → PR F i Unit)
    {f : Buf (Elt F) (mR.view.loc (thr d i))} (hf : Done X E (tdM M) 0 (at8 d i f))
    {α : Type} {Q : α → sProp (MT nD τ sig (HIx 1) (Elt F) ℕ (UU F) ℕ)} {k : Unit → PR F i α} :
    iprop(R ∗ (mE.view.loc (thr d i) ↦[Finset.univ]{fullShare} fe) ∗ (mM.view.loc (thr d i) ↦[Finset.univ]{fullShare} fm) ∗ (mR.view.loc (thr d i) ↦[Finset.univ]{fullShare} f))
      ⊢ iprop((∀ f', ⌜Done X E (tdM M) (M 16).toNat (at8 d i f')⌝ -∗ R -∗ (mE.view.loc (thr d i) ↦[Finset.univ]{fullShare} fe)
            -∗ (mM.view.loc (thr d i) ↦[Finset.univ]{fullShare} fm) -∗ (mR.view.loc (thr d i) ↦[Finset.univ]{fullShare} f') -∗ wpt d i (k ⟨⟩) Q)
          -∗ wpt d i (Scf.Loop.for (k0_t3_loop (M 16)) ok ⟨⟩ (b3 i pay (M 16) hw1 dead) >>= k) Q) := by
  have hN := hM.num
  iintro ⟨HR, HE, HM, Hm⟩ Hk
  iapply (wp_loop d i (l := k0_t3_loop (M 16)) (fun D => iprop(R ∗ (mE.view.loc (thr d i) ↦[Finset.univ]{fullShare} fe)
      ∗ (mM.view.loc (thr d i) ↦[Finset.univ]{fullShare} fm) ∗ ∃ f', ⌜Done X E (tdM M) D (at8 d i f')⌝
      ∗ (mR.view.loc (thr d i) ↦[Finset.univ]{fullShare} f'))) ?_) $$ [HR HE HM Hm]
  · intro t3
    have ht3 : t3.val < (M 16).toNat := lt_of_lt_of_eq t3.isLt (t3_trips hN)
    iintro ⟨HR, HE, HM, %f0, %h0, Hm⟩
    unfold b3
    iapply (wp_ld d i mM (k0_off6 (M 16) t3) (k0_off6_inb (M 16) hw1 t3) _) $$ HM
    iintro HM
    have hv : (extractAt ![0] (k0_pay41 (F := F) fun x => mM.view.read (Elt F) fm (ix 288 (k0_off6 (M 16) t3 0 + (x 0).val))) inpos_S1_p0).toNat = tdM M t3.val := by
      show (show BitVec 32 from mM.view.read (Elt F) fm (ix 288 (k0_off6 (M 16) t3 0 + 0))).toNat = _
      rw [off6_val (by omega), hT.2 _ (by omega)]
      rfl
    ihave Hw := (wp_b3c d i hg hlo hpay (by omega) hv (hM.blocks _ ht3) (hM.nodes _ ht3) hT hw1 dead h0) $$ [HR HE Hm]
    · isplitl [HR]; · iexact HR
      isplitl [HE] <;> iassumption
    iapply (wp_wand (Fr := frame) (wpE (defs₀ (F := F)) 𝒱₀ (thr d i) none) Set.univ) $$ Hw
    iintro %_ ⟨HR, HE, Hm⟩
    isplitl [HR]; · iexact HR
    isplitl [HE]; · iexact HE
    isplitl [HM] <;> iassumption
  · isplitl [HR]; · iexact HR
    isplitl [HE]; · iexact HE
    isplitl [HM]; · iexact HM
    iexists f
    isplitr
    · ipureintro; exact hf
    · iexact Hm
  · iintro ⟨HR, HE, HM, %f1, %h1, Hm⟩
    ispecialize Hk $$ %f1 %(t3_trips hN ▸ h1) HR HE HM
    iapply Hk
    iexact Hm

end

end Cert.Proof.Pool
-- ==== Proof.Out.lean ====
/-
  The output loop of one chunk: row by row, the sixteen accumulators a row's columns name are
  gathered and stored as the row, in the half of the output buffer the chunk has.
-/
module

public import proofs.«01_k».proof.Proof.Chunk

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## Bands of rows -/

/-- The rows `a` to `b` of an `M` by `N` array. -/
def rws (M N a b : ℕ) : Finset (⟨2, ![M, N]⟩ : Shape).Idx := Finset.univ.filter fun y => a ≤ (y 0).val ∧ (y 0).val < b

/-- The places of the rows from `a` to `b`. -/
theorem mem_rws {M N a b : ℕ} {y : (⟨2, ![M, N]⟩ : Shape).Idx} : y ∈ rws M N a b ↔ a ≤ (y 0).val ∧ (y 0).val < b := by
  simp [rws]

/-- A slice of whole rows is a band. -/
theorem unit_rws {M N n : ℕ} {off : Fin 2 → ℕ} {sz : Fin 2 → ℕ} (inb : ∀ a, off a + sz a ≤ (⟨2, ![M, N]⟩ : Shape).size a)
    (h0 : sz 0 = n) (h1 : sz 1 = N) : (Rect.unit (s := ⟨2, ![M, N]⟩) off sz inb).set = rws M N (off 0) (off 0 + n) := by
  ext y
  rw [Rect.mem_set_unit, mem_rws]
  constructor
  · intro h; have := h 0; omega
  · intro h a
    have hi : off 1 + sz 1 ≤ N := inb 1
    have hy : (y 1).val < N := (y 1).isLt
    fin_cases a
    · exact ⟨h.1, by show (y 0).val < off 0 + sz 0; omega⟩
    · exact ⟨by show off 1 ≤ (y 1).val; omega, by show (y 1).val < off 1 + sz 1; omega⟩

/-- Rows from `a` to `c` are those to `b` and those from `b`. -/
theorem rws_union {M N a b c : ℕ} (h : a ≤ b) (h' : b ≤ c) : rws M N a c = rws M N a b ∪ rws M N b c := by
  ext y; rw [Finset.mem_union, mem_rws, mem_rws, mem_rws]; omega

/-- The two do not meet. -/
theorem rws_disjoint {M N a b c : ℕ} : Disjoint (rws M N a b) (rws M N b c) :=
  Finset.disjoint_left.2 fun y h h' => by rw [mem_rws] at h h'; omega

section

variable (d : Dev nD) (i : grid0.Coords)

/-- Row `r`, column `c` of the output buffer's contents `g`. -/
abbrev atO (g : Buf (Elt F) (mO.view.loc (thr d i))) (r c : ℕ) : F .f32 := mO.view.read (Elt F) g (ix2 1024 16 r c)

/-- Sixteen words laid as a row are read at their column. -/
theorem row16 {β : Type} (v : S16.Idx → β) (c : ℕ) : shapeCast S1x16 v shapeCasts_S16_S1x16 (ix2 1 16 0 c) = v (lane c) :=
  congrArg v (Shape.reshapeEquiv_eq_of_rowMajor (y := lane c) shapeCasts_S16_S1x16 (by
    rw [Shape.rowMajor_val_one, Shape.rowMajor_val_two]
    show c % 16 = 0 % 1 * 16 + c % 16
    omega))

/-- One row of the output buffer written with the accumulators `p` names. -/
theorem wp_ou {S : Finset (Idx (mO.view.loc (thr d i)))} {o : Fin 2 → ℕ} (ho : ∀ a, o a + S1x16.size a ≤ S1024x16.size a) (ho1 : o 1 = 0)
    (hS : rws 1024 16 (o 0) (o 0 + 1) ⊆ S) {p : IVec S16 32} (hp : ∀ x, (p x).toNat < 8704)
    {fr : Buf (Elt F) (mR.view.loc (thr d i))} {g : Buf (Elt F) (mO.view.loc (thr d i))}
    {Q : Unit → sProp (MT nD τ sig (HIx 1) (Elt F) ℕ (UU F) ℕ)} {k : PR F i Unit} :
    iprop((mR.view.loc (thr d i) ↦[Finset.univ]{fullShare} fr) ∗ (mO.view.loc (thr d i) ↦[S]{fullShare} g))
      ⊢ iprop((∀ g', ⌜∀ r < 1024, ∀ c < 16, atO d i g' r c = if r = o 0 then at8 d i fr (p (lane c)).toNat else atO d i g r c⌝
            -∗ (mR.view.loc (thr d i) ↦[Finset.univ]{fullShare} fr) -∗ (mO.view.loc (thr d i) ↦[S]{fullShare} g') -∗ wpt d i k Q)
          -∗ wpt d i (ou i o ho p k) Q) := by
  have hchk : k0_chk12 p := fun a x => by obtain rfl := Fin.fin_one_eq_zero a; exact hp x
  have hset : (mO.access (Rect.unit (s := S1024x16) o S1x16.size ho)).set ⊆ S := by
    refine ((View.set_slice_whole _ _).trans (unit_rws (M := 1024) (N := 16) (n := 1) ho rfl rfl)).trans_subset hS
  iintro ⟨HR, HO⟩ Hk
  unfold ou
  iapply (wp_chk d i hchk)
  iapply (SparseCore.wp_vectorLoadIdx 𝒱₀ (thr d i) none Set.univ (base := mR) (S := Finset.univ) (q := fullShare) (f := fr) (Finset.subset_univ _)) $$ HR
  iintro HR
  iapply (wp_load_rect 𝒱₀ (thr d i) none Set.univ (m := mO) (r := Rect.unit (s := S1024x16) o S1x16.size ho) (S := S) (q := fullShare) (f := g) hset) $$ HO
  iintro HO
  iapply (wp_store 𝒱₀ (thr d i) none Set.univ (m := mO) (r := Rect.unit (s := S1024x16) o S1x16.size ho) (Mk := Finset.univ) (S := S) (f := g) hset) $$ HO
  iintro HO
  ispecialize Hk $$ %_ %(fun r hr c hc => ?_) HR
  rotate_left
  · iapply Hk; iexact HO
  · have hr' : r % 1024 = r := Nat.mod_eq_of_lt hr
    have hc' : c % 16 = c := Nat.mod_eq_of_lt hc
    split
    · next h =>
      refine (View.read_writes_cons_hit_of_coords mO.view g (Rect.unit (s := S1024x16) o S1x16.size ho) _ [] (ix2 1 16 0 c) (ix2 1024 16 r c) fun a => ?_).trans ?_
      · fin_cases a
        · show r % 1024 = o 0 + 1 * (0 % 1); omega
        · show c % 16 = o 1 + 1 * (c % 16); omega
      · refine (row16 (loadIdx ((mR.access (Rect.whole S8704)).read (Elt F) fr) ![p] (k0_idx129_inb p hchk)) c).trans ?_
        exact congrArg fr (ix_eq (N := 8704) (by show 0 + 1 * (p (lane c)).toNat = _; omega))
    · next h =>
      refine View.read_writes_cons_miss_of_axis mO.view g ⟨Rect.unit (s := S1024x16) o S1x16.size ho, _⟩ [] (ix2 1024 16 r c) 0 (o 0) 1 rfl rfl rfl ?_
      show r % 1024 < o 0 ∨ o 0 + 1 ≤ r % 1024
      omega

/-- A sum of small words is the sum of the numbers. -/
theorem of_add (a b : ℕ) (w : BitVec 32) (ha : w.toNat = a) (h : a + b < 8704) : (w + BitVec.ofNat 32 b).toNat = a + b := by
  rw [BitVec.toNat_add, BitVec.toNat_ofNat, ha]; omega

/-- The output loop: each row of the half takes, at each column, the accumulator of the column's unit for the row. -/
theorem wp_out {lo : ℕ} {S : Finset (Idx (mO.view.loc (thr d i)))} (hS : rws 1024 16 lo (lo + 512) ⊆ S) (hlo : lo + 512 ≤ 1024)
    {o : Fin 4 → Fin k0_t15_loop.trips → Fin 2 → ℕ} (ho : ∀ u t a, o u t a + S1x16.size a ≤ S1024x16.size a)
    (hov : ∀ u t, o u t = ![lo + 4 * t.val + u.val, 0]) {v6 : IVec S16 32} {m : ℕ → ℕ} (hv : ∀ c < 16, (v6 (lane c)).toNat = 512 * m c)
    (hm : ∀ c < 16, m c < 17) {ok : k0_t15_loop.OK}
    {fr : Buf (Elt F) (mR.view.loc (thr d i))} {g : Buf (Elt F) (mO.view.loc (thr d i))}
    {α : Type} {Q : α → sProp (MT nD τ sig (HIx 1) (Elt F) ℕ (UU F) ℕ)} {k : Unit → PR F i α} :
    iprop((mR.view.loc (thr d i) ↦[Finset.univ]{fullShare} fr) ∗ (mO.view.loc (thr d i) ↦[S]{fullShare} g))
      ⊢ iprop((∀ g', ⌜∀ r < 512, ∀ c < 16, atO d i g' (lo + r) c = at8 d i fr (512 * m c + r)⌝
            -∗ (mR.view.loc (thr d i) ↦[Finset.univ]{fullShare} fr) -∗ (mO.view.loc (thr d i) ↦[S]{fullShare} g') -∗ wpt d i (k ⟨⟩) Q)
          -∗ wpt d i (Scf.Loop.for k0_t15_loop ok ⟨⟩ (b15 i v6 o ho) >>= k) Q) := by
  iintro ⟨HR, HO⟩ Hk
  iapply (wp_loop d i (l := k0_t15_loop) (fun t => iprop((mR.view.loc (thr d i) ↦[Finset.univ]{fullShare} fr)
      ∗ ∃ g', ⌜∀ r < 4 * t, ∀ c < 16, atO d i g' (lo + r) c = at8 d i fr (512 * m c + r)⌝ ∗ (mO.view.loc (thr d i) ↦[S]{fullShare} g'))) ?_) $$ [HR HO]
  · intro t
    have ht : t.val < 128 := lt_of_lt_of_eq t.isLt t15_trips
    have hu : ∀ u : Fin 4, ∀ c < 16, (v6 (lane c) + BitVec.ofNat 32 (4 * t.val + u.val)).toNat = 512 * m c + 4 * t.val + u.val := fun u c hc => by
      have := hm c hc; have := hv c hc
      rw [of_add (512 * m c) _ _ this (by omega)]; omega
    have e : ∀ u : Fin 4, (0#32 + BitVec.ofNat 32 t.val * 1#32) * 4#32 + BitVec.ofNat 32 u.val = BitVec.ofNat 32 (4 * t.val + u.val) := fun u =>
      BitVec.eq_of_toNat_eq (by simp only [BitVec.toNat_add, BitVec.toNat_mul, BitVec.toNat_ofNat]; omega)
    have hp0 : ∀ c < 16, (k0_pay17 v6 0#32 1#32 t (lane c)).toNat = 512 * m c + 4 * t.val + 0 := fun c hc => (congrArg (fun z => (v6 (lane c) + z).toNat) (e 0)).trans (hu 0 c hc)
    have hp1 : ∀ c < 16, (k0_pay18 v6 0#32 1#32 t (lane c)).toNat = 512 * m c + 4 * t.val + 1 := fun c hc => (congrArg (fun z => (v6 (lane c) + z).toNat) (e 1)).trans (hu 1 c hc)
    have hp2 : ∀ c < 16, (k0_pay19 v6 0#32 1#32 t (lane c)).toNat = 512 * m c + 4 * t.val + 2 := fun c hc => (congrArg (fun z => (v6 (lane c) + z).toNat) (e 2)).trans (hu 2 c hc)
    have hp3 : ∀ c < 16, (k0_pay20 v6 0#32 1#32 t (lane c)).toNat = 512 * m c + 4 * t.val + 3 := fun c hc => (congrArg (fun z => (v6 (lane c) + z).toNat) (e 3)).trans (hu 3 c hc)
    have hb : ∀ (u : ℕ) (p : IVec S16 32), u < 4 → (∀ c < 16, (p (lane c)).toNat = 512 * m c + 4 * t.val + u) → ∀ x, (p x).toNat < 8704 := fun u p hu h x => by
      have := h (x 0).val (lane_lt x); rw [show lane (x 0).val = x from ix_self x] at this
      have := hm (x 0).val (lane_lt x); omega
    have hs : ∀ u : Fin 4, rws 1024 16 (o u t 0) (o u t 0 + 1) ⊆ S := fun u y hy => hS (by
      rw [mem_rws] at hy ⊢; rw [hov] at hy
      have h1 : lo + 4 * t.val + u.val ≤ (y 0).val ∧ (y 0).val < lo + 4 * t.val + u.val + 1 := hy
      omega)
    have h1 : ∀ u, o u t 1 = 0 := fun u => by rw [hov]; rfl
    have h0 : ∀ u, o u t 0 = lo + 4 * t.val + u.val := fun u => by rw [hov]; rfl
    iintro ⟨HR, %g0, %hg0, HO⟩
    unfold b15
    iapply (wp_ou d i (ho 0 t) (h1 0) (hs 0) (hb 0 _ (by omega) hp0)) $$ [HR HO]
    · isplitl [HR] <;> iassumption
    iintro %g1 %hg1 HR HO
    iapply (wp_ou d i (ho 1 t) (h1 1) (hs 1) (hb 1 _ (by omega) hp1)) $$ [HR HO]
    · isplitl [HR] <;> iassumption
    iintro %g2 %hg2 HR HO
    iapply (wp_ou d i (ho 2 t) (h1 2) (hs 2) (hb 2 _ (by omega) hp2)) $$ [HR HO]
    · isplitl [HR] <;> iassumption
    iintro %g3 %hg3 HR HO
    iapply (wp_ou d i (ho 3 t) (h1 3) (hs 3) (hb 3 _ (by omega) hp3)) $$ [HR HO]
    · isplitl [HR] <;> iassumption
    iintro %g4 %hg4 HR HO
    iapply (wp_done d i)
    isplitl [HR]; · iexact HR
    iexists g4
    isplitr
    · ipureintro
      intro r hr c hc
      rw [h0] at hg1 hg2 hg3 hg4
      rw [hg4 _ (by omega) c hc, hg3 _ (by omega) c hc, hg2 _ (by omega) c hc, hg1 _ (by omega) c hc, hp0 c hc, hp1 c hc, hp2 c hc, hp3 c hc]
      simp only [Fin.val_zero, Fin.val_one, show (2 : Fin 4).val = 2 from rfl, show (3 : Fin 4).val = 3 from rfl, Nat.add_zero]
      split
      · congr 1; omega
      split
      · congr 1; omega
      split
      · congr 1; omega
      split
      · congr 1; omega
      exact hg0 r (by omega) c hc
    · iexact HO
  · isplitl [HR]; · iexact HR
    iexists g
    isplitr
    · ipureintro; intro r hr; exact absurd hr (by omega)
    · iexact HO
  · iintro ⟨HR, %g1, %h1, HO⟩
    ispecialize Hk $$ %g1 %(fun r hr c hc => h1 r (by rw [t15_trips]; omega) c hc) HR
    iapply Hk
    iexact HO

end

end Cert.Proof.Pool
-- ==== Proof.Dma.lean ====
/-
  The tile's copies. A chunk's rows come in to a half of the row buffer while the other half is
  gathered from: the gathers load the whole buffer, so the half a copy is filling is in write mode
  (of each of its words: what it was, and what the copy will make it), one share with the copy
  and one with the tile. A chunk's result goes out from a half of the output buffer.
-/
module

public import proofs.«01_k».proof.Proof.Out

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The kernel's operands, as a tile names them: the points, the node table, the metadata, the result. -/
abbrev mA : Memref sig .scVector .hbm S131072x64 .f32 := Memref.whole main_arg0_scv
abbrev mG : Memref sig .scVector .hbm S16384 .i32 := Memref.whole main_v82_scv
abbrev mN : Memref sig .scVector .hbm S288 .i32 := Memref.whole main_v86_scv
abbrev mZ : Memref sig .scVector .hbm S131072x16 .f32 := Memref.whole main_v87_scv

/-- The half of the row buffer from row `lo`. -/
abbrev sX (lo : ℕ) (inb : ∀ a, (![lo, 0] : Fin 2 → ℕ) a + S512x64.size a ≤ S1024x64.size a) : Memref sig .scVector .vmem S512x64 .f32 :=
  mX.slice (Rect.unit (s := S1024x64) ![lo, 0] S512x64.size inb) (fun _ => rfl)
/-- The half of the output buffer from row `lo`. -/
abbrev sO (lo : ℕ) (inb : ∀ a, (![lo, 0] : Fin 2 → ℕ) a + S512x16.size a ≤ S1024x16.size a) : Memref sig .scVector .vmem S512x16 .f32 :=
  mO.slice (Rect.unit (s := S1024x16) ![lo, 0] S512x16.size inb) (fun _ => rfl)
/-- A chunk of the points. -/
abbrev sA (off : Fin 2 → ℕ) (inb : ∀ a, off a + S512x64.size a ≤ S131072x64.size a) : Memref sig .scVector .hbm S512x64 .f32 :=
  mA.slice (Rect.unit (s := S131072x64) off S512x64.size inb) (fun _ => rfl)
/-- A chunk of the result. -/
abbrev sZ (off : Fin 2 → ℕ) (inb : ∀ a, off a + S512x16.size a ≤ S131072x16.size a) : Memref sig .scVector .hbm S512x16 .f32 :=
  mZ.slice (Rect.unit (s := S131072x16) off S512x16.size inb) (fun _ => rfl)

/-- The rows of a half of the row buffer, and of the output buffer; a chunk's rows of the points, and of the result. -/
abbrev hX (lo : ℕ) : Finset S1024x64.Idx := rws 1024 64 lo (lo + 512)
abbrev hO (lo : ℕ) : Finset S1024x16.Idx := rws 1024 16 lo (lo + 512)

/-- The places of a half of the input buffer. -/
theorem sX_set (lo : ℕ) (inb) : (sX lo inb).view.set = hX lo := (View.set_slice_whole _ _).trans (unit_rws inb rfl rfl)
/-- The places of a half of the output buffer. -/
theorem sO_set (lo : ℕ) (inb) : (sO lo inb).view.set = hO lo := (View.set_slice_whole _ _).trans (unit_rws inb rfl rfl)
/-- The places of a chunk of the points. -/
theorem sA_set (off : Fin 2 → ℕ) (inb) : (sA off inb).view.set = rws 131072 64 (off 0) (off 0 + 512) := (View.set_slice_whole _ _).trans (unit_rws inb rfl rfl)
/-- The places of a chunk of the result. -/
theorem sZ_set (off : Fin 2 → ℕ) (inb) : (sZ off inb).view.set = rws 131072 16 (off 0) (off 0 + 512) := (View.set_slice_whole _ _).trans (unit_rws inb rfl rfl)

/-- What a half's copy credits its semaphore with. -/
def NX : ℕ := (sX 0 inb_S1024x64_S512x64_0_0).view.dmaCredit
def NZ : ℕ := (sZ ![0, 0] (by decide)).view.dmaCredit

section

variable (d : Dev nD) (i : grid0.Coords)

/-- The row buffer's contents once rows `R`, … of the points have come in to the half from `lo`. -/
def gX (fx : Buf (Elt F) (mA.view.loc (thr d i))) (lo R : ℕ) : Buf (Elt F) (mX.view.loc (thr d i)) :=
  fun y => fx (ix2 131072 64 (R + ((y 0).val - lo)) (y 1).val)

/-- A share of the half from `lo` while rows `R`, … are coming in to it. -/
abbrev Tok (q : PosShare TreeShare) (f : Buf (Elt F) (mX.view.loc (thr d i))) (fx : Buf (Elt F) (mA.view.loc (thr d i))) (lo R : ℕ) (W : Finset (Idx (mX.view.loc (thr d i)))) :
    sProp (MT nD τ sig (HIx 1) (Elt F) ℕ (UU F) ℕ) :=
  willBeTo (EW (F := F)) (mX.view.loc (thr d i)) (hX lo) q f (fun y => some (gX d i fx lo R y)) W

/-- The waits done so far, each on no one's behalf beyond those at the start. -/
def OW (O : CellTallies nD τ sig (HIx 1)) (W₀ : Waits sig (HIx 1)) : sProp (MT nD τ sig (HIx 1) (Elt F) ℕ (UU F) ℕ) :=
  iprop(∃ W', ⌜∀ p ∈ W', p ∈ W₀ ∨ p.2 = none⌝ ∗ owes (thr d i) O W')

variable {Q : Unit → sProp (MT nD τ sig (HIx 1) (Elt F) ℕ (UU F) ℕ)} {α : Type} {Qa : α → sProp (MT nD τ sig (HIx 1) (Elt F) ℕ (UU F) ℕ)} {ιwm : ℕ}

/-- A chunk's copy started: the half goes into write mode, a share of it to the copy, a share kept. -/
theorem wp_fetch {lo R : ℕ} {inb} {off : Fin 2 → ℕ} {inb'} (hoff : off = ![R, 0]) (hR : R + 512 ≤ 131072) (hlo : lo + 512 ≤ 1024) {sem : SemArray (DmaSem sig) S_} {h1 h2 h3}
    {f : Buf (Elt F) (mX.view.loc (thr d i))} {fx : Buf (Elt F) (mA.view.loc (thr d i))} {k : PUnit → PR F i α} :
    iprop(wmInv EW ιwm ∗ (mA.view.loc (thr d i) ↦[rws 131072 64 R (R + 512)]{fullShare} fx) ∗ (mX.view.loc (thr d i) ↦[hX lo]{fullShare} f) ∗ semVal (thr d i, .dma sem.sem) 0)
      ⊢ iprop((Flight EC (thr d i) (.dma sem.sem) default NX iprop(Tok d i fullShare.left f fx lo R (∅ ∪ hX lo) ∗ (mA.view.loc (thr d i) ↦[rws 131072 64 R (R + 512)]{fullShare} fx))
              -∗ Tok d i fullShare.right f fx lo R ∅ -∗ wpt d i (k ⟨⟩) Qa)
          -∗ wpt d i (Prog.lift (.enqueueDma (sA off inb') (.here (sX lo inb)) (.dma sem.sem) h1 h2 h3) >>= k) Qa) := by
  subst hoff
  have hN0 : 0 < NX := View.dmaCredit_pos _ (by decide)
  have hadm : (sX lo inb).view.Admitted (Elt F) (fun y => some (gX d i fx lo R y)) (ReadAs.same.apply ((sA ![R, 0] inb').view.read (Elt F) fx)) Finset.univ := by
    intro x _ u hu
    have hu' : some (gX d i fx lo R ((sX lo inb).view.emb x)) = some u := hu
    rw [← Option.some.inj hu']
    show fx ((sA ![R, 0] inb').view.emb x) = fx _
    congr 1
    refine ix2_eq ?_ ?_
    · show R + 1 * (x 0).val = R + (lo + 1 * (x 0).val - lo); omega
    · show 0 + 1 * (x 1).val = 0 + 1 * (x 1).val; rfl
  have eA : (sA ![R, 0] inb').view.set = rws 131072 64 R (R + 512) := sA_set _ _
  have eX := sX_set lo inb
  have key : iprop(wmInv EW ιwm ∗ (mA.view.loc (thr d i) ↦[(sA ![R, 0] inb').view.set]{fullShare} fx) ∗ (mX.view.loc (thr d i) ↦[hX lo]{fullShare} f) ∗ semVal (thr d i, .dma sem.sem) 0)
      ⊢ iprop((Flight EC (thr d i) (.dma sem.sem) default NX iprop(Tok d i fullShare.left f fx lo R (∅ ∪ (sX lo inb).view.set) ∗ (mA.view.loc (thr d i) ↦[(sA ![R, 0] inb').view.set]{fullShare} fx))
              -∗ Tok d i fullShare.right f fx lo R ∅ -∗ wpt d i (k ⟨⟩) Qa)
          -∗ wpt d i (Prog.lift (.enqueueDma (sA ![R, 0] inb') (.here (sX lo inb)) (.dma sem.sem) h1 h2 h3) >>= k) Qa) := by
    show _ ⊢ iprop(_ -∗ wp frame (wpE (defs₀ (F := F)) 𝒱₀ (thr d i) none) Set.univ (.op (.enqueueDmaAs (sA ![R, 0] inb') (.here (sX lo inb)) .same (.dma sem.sem) h1 h2 h3) k) Qa)
    iintro ⟨#Hwm, Ha, Hx, Hv⟩ Hk
    imod (pointsTo_castIn (emb := EW) (fun y => some (gX d i fx lo R y))) $$ [Hx] with Ht
    · isplitr; · iexact Hwm
      iexact Hx
    icases Ht with ⟨Hl, Hr⟩
    imod (flight_alloc EC hN0 iprop(Tok d i fullShare.left f fx lo R (∅ ∪ (sX lo inb).view.set) ∗ (mA.view.loc (thr d i) ↦[(sA ![R, 0] inb').view.set]{fullShare} fx))
      (g := (thr d i, .dma sem.sem))) $$ Hv with ⟨%γ, %δ, %κ, #Hinv, Hγ, Hδ⟩
    iapply (wp_enqueueDmaAs 𝒱₀ (thr d i) none Set.univ default NX rfl) $$ [Ha Hl] [Hγ]
    · isplitl [Ha]; · iexact Ha
      iapply (willBeTo_writeUpdate (emb := EW) (ιwm := ιwm) (thr d i) (v := (sX lo inb).view) (S := hX lo) (q := fullShare.left) (f := f) (W := ∅) eX.subset hadm)
      isplitr; · iexact Hwm
      iexact Hl
    · iapply (flight_creditUpdate EC (δ := δ))
      isplitr; · iexact Hinv
      iexact Hγ
    iintro Hcred
    ispecialize Hk $$ [Hδ Hcred]
    · iapply (flight_intro EC (thr d i) (κ := κ))
      isplitr; · iexact Hinv
      isplitl [Hδ] <;> iassumption
    iapply Hk; iexact Hr
  rw [eA, eX] at key
  exact key

/-- A chunk's copy waited for: the half is plain again, and holds the chunk. -/
theorem wp_land {lo R : ℕ} {sem : SemArray (DmaSem sig) S_} {srcw : Memref sig .scVector .hbm S512x64 .f32} {inb h1 h2} {O : CellTallies nD τ sig (HIx 1)} {W₀ : Waits sig (HIx 1)}
    {f : Buf (Elt F) (mX.view.loc (thr d i))} {fx : Buf (Elt F) (mA.view.loc (thr d i))} {k : PUnit → PR F i α} :
    iprop(wmInv EW ιwm ∗ MayWaits (thr d i) (default : HIx 1) O ∗ Flight EC (thr d i) (.dma sem.sem) default NX iprop(Tok d i fullShare.left f fx lo R (∅ ∪ hX lo) ∗ (mA.view.loc (thr d i) ↦[rws 131072 64 R (R + 512)]{fullShare} fx))
        ∗ Tok d i fullShare.right f fx lo R ∅ ∗ OW d i O W₀)
      ⊢ iprop(((mA.view.loc (thr d i) ↦[rws 131072 64 R (R + 512)]{fullShare} fx) -∗ (mX.view.loc (thr d i) ↦[hX lo]{fullShare} gX d i fx lo R) -∗ semVal (thr d i, .dma sem.sem) 0
              -∗ OW d i O W₀ -∗ wpt d i (k ⟨⟩) Qa)
          -∗ wpt d i (Prog.lift (.waitDma2 sem.sem srcw (sX lo inb) h1 h2) >>= k) Qa) := by
  unfold OW
  iintro ⟨#Hwm, #Hmw, Hf, Hr, ⟨%W', %hW', HO⟩⟩ Hk
  iapply (wp_waitLocalO EC 𝒱₀ (thr d i) none (sem := sem.sem) (srcw := srcw) (dstw := sX lo inb) (hsrc := h1) (hdst := h2) (k := k) default (N := NX) rfl) $$ [Hf HO]
  · isplitl [Hf]; · iexact Hf
    isplitl [HO]; · iexact HO
    iapply (MayWaits.elim (SemLoc.dma sem.sem)) $$ Hmw
  iintro ⟨⟨Hl, Ha⟩, Hv, HO⟩
  icombine Hl Hr as Ht
  imod (willBeTo_castOut_some (emb := EW) (g := gX d i fx lo R)) $$ [Ht] with Hx
  · isplitr; · iexact Hwm
    iexact Ht
  ihave Hx := (Entails.of_eq (pointsTo_congr (g := gX d i fx lo R) fun y hy => Finset.piecewise_eq_of_mem _ _ _ (by simpa using hy))) $$ Hx
  ispecialize Hk $$ Ha Hx Hv
  iapply Hk
  iexists (insert (SemLoc.dma sem.sem, default) W')
  isplitr
  · ipureintro
    intro p hp
    rcases Finset.mem_insert.1 hp with rfl | hp
    · exact .inr rfl
    · exact hW' p hp
  · iexact HO

/-- A chunk's result sent out from its half of the output buffer. -/
theorem wp_send {lo R : ℕ} {inb} {off : Fin 2 → ℕ} {inb'} (hoff : off = ![R, 0]) (hlo : lo + 512 ≤ 1024) {sem : SemArray (DmaSem sig) S_} {h1 h2 h3}
    {g : Buf (Elt F) (mO.view.loc (thr d i))} {fz fz' : Buf (Elt F) (mZ.view.loc (thr d i))}
    (hg : ∀ r < 512, ∀ c < 16, atO d i g (lo + r) c = fz' (ix2 131072 16 (R + r) c)) {k : PUnit → PR F i α} :
    iprop((mO.view.loc (thr d i) ↦[hO lo]{fullShare} g) ∗ (mZ.view.loc (thr d i) ↦[rws 131072 16 R (R + 512)]{fullShare} fz) ∗ semVal (thr d i, .dma sem.sem) 0)
      ⊢ iprop((Flight EC (thr d i) (.dma sem.sem) default NZ iprop((mZ.view.loc (thr d i) ↦[rws 131072 16 R (R + 512)]{fullShare} fz') ∗ (mO.view.loc (thr d i) ↦[hO lo]{fullShare} g))
              -∗ wpt d i (k ⟨⟩) Qa)
          -∗ wpt d i (Prog.lift (.enqueueDma (sO lo inb) (.here (sZ off inb')) (.dma sem.sem) h1 h2 h3) >>= k) Qa) := by
  subst hoff
  have eZ : (sZ ![R, 0] inb').view.set = rws 131072 16 R (R + 512) := sZ_set _ _
  have eO := sO_set lo inb
  have key := wp_dmaLocal EC (defs := defs₀ (F := F)) 𝒱₀ (thr d i) none (src := sO lo inb) (dst := sZ ![R, 0] inb') (via := .same) (sm := .dma sem.sem) (hsrc := h1) (hdst := h2) (hsem := h3) (k := k)
    (Q := Qa) (q := fullShare) (fs := g) (fd := fz) (Sd := rws 131072 16 R (R + 512)) default NZ rfl (View.dmaCredit_pos _ (by decide)) eZ.subset
  have ev : ∀ y ∈ rws 131072 16 R (R + 512), (sZ ![R, 0] inb').view.write (Elt F) fz (ReadAs.same.apply ((sO lo inb).view.read (Elt F) g)) Finset.univ y = fz' y := by
    intro y hy
    rw [← eZ] at hy
    obtain ⟨x, -, rfl⟩ := Finset.mem_map.1 hy
    rw [View.write_emb_of_mem _ _ (Finset.mem_univ x)]
    have hx0 : (x 0).val < 512 := (x 0).isLt
    have hx1 : (x 1).val < 16 := (x 1).isLt
    show g ((sO lo inb).view.emb x) = fz' ((sZ ![R, 0] inb').view.emb x)
    rw [show (sZ ![R, 0] inb').view.emb x = ix2 131072 16 (R + (x 0).val) (x 1).val from ix2_eq (by show R + 1 * (x 0).val = _; omega) (by show 0 + 1 * (x 1).val = _; omega),
      show (sO lo inb).view.emb x = ix2 1024 16 (lo + (x 0).val) (x 1).val from ix2_eq (by show lo + 1 * (x 0).val = _; omega) (by show 0 + 1 * (x 1).val = _; omega)]
    exact hg _ hx0 _ hx1
  have ez : ((sZ ![R, 0] inb').view.loc (thr d i) ↦[rws 131072 16 R (R + 512)]{fullShare} ((sZ ![R, 0] inb').view.write (Elt F) fz (ReadAs.same.apply ((sO lo inb).view.read (Elt F) g)) Finset.univ) : sProp 𝕄)
      = (sZ ![R, 0] inb').view.loc (thr d i) ↦[rws 131072 16 R (R + 512)]{fullShare} fz' := pointsTo_congr ev
  rw [eO, ez] at key
  exact key

/-- A result's copy waited for. -/
theorem wp_sent {sem : SemArray (DmaSem sig) S_} {D : sProp (MT nD τ sig (HIx 1) (Elt F) ℕ (UU F) ℕ)} {srcw : Memref sig .scVector .vmem S512x16 .f32} {off inb h1 h2} {O : CellTallies nD τ sig (HIx 1)} {W₀ : Waits sig (HIx 1)} {k : PUnit → PR F i α} :
    iprop(MayWaits (thr d i) (default : HIx 1) O ∗ Flight EC (thr d i) (.dma sem.sem) default NZ D ∗ OW d i O W₀)
      ⊢ iprop((D -∗ semVal (thr d i, .dma sem.sem) 0 -∗ OW d i O W₀ -∗ wpt d i (k ⟨⟩) Qa)
          -∗ wpt d i (Prog.lift (.waitDma2 sem.sem srcw (sZ off inb) h1 h2) >>= k) Qa) := by
  unfold OW
  iintro ⟨#Hmw, Hf, ⟨%W', %hW', HO⟩⟩ Hk
  iapply (wp_waitLocalO EC 𝒱₀ (thr d i) none (sem := sem.sem) (srcw := srcw) (dstw := sZ off inb) (hsrc := h1) (hdst := h2) (k := k) default (N := NZ) rfl) $$ [Hf HO]
  · isplitl [Hf]; · iexact Hf
    isplitl [HO]; · iexact HO
    iapply (MayWaits.elim (SemLoc.dma sem.sem)) $$ Hmw
  iintro ⟨HD, Hv, HO⟩
  ispecialize Hk $$ HD Hv
  iapply Hk
  iexists (insert (SemLoc.dma sem.sem, default) W')
  isplitr
  · ipureintro
    intro p hp
    rcases Finset.mem_insert.1 hp with rfl | hp
    · exact .inr rfl
    · exact hW' p hp
  · iexact HO

/-! ## The gathers -/

/-- Holding `B`, the half from `lo` can be looked at, whatever it is. -/
def Lends (B : sProp (MT nD τ sig (HIx 1) (Elt F) ℕ (UU F) ℕ)) (lo : ℕ) : Prop :=
  ∃ E : Set ℕ, B ⊢ iprop(|={Set.univ, E}=> ∃ cur, (mX.view.loc (thr d i) ↦[hX lo]{fullShare} cur) ∗ ((mX.view.loc (thr d i) ↦[hX lo]{fullShare} cur) -∗ |={E, Set.univ}=> B))

/-- A half of the input buffer that no copy holds can be read. -/
theorem lends_plain {lo : ℕ} {f : Buf (Elt F) (mX.view.loc (thr d i))} : Lends (F := F) d i (mX.view.loc (thr d i) ↦[hX lo]{fullShare} f) lo := by
  refine ⟨Set.univ, ?_⟩
  iintro H
  imodintro
  iexists f
  isplitl [H]; · iexact H
  iintro H
  imodintro
  iexact H

/-- A half of the input buffer that is held for a copy can be read. -/
theorem lends_tok {lo R : ℕ} {q : PosShare TreeShare} {f : Buf (Elt F) (mX.view.loc (thr d i))} {fx : Buf (Elt F) (mA.view.loc (thr d i))} :
    Lends (F := F) d i iprop(wmInv EW ιwm ∗ Tok d i q f fx lo R ∅) lo := by
  refine ⟨Set.univ \ {ιwm}, ?_⟩
  iintro ⟨#Hwm, Ht⟩
  imod (willBeTo_acc (emb := EW) (Set.mem_univ ιwm)) $$ [Ht] with ⟨%cur, %W', %hW, Hraw, %hcur, Hclose⟩
  · isplitr; · iexact Hwm
    iexact Ht
  imodintro
  iexists cur
  isplitl [Hraw]; · iexact Hraw
  iintro Hraw
  ispecialize Hclose $$ %cur %∅ %⟨Finset.empty_subset _, fun i h => absurd h (Finset.notMem_empty i), fun _ _ _ => rfl⟩ Hraw
  imod Hclose with Ht
  imodintro
  rw [Finset.union_empty]
  isplitr; · iexact Hwm
  iexact Ht

/-- The gathers of a half that holds a chunk, whatever goes on in the other half. -/
theorem gathers_half {lo lo' R : ℕ} {B : sProp (MT nD τ sig (HIx 1) (Elt F) ℕ (UU F) ℕ)} (hB : Lends d i B lo') (hlo : lo + 512 ≤ 1024)
    (hd : hX lo ∪ hX lo' = Finset.univ) (hdj : Disjoint (hX lo) (hX lo')) {fx : Buf (Elt F) (mA.view.loc (thr d i))} :
    Gathers d i iprop((mX.view.loc (thr d i) ↦[hX lo]{fullShare} gX d i fx lo R) ∗ B) (fun p c => fx (ix2 131072 64 (R + p) c)) lo := by
  intro p s h hl Q k hp
  obtain ⟨E, hB⟩ := hB
  show _ ⊢ iprop(_ -∗ wp frame (wpE (defs₀ (F := F)) 𝒱₀ (thr d i) none) Set.univ (.op (.load mX (LoadRect.whole _) _) fun f => k (loadIdx f ![p, s] h)) Q)
  iintro ⟨Hx, HB⟩ Hk
  imod hB $$ HB with ⟨%cur, Hc, Hclose⟩
  imodintro
  icombine Hx Hc as Hj
  ihave Hj := (pointsTo_join hdj) $$ Hj
  iapply (fp_load (thr d i) (m := mX) (by rw [hd]; exact Finset.subset_univ _)) $$ Hj
  iintro Hj
  ihave Hj := (pointsTo_union hdj).1 $$ Hj
  icases Hj with ⟨Hx, Hc⟩
  have hn : ∀ y ∈ hX lo, y ∉ hX lo' := fun y hy hy' => Finset.disjoint_left.1 hdj hy hy'
  ihave Hx := (Entails.of_eq (pointsTo_congr (g := gX d i fx lo R) fun y hy => Finset.piecewise_eq_of_notMem _ _ _ (hn y hy))) $$ Hx
  ihave Hc := (Entails.of_eq (pointsTo_congr (g := cur) fun y hy => Finset.piecewise_eq_of_mem _ _ _ hy)) $$ Hc
  ispecialize Hclose $$ Hc
  imod Hclose with HB
  imodintro
  ispecialize Hk $$ [Hx HB]
  · isplitl [Hx] <;> iassumption
  have hv : loadIdx (mX.view.readAt (Elt F) (LoadRect.whole S1024x64) ((hX lo').piecewise cur (gX d i fx lo R))) ![p, s] h = fun x => fx (ix2 131072 64 (R + ((p x).toNat - lo)) (s x).toNat) := by
    funext x
    have hm : idxAt ![p, s] h x ∈ hX lo := mem_rws.2 (by
      have := hp x
      show lo ≤ (p x).toNat ∧ (p x).toNat < lo + 512
      omega)
    rw [show mX.view.readAt (Elt F) (LoadRect.whole S1024x64) ((hX lo').piecewise cur (gX d i fx lo R)) = (hX lo').piecewise cur (gX d i fx lo R) from Memref.readAt_whole (Elt F) cc0_scratch0 _]
    show ((hX lo').piecewise cur (gX d i fx lo R)) (idxAt ![p, s] h x) = _
    rw [Finset.piecewise_eq_of_notMem _ _ _ (hn _ hm)]
    rfl
  rw [hv]
  iexact Hk

end

end Cert.Proof.Pool
-- ==== Proof.Pair.lean ====
/-
  One chunk pooled and laid out, from a half of the row buffer into a half of the output buffer;
  and what the tile holds of its copies between chunks.
-/
module

public import proofs.«01_k».proof.Proof.Dma

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section

variable (d : Dev nD) (i : grid0.Coords)

/-- Rows `a` to `b` of the points, of the result. -/
abbrev ptsA (a b : ℕ) (f : Buf (Elt F) (mA.view.loc (thr d i))) : sProp (MT nD τ sig (HIx 1) (Elt F) ℕ (UU F) ℕ) :=
  mA.view.loc (thr d i) ↦[rws 131072 64 a b]{fullShare} f
abbrev ptsZ (a b : ℕ) (f : Buf (Elt F) (mZ.view.loc (thr d i))) : sProp (MT nD τ sig (HIx 1) (Elt F) ℕ (UU F) ℕ) :=
  mZ.view.loc (thr d i) ↦[rws 131072 16 a b]{fullShare} f

/-- A band of the points cut in two. -/
theorem ptsA_split {a c : ℕ} (b : ℕ) {f : Buf (Elt F) (mA.view.loc (thr d i))} (h : a ≤ b) (h' : b ≤ c) : ptsA d i a c f ⊣⊢ iprop(ptsA d i a b f ∗ ptsA d i b c f) := by
  unfold ptsA; rw [rws_union h h']; exact pointsTo_union rws_disjoint
/-- A band of the result cut in two. -/
theorem ptsZ_split {a c : ℕ} (b : ℕ) {f : Buf (Elt F) (mZ.view.loc (thr d i))} (h : a ≤ b) (h' : b ≤ c) : ptsZ d i a c f ⊣⊢ iprop(ptsZ d i a b f ∗ ptsZ d i b c f) := by
  unfold ptsZ; rw [rws_union h h']; exact pointsTo_union rws_disjoint

/-- A band without rows is as good as another. -/
theorem ptsA_none {a b a' b' : ℕ} {f : Buf (Elt F) (mA.view.loc (thr d i))} (h : b ≤ a) (h' : b' ≤ a') : ptsA d i a b f = ptsA d i a' b' f := by
  have e : ∀ {a b : ℕ}, b ≤ a → rws 131072 64 a b = ∅ := fun h => Finset.eq_empty_of_forall_notMem fun y hy => by rw [mem_rws] at hy; omega
  unfold ptsA; rw [e h, e h']

/-! ## The result -/

variable (fx : Buf (Elt F) (mA.view.loc (thr d i))) (E : ℕ → ℕ) (M : ℕ → BitVec 32)

/-- The result the tables make of the points: at each column, its unit's maximum over the row, or zero where there is no unit. -/
def zout : Buf (Elt F) (mZ.view.loc (thr d i)) := fun y =>
  if (M (y 1).val).toNat = 16 then fzero else acc (fun r c => fx (ix2 131072 64 r c)) E (M (y 1).val).toNat (y 0).val (16 * tdM M (M (y 1).val).toNat)

/-- The running maximum of a chunk's row is that of the row in the whole array. -/
theorem acc_shift {X : ℕ → ℕ → F .f32} {E : ℕ → ℕ} {D p R : ℕ} (hR : R % 16 = 0) : ∀ n, acc (fun p c => X (R + p) c) E D p n = acc X E D (R + p) n
  | 0 => rfl
  | n + 1 => by
    show FloatOps.maximumf _ _ = FloatOps.maximumf _ _
    rw [acc_shift hR n, show p % 16 = (R + p) % 16 by omega]

/-- The accumulators no unit owns hold zero. -/
def Zero (f : Buf (Elt F) (mR.view.loc (thr d i))) : Prop := ∀ n, 8192 ≤ n → n < 8704 → at8 d i f n = fzero

/-- The tile's tables and accumulators, between chunks. -/
def Tb (fe : Buf (Elt F) (mE.view.loc (thr d i))) (fm : Buf (Elt F) (mM.view.loc (thr d i))) : sProp (MT nD τ sig (HIx 1) (Elt F) ℕ (UU F) ℕ) :=
  iprop((mE.view.loc (thr d i) ↦[Finset.univ]{fullShare} fe) ∗ (mM.view.loc (thr d i) ↦[Finset.univ]{fullShare} fm)
    ∗ ∃ fr, ⌜Zero d i fr⌝ ∗ (mR.view.loc (thr d i) ↦[Finset.univ]{fullShare} fr))

variable {fx E M} {fe : Buf (Elt F) (mE.view.loc (thr d i))} {fm : Buf (Elt F) (mM.view.loc (thr d i))} {RG : sProp (MT nD τ sig (HIx 1) (Elt F) ℕ (UU F) ℕ)}
variable {α : Type} {Q : α → sProp (MT nD τ sig (HIx 1) (Elt F) ℕ (UU F) ℕ)}

/-- One chunk: its rows pooled unit by unit, then laid out column by column. -/
theorem wp_half {lo R : ℕ} (hg : Gathers d i RG (fun p c => fx (ix2 131072 64 (R + p) c)) lo) (hlo : lo + 512 ≤ 1024) (hR : R % 512 = 0) (hR' : R + 512 ≤ 131072)
    (hT : Tables d i fe fm E M) (hM : TabOK E M) {pay : Fin k0_t6_loop.trips → IVec S16 32} (hpay : ∀ t x, (pay t x).toNat = lo + 32 * t.val + (x 0).val)
    {v6 : IVec S16 32} (hv : ∀ c < 16, (v6 (lane c)).toNat = 512 * (M c).toNat)
    {o : Fin 4 → Fin k0_t15_loop.trips → Fin 2 → ℕ} {ho : ∀ u t a, o u t a + S1x16.size a ≤ S1024x16.size a} (hov : ∀ u t, o u t = ![lo + 4 * t.val + u.val, 0])
    {ok3 : (k0_t3_loop (M 16)).OK} {ok9 : (k0_t9_loop (M 16)).OK} {ok15 : k0_t15_loop.OK} {B9 : Fin (k0_t9_loop (M 16)).trips → Unit → PR F i Unit}
    (hw1 : k0_chk1 (M 16)) (dead : (t3 : Fin (k0_t3_loop (M 16)).trips) → (v88 : BitVec 32) → k0_chk2 (M 16) t3 v88 → Fin (k0_t7_loop v88).trips → Unit → PR F i Unit)
    {k : Unit → PR F i α} :
    iprop(RG ∗ Tb d i fe fm ∗ ∃ g, mO.view.loc (thr d i) ↦[hO lo]{fullShare} g)
      ⊢ iprop((RG -∗ Tb d i fe fm -∗ (∃ g, ⌜∀ r < 512, ∀ c < 16, atO d i g (lo + r) c = zout d i fx E M (ix2 131072 16 (R + r) c)⌝ ∗ (mO.view.loc (thr d i) ↦[hO lo]{fullShare} g))
            -∗ wpt d i (k ⟨⟩) Q)
          -∗ wpt d i (Scf.Loop.for (k0_t3_loop (M 16)) ok3 ⟨⟩ (b3 i pay (M 16) hw1 dead) >>= fun _ =>
              Scf.Loop.for (k0_t9_loop (M 16)) ok9 ⟨⟩ B9 >>= fun _ => Scf.Loop.for k0_t15_loop ok15 ⟨⟩ (b15 i v6 o ho) >>= k) Q) := by
  unfold Tb
  iintro ⟨HR, ⟨HE, HM, %fr, %hz, Hr⟩, %g, HO⟩ Hk
  iapply (wp_units d i hg hlo hpay hT hM (ok := ok3) hw1 dead (f := fr) ⟨fun D' h => absurd h (Nat.not_lt_zero _), hz⟩) $$ [HR HE HM Hr]
  · isplitl [HR]; · iexact HR
    isplitl [HE]; · iexact HE
    isplitl [HM] <;> iassumption
  iintro %fr' %hd HR HE HM Hr
  iapply (wp_loop0 d i (t9_trips hM.num))
  iapply (wp_out d i (lo := lo) (S := hO lo) subset_rfl hlo ho hov hv (fun c hc => by rcases hM.units c hc with h | h <;> have := hM.num <;> omega) (fr := fr') (g := g)) $$ [Hr HO]
  · isplitl [Hr] <;> iassumption
  iintro %g' %hg' Hr HO
  ispecialize Hk $$ HR [HE HM Hr]
  · isplitl [HE]; · iexact HE
    isplitl [HM]; · iexact HM
    iexists fr'
    isplitr
    · ipureintro; exact hd.2
    · iexact Hr
  iapply Hk
  iexists g'
  isplitr
  · ipureintro
    intro r hr c hc
    rw [hg' r hr c hc]
    have e : zout d i fx E M (ix2 131072 16 (R + r) c)
        = if (M c).toNat = 16 then fzero else acc (fun r c => fx (ix2 131072 64 r c)) E (M c).toNat (R + r) (16 * tdM M (M c).toNat) := by
      have hc' : (ix2 131072 16 (R + r) c 1).val = c := Nat.mod_eq_of_lt hc
      have hr' : (ix2 131072 16 (R + r) c 0).val = R + r := Nat.mod_eq_of_lt (by omega)
      simp only [zout, hc', hr']
    rw [e]
    split
    · next h => rw [h]; exact hd.2 _ (by omega) (by omega)
    · next h =>
      rw [hd.1 _ ((hM.units c hc).resolve_right h) r hr]
      exact acc_shift (X := fun r c => fx (ix2 131072 64 r c)) (by omega) _
  · iexact HO

/-! ## The halves between chunks -/

/-- A half of the output buffer before its `n`-th chunk: at first idle, then its last chunk on its way out. -/
def OutSt (sem : SemArray (DmaSem sig) S_) (lo B : ℕ) (fz : Buf (Elt F) (mZ.view.loc (thr d i))) : ℕ → sProp (MT nD τ sig (HIx 1) (Elt F) ℕ (UU F) ℕ)
  | 0 => iprop((∃ g, mO.view.loc (thr d i) ↦[hO lo]{fullShare} g) ∗ semVal (thr d i, .dma sem.sem) 0)
  | n + 1 => iprop(∃ g, Flight EC (thr d i) (.dma sem.sem) default NZ iprop(ptsZ d i (B + 1024 * n + lo) (B + 1024 * n + lo + 512) fz ∗ (mO.view.loc (thr d i) ↦[hO lo]{fullShare} g)))

/-- The rows the wait before the `n`-th chunk of a half gives back. -/
def Back (lo B : ℕ) (fz : Buf (Elt F) (mZ.view.loc (thr d i))) : ℕ → sProp (MT nD τ sig (HIx 1) (Elt F) ℕ (UU F) ℕ)
  | 0 => iprop(emp)
  | n + 1 => ptsZ d i (B + 1024 * n + lo) (B + 1024 * n + lo + 512) fz

/-- The wait before a half's next chunk, if it has had one. -/
theorem wp_collect {sem : SemArray (DmaSem sig) S_} {lo B n : ℕ} {fz : Buf (Elt F) (mZ.view.loc (thr d i))} {c : Prop} [Decidable c] (hc : c ↔ 0 < n)
    {srcw : c → Memref sig .scVector .vmem S512x16 .f32} {off : c → Fin 2 → ℕ} {inb : ∀ h a, off h a + S512x16.size a ≤ S131072x16.size a} {h1 : ∀ h, (srcw h).view.WordExact} {h2 : ∀ h, (sZ (off h) (inb h)).view.WordExact}
    {O : CellTallies nD τ sig (HIx 1)} {W₀ : Waits sig (HIx 1)} {k : PR F i α} :
    iprop(MayWaits (thr d i) (default : HIx 1) O ∗ OutSt d i sem lo B fz n ∗ OW d i O W₀)
      ⊢ iprop((Back d i lo B fz n -∗ (∃ g, mO.view.loc (thr d i) ↦[hO lo]{fullShare} g) -∗ semVal (thr d i, .dma sem.sem) 0 -∗ OW d i O W₀ -∗ wpt d i k Q)
          -∗ wpt d i (if h : c then (Prog.lift (.waitDma2 sem.sem (srcw h) (sZ (off h) (inb h)) (h1 h) (h2 h)) >>= fun _ => k) else k) Q) := by
  cases n with
  | zero =>
    rw [dif_neg (by simp [hc])]
    unfold OutSt
    iintro ⟨#Hmw, ⟨Hg, Hv⟩, HO⟩ Hk
    ispecialize Hk $$ [] Hg Hv HO
    · unfold Back; iempintro
    iexact Hk
  | succ n =>
    have h : c := hc.2 (by omega)
    rw [dif_pos h]
    show _ ⊢ iprop(_ -∗ wpt d i (Prog.lift (.waitDma2 sem.sem (srcw h) (sZ (off h) (inb h)) (h1 h) (h2 h)) >>= fun _ => k) Q)
    unfold OutSt Back
    iintro ⟨#Hmw, ⟨%g, Hf⟩, HO⟩ Hk
    iapply (wp_sent d i (sem := sem) (O := O) (W₀ := W₀)) $$ [Hf HO]
    · isplitr; · iexact Hmw
      isplitl [Hf] <;> iassumption
    iintro ⟨Hz, Hg⟩ Hv HO
    ispecialize Hk $$ Hz [Hg] Hv HO
    · iexists g; iexact Hg
    iexact Hk

variable {ιwm : ℕ}

/-- The row buffer's first half before the `j`-th pair of chunks: the copy of the pair's first chunk, and what is kept beside it. -/
def Fly (fx : Buf (Elt F) (mA.view.loc (thr d i))) (B j : ℕ) (f : Buf (Elt F) (mX.view.loc (thr d i))) : sProp (MT nD τ sig (HIx 1) (Elt F) ℕ (UU F) ℕ) :=
  if j < 4 then Flight EC (thr d i) (.dma cc0_scratch5.sem) default NX iprop(Tok d i fullShare.left f fx 0 (B + 1024 * j) (∅ ∪ hX 0) ∗ (mA.view.loc (thr d i) ↦[rws 131072 64 (B + 1024 * j) (B + 1024 * j + 512)]{fullShare} fx))
  else semVal (thr d i, .dma cc0_scratch5.sem) 0
def Keep (ιwm : ℕ) (fx : Buf (Elt F) (mA.view.loc (thr d i))) (B j : ℕ) (f : Buf (Elt F) (mX.view.loc (thr d i))) : sProp (MT nD τ sig (HIx 1) (Elt F) ℕ (UU F) ℕ) :=
  if j < 4 then iprop(wmInv EW ιwm ∗ Tok d i fullShare.right f fx 0 (B + 1024 * j) ∅) else mX.view.loc (thr d i) ↦[hX 0]{fullShare} f

/-- The first half of the input buffer can be read, whether it is held for a copy or not. -/
theorem lends_keep {B j : ℕ} {f : Buf (Elt F) (mX.view.loc (thr d i))} : Lends d i (Keep d i ιwm fx B j f) 0 := by
  unfold Keep; split
  · exact lends_tok d i
  · exact lends_plain d i

/-- The next pair's first chunk asked for, if there is one. -/
theorem wp_next {B j : ℕ} (hj : j < 4) (hB : B + 4096 ≤ 131072) {c : Prop} [Decidable c] (hc : c ↔ j + 1 < 4)
    {off : c → Fin 2 → ℕ} {inb : ∀ h a, off h a + S512x64.size a ≤ S131072x64.size a} (hoff : ∀ h, off h = ![B + 1024 * (j + 1), 0]) {inb0} {h1 : ∀ h, (sA (off h) (inb h)).view.WordExact} {h2 : (DmaTarget.here (nD := nD) (τ := τ) (p := .scVector ((i 0).castLE hcore0) ((i 1).castLE hsub0)) (sX 0 inb0)).view.WordExact} {h3}
    {f : Buf (Elt F) (mX.view.loc (thr d i))} {k : PR F i α} :
    iprop(wmInv EW ιwm ∗ ptsA d i (B + 1024 * (j + 1)) (B + 4096) fx ∗ (mX.view.loc (thr d i) ↦[hX 0]{fullShare} f) ∗ semVal (thr d i, .dma cc0_scratch5.sem) 0)
      ⊢ iprop((ptsA d i (B + 1024 * (j + 1) + 512) (B + 4096) fx -∗ Fly d i fx B (j + 1) f -∗ Keep d i ιwm fx B (j + 1) f -∗ wpt d i k Q)
          -∗ wpt d i (if h : c then (Prog.lift (.enqueueDma (sA (off h) (inb h)) (.here (sX 0 inb0)) (.dma cc0_scratch5.sem) (h1 h) h2 h3) >>= fun _ => k) else k) Q) := by
  unfold Fly Keep
  by_cases h4 : j + 1 < 4
  · have h : c := hc.2 h4
    rw [dif_pos h, if_pos h4, if_pos h4]
    show _ ⊢ iprop(_ -∗ wpt d i (Prog.lift (.enqueueDma (sA (off h) (inb h)) (.here (sX 0 inb0)) (.dma cc0_scratch5.sem) (h1 h) h2 h3) >>= fun _ => k) Q)
    iintro ⟨#Hwm, Ha, Hx, Hv⟩ Hk
    ihave Ha := (ptsA_split d i (B + 1024 * (j + 1) + 512) (by omega) (by omega)).1 $$ Ha
    icases Ha with ⟨Ha, Ha'⟩
    iapply (wp_fetch d i (ιwm := ιwm) (lo := 0) (R := B + 1024 * (j + 1)) (hoff h) (by omega) (by omega) (sem := cc0_scratch5) (f := f) (fx := fx)) $$ [Ha Hx Hv]
    · isplitr; · iexact Hwm
      isplitl [Ha]; · iexact Ha
      isplitl [Hx] <;> iassumption
    iintro Hf Ht
    ispecialize Hk $$ Ha' Hf [Ht]
    · isplitr; · iexact Hwm
      iexact Ht
    iexact Hk
  · rw [dif_neg (by rwa [hc]), if_neg h4, if_neg h4]
    iintro ⟨#Hwm, Ha, Hx, Hv⟩ Hk
    ihave Ha := (Entails.of_eq (ptsA_none d i (a' := B + 1024 * (j + 1) + 512) (b' := B + 4096) (by omega) (by omega))) $$ Ha
    ispecialize Hk $$ Ha Hv Hx
    iexact Hk

end

end Cert.Proof.Pool
-- ==== Proof.Body.lean ====
/-
  One pair of chunks of the tile's points: the first from the first half of the buffers, the second
  from the other, each fetched while the one before is pooled and sent while the one after is.
-/
module

public import proofs.«01_k».proof.Proof.Pair

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The words the tile computes with -/

/-- The first row of the tile. -/
abbrev base (i : grid0.Coords) : ℕ := 8192 * (i 1).val + 4096 * (i 0).val

/-- A subcore's 4096 points lie inside the array. -/
theorem base_le (i : grid0.Coords) : base i + 4096 ≤ 131072 := by
  have h0 : (i 0).val < 2 := (i 0).isLt
  have h1 : (i 1).val < 16 := (i 1).isLt
  unfold base; omega

/-- A subcore's first point is a multiple of 4096. -/
theorem base_mod (i : grid0.Coords) : base i % 4096 = 0 := by unfold base; omega

/-- The points whose values a step gathers, as numbers. -/
theorem rows_val {v3 : IVec S16 32} (hv3 : ∀ x, v3 x = BitVec.ofNat 32 (x 0).val) {b : BitVec 32} {lo : ℕ} (hb : b.toNat = lo) (hlo : lo ≤ 512) (t : Fin k0_t6_loop.trips) (x : S16.Idx) :
    (rows v3 b t x).toNat = lo + 32 * t.val + (x 0).val := by
  have ht := lt_of_lt_of_eq t.isLt t6_trips
  have hx := lane_lt x
  show ((b + (0#32 + BitVec.ofNat 32 t.val * 1#32) * 32#32) + v3 x).toNat = _
  rw [hv3]
  simp only [BitVec.toNat_add, BitVec.toNat_mul, BitVec.toNat_ofNat, hb]; omega

/-- Where the running maxima that a column's result is gathered from start. -/
theorem cols_val {v4 : IVec S16 32} {M : ℕ → BitVec 32} (hv4 : ∀ c < 16, v4 (lane c) = M c) (hM : ∀ c < 16, (M c).toNat < 17) {c : ℕ} (hc : c < 16) :
    (k0_pay65 (F := F) v4 (lane c)).toNat = 512 * (M c).toNat := by
  show (v4 (lane c) * 512#32).toNat = _
  have := hM c hc
  rw [hv4 c hc, BitVec.toNat_mul, show (512#32).toNat = 512 from rfl]; omega

/-- The row of the output buffer that a step writes in the first half. -/
theorem rowAt0_val : ∀ u t, rowAt0 u t = ![0 + 4 * t.val + u.val, 0] := by decide +kernel
/-- The same in the second half. -/
theorem rowAt1_val : ∀ u t, rowAt1 u t = ![512 + 4 * t.val + u.val, 0] := by decide +kernel

/-- The first wait for a copy out is made from the second step on. -/
theorem cond1_iff : ∀ t : Fin k0_t2_loop.trips, k0_cond1 t = 1#1 ↔ 0 < t.val := by decide +kernel
/-- The next copy in is started at all steps but the last. -/
theorem cond2_iff : ∀ t : Fin k0_t2_loop.trips, k0_cond2 t = 1#1 ↔ t.val + 1 < 4 := by decide +kernel
/-- The second wait for a copy out is made from the second step on. -/
theorem cond3_iff : ∀ t : Fin k0_t2_loop.trips, k0_cond3 t = 1#1 ↔ 0 < t.val := by decide +kernel
/-- There are four pairs of chunks. -/
theorem t2_trips : k0_t2_loop.trips = 4 := by decide +kernel

/-- The two halves make up the input buffer. -/
theorem hX_union : hX 0 ∪ hX 512 = Finset.univ := by
  rw [show hX 0 ∪ hX 512 = rws 1024 64 0 1024 from (rws_union (by omega) (by omega)).symm]
  exact Finset.eq_univ_of_forall fun y => by rw [mem_rws]; exact ⟨Nat.zero_le _, (y 0).isLt⟩

/-- The two halves of the input buffer do not meet. -/
theorem hX_disjoint : Disjoint (hX 0) (hX 512) := rws_disjoint

section

variable (d : Dev nD) (i : grid0.Coords) in
/-- A program after another: the first one's post is that the rest runs. -/
theorem wp_then {α β : Type} {p : PR F i β} {k : β → PR F i α} {Q : α → sProp (MT nD τ sig (HIx 1) (Elt F) ℕ (UU F) ℕ)} :
    wpt d i p (fun a => wpt d i (k a) Q) ⊢ wpt d i (p >>= k) Q := by
  show _ ⊢ wp frame (wpE (defs₀ (F := F)) 𝒱₀ (thr d i) none) Set.univ (p >>= k) Q
  rw [wp_bind]

variable (d : Dev nD) (i : grid0.Coords) {fx : Buf (Elt F) (mA.view.loc (thr d i))} {E : ℕ → ℕ} {M : ℕ → BitVec 32}
variable {fe : Buf (Elt F) (mE.view.loc (thr d i))} {fm : Buf (Elt F) (mM.view.loc (thr d i))} {ιwm : ℕ} {O : CellTallies nD τ sig (HIx 1)} {W₀ : Waits sig (HIx 1)}

/-- A half of the output buffer filled with the rows from `R` of the result. -/
abbrev Full (fx : Buf (Elt F) (mA.view.loc (thr d i))) (E : ℕ → ℕ) (M : ℕ → BitVec 32) (lo R : ℕ) : sProp (MT nD τ sig (HIx 1) (Elt F) ℕ (UU F) ℕ) :=
  iprop(∃ g, ⌜∀ r < 512, ∀ c < 16, atO d i g (lo + r) c = zout d i fx E M (ix2 131072 16 (R + r) c)⌝ ∗ (mO.view.loc (thr d i) ↦[hO lo]{fullShare} g))

/-- The second half's copy on its way. -/
abbrev Fly2 (fx : Buf (Elt F) (mA.view.loc (thr d i))) (R : ℕ) (f : Buf (Elt F) (mX.view.loc (thr d i))) : sProp (MT nD τ sig (HIx 1) (Elt F) ℕ (UU F) ℕ) :=
  iprop(Flight EC (thr d i) (.dma cc0_scratch6.sem) default NX iprop(Tok d i fullShare.left f fx 512 R (∅ ∪ hX 512) ∗ (mA.view.loc (thr d i) ↦[rws 131072 64 R (R + 512)]{fullShare} fx))
    ∗ Tok d i fullShare.right f fx 512 R ∅)

variable (hT : Tables d i fe fm E M) (hM : TabOK E M) (hw1 : k0_chk1 (M 16)) {v3 : IVec S16 32} (hv3 : ∀ x, v3 x = BitVec.ofNat 32 (x 0).val)
  {v4 : IVec S16 32} (hv4 : ∀ c < 16, v4 (lane c) = M c) (v2 : BitVec 32) (t2 : Fin k0_t2_loop.trips)

include hT hM hv3 hv4

set_option maxHeartbeats 2000000 in
/-- The pair's first chunk: its rows awaited, the second's asked for, the first pooled. -/
theorem wp_part19 {Q : (Σ' (_ : BitVec 32) (_ : BitVec 32), BitVec 32) → sProp (MT nD τ sig (HIx 1) (Elt F) ℕ (UU F) ℕ)} {f : Buf (Elt F) (mX.view.loc (thr d i))} :
    iprop(wmInv EW ιwm ∗ MayWaits (thr d i) (default : HIx 1) O ∗ Tb d i fe fm ∗ OW d i O W₀ ∗ Fly d i fx (base i) t2.val f ∗ Keep d i ιwm fx (base i) t2.val f
        ∗ (∃ f', mX.view.loc (thr d i) ↦[hX 512]{fullShare} f') ∗ semVal (thr d i, .dma cc0_scratch6.sem) 0
        ∗ ptsA d i (base i + 1024 * t2.val + 512) (base i + 4096) fx ∗ OutSt d i cc0_scratch7 0 (base i) (zout d i fx E M) t2.val)
      ⊢ iprop((∀ r, Tb d i fe fm -∗ OW d i O W₀ -∗ ptsA d i (base i + 1024 * t2.val) (base i + 1024 * t2.val + 512) fx
              -∗ (mX.view.loc (thr d i) ↦[hX 0]{fullShare} gX d i fx 0 (base i + 1024 * t2.val)) -∗ semVal (thr d i, .dma cc0_scratch5.sem) 0
              -∗ (∃ f', Fly2 d i fx (base i + 1024 * t2.val + 512) f') -∗ ptsA d i (base i + 1024 * (t2.val + 1)) (base i + 4096) fx
              -∗ Back d i 0 (base i) (zout d i fx E M) t2.val -∗ Full d i fx E M 0 (base i + 1024 * t2.val) -∗ semVal (thr d i, .dma cc0_scratch7.sem) 0 -∗ Q r)
          -∗ wpt d i (k0_part19 i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 (k0_pay65 (F := F) v4) (M 16) hw1 0#32 1#32 t2) Q) := by
  have hj := lt_of_lt_of_eq t2.isLt t2_trips
  have hB := base_le i
  have hBm := base_mod i
  rw [k0_part19_eq_skeleton]
  unfold k0_part19_skel Fly Keep
  rw [if_pos hj, if_pos hj]
  simp only [t3_eq, t15_eq, bind_assoc, pure_bind]
  iintro ⟨#Hwm, #Hmw, HT, HO, Hf, ⟨#-, Ht⟩, ⟨%f', Hx'⟩, Hv6, Ha, Ho⟩ Hk
  iapply (wp_land d i (ιwm := ιwm) (lo := 0) (R := base i + 1024 * t2.val) (sem := cc0_scratch5) (O := O) (W₀ := W₀) (f := f) (fx := fx)) $$ [Hf Ht HO]
  · isplitr; · iexact Hwm
    isplitr; · iexact Hmw
    isplitl [Hf]; · iexact Hf
    isplitl [Ht] <;> iassumption
  iintro Ha1 Hx Hv5 HO
  ihave Ha := (ptsA_split d i (base i + 1024 * (t2.val + 1)) (by omega) (by omega)).1 $$ Ha
  icases Ha with ⟨Ha2, Ha⟩
  iapply (wp_fetch d i (ιwm := ιwm) (lo := 512) (R := base i + 1024 * t2.val + 512) (k0_off4_eq i t2) (by omega) (by omega) (sem := cc0_scratch6) (f := f') (fx := fx)) $$ [Ha2 Hx' Hv6]
  · isplitr; · iexact Hwm
    isplitl [Ha2]; · iexact Ha2
    isplitl [Hx'] <;> iassumption
  iintro Hf2 Ht2
  iapply (wp_collect d i (sem := cc0_scratch7) (lo := 0) (B := base i) (n := t2.val) (cond1_iff t2) (O := O) (W₀ := W₀)) $$ [Ho HO]
  · isplitr; · iexact Hmw
    isplitl [Ho] <;> iassumption
  iintro Hb Hg Hv7 HO
  iapply (wp_half d i (lo := 0) (R := base i + 1024 * t2.val) (gathers_half d i (lends_tok d i (ιwm := ιwm) (q := fullShare.right) (f := f') (fx := fx) (lo := 512) (R := base i + 1024 * t2.val + 512))
      (by omega) hX_union hX_disjoint) (by omega) (by omega) (by omega) hT hM (rows_val hv3 rfl (by omega)) (fun c hc => cols_val hv4 (fun c hc => by rcases hM.units c hc with h | h <;> have := hM.num <;> omega) hc)
      rowAt0_val hw1 _) $$ [Hx Ht2 HT Hg]
  · isplitl [Hx Ht2]
    · isplitl [Hx]; · iexact Hx
      isplitr; · iexact Hwm
      iexact Ht2
    isplitl [HT] <;> iassumption
  iintro ⟨Hx, ⟨#-, Ht2⟩⟩ HT Hg
  iapply (wp_done d i)
  ispecialize Hk $$ %_ HT HO Ha1 Hx Hv5 [Hf2 Ht2] Ha Hb Hg Hv7
  · iexists f'
    isplitl [Hf2] <;> iassumption
  iexact Hk

set_option maxHeartbeats 2000000 in
/-- The pair's second chunk: the first sent, the next pair's first asked for, the second pooled. -/
theorem wp_part20 {Q : PUnit → sProp (MT nD τ sig (HIx 1) (Elt F) ℕ (UU F) ℕ)} {f' : Buf (Elt F) (mX.view.loc (thr d i))} {fz : Buf (Elt F) (mZ.view.loc (thr d i))} (a b c : BitVec 32) :
    iprop(wmInv EW ιwm ∗ MayWaits (thr d i) (default : HIx 1) O ∗ Tb d i fe fm ∗ OW d i O W₀
        ∗ (mX.view.loc (thr d i) ↦[hX 0]{fullShare} gX d i fx 0 (base i + 1024 * t2.val)) ∗ semVal (thr d i, .dma cc0_scratch5.sem) 0
        ∗ Fly2 d i fx (base i + 1024 * t2.val + 512) f' ∗ ptsA d i (base i + 1024 * (t2.val + 1)) (base i + 4096) fx
        ∗ Full d i fx E M 0 (base i + 1024 * t2.val) ∗ semVal (thr d i, .dma cc0_scratch7.sem) 0 ∗ OutSt d i cc0_scratch8 512 (base i) (zout d i fx E M) t2.val
        ∗ ptsZ d i (base i + 1024 * t2.val) (base i + 1024 * t2.val + 512) fz)
      ⊢ iprop((Tb d i fe fm -∗ OW d i O W₀ -∗ ptsA d i (base i + 1024 * t2.val + 512) (base i + 1024 * (t2.val + 1)) fx
              -∗ (∃ f, Fly d i fx (base i) (t2.val + 1) f ∗ Keep d i ιwm fx (base i) (t2.val + 1) f) -∗ ptsA d i (base i + 1024 * (t2.val + 1) + 512) (base i + 4096) fx
              -∗ (∃ f, mX.view.loc (thr d i) ↦[hX 512]{fullShare} f) -∗ semVal (thr d i, .dma cc0_scratch6.sem) 0
              -∗ OutSt d i cc0_scratch7 0 (base i) (zout d i fx E M) (t2.val + 1)
              -∗ Back d i 512 (base i) (zout d i fx E M) t2.val -∗ Full d i fx E M 512 (base i + 1024 * t2.val + 512) -∗ semVal (thr d i, .dma cc0_scratch8.sem) 0 -∗ Q ⟨⟩)
          -∗ wpt d i (k0_part20 i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 (k0_pay65 (F := F) v4) (M 16) hw1 t2 a b c) Q) := by
  have hj := lt_of_lt_of_eq t2.isLt t2_trips
  have hB := base_le i
  have hBm := base_mod i
  rw [k0_part20_eq_skeleton]
  unfold k0_part20_skel
  simp only [t16_eq, t28_eq, bind_assoc, pure_bind]
  iintro ⟨#Hwm, #Hmw, HT, HO, Hx, Hv5, ⟨Hf2, Ht2⟩, Ha, ⟨%g, %hg, Hg⟩, Hv7, Ho, Hz⟩ Hk
  iapply (wp_send d i (lo := 0) (R := base i + 1024 * t2.val) (k0_off34_eq i t2) (by omega) hg (sem := cc0_scratch7) (fz := fz)) $$ [Hg Hz Hv7]
  · isplitl [Hg]; · iexact Hg
    isplitl [Hz] <;> iassumption
  iintro Ho7
  iapply (wp_land d i (ιwm := ιwm) (lo := 512) (R := base i + 1024 * t2.val + 512) (sem := cc0_scratch6) (O := O) (W₀ := W₀) (f := f') (fx := fx)) $$ [Hf2 Ht2 HO]
  · isplitr; · iexact Hwm
    isplitr; · iexact Hmw
    isplitl [Hf2]; · iexact Hf2
    isplitl [Ht2] <;> iassumption
  iintro Ha2 Hx2 Hv6 HO
  iapply (wp_next d i (ιwm := ιwm) (B := base i) (j := t2.val) hj hB (cond2_iff t2) (fun _ => (k0_off36_eq i t2).trans (congrArg (fun n => ![n, 0]) (show base i + 1024 * t2.val + 1024 = base i + 1024 * (t2.val + 1) by omega))) (fx := fx) (f := gX d i fx 0 (base i + 1024 * t2.val))) $$ [Ha Hx Hv5]
  · isplitr; · iexact Hwm
    isplitl [Ha]; · iexact Ha
    isplitl [Hx] <;> iassumption
  iintro Ha Hf Hkeep
  iapply (wp_collect d i (sem := cc0_scratch8) (lo := 512) (B := base i) (n := t2.val) (cond3_iff t2) (O := O) (W₀ := W₀)) $$ [Ho HO]
  · isplitr; · iexact Hmw
    isplitl [Ho] <;> iassumption
  iintro Hb Hg Hv8 HO
  iapply (wp_half d i (lo := 512) (R := base i + 1024 * t2.val + 512) (gathers_half d i (lends_keep d i (ιwm := ιwm) (B := base i) (j := t2.val + 1) (f := gX d i fx 0 (base i + 1024 * t2.val)))
      (by omega) ((Finset.union_comm _ _).trans hX_union) hX_disjoint.symm) (by omega) (by omega) (by omega) hT hM (rows_val hv3 rfl (by omega)) (fun c hc => cols_val hv4 (fun c hc => by rcases hM.units c hc with h | h <;> have := hM.num <;> omega) hc)
      rowAt1_val hw1 _) $$ [Hx2 Hkeep HT Hg]
  · isplitl [Hx2 Hkeep]
    · isplitl [Hx2] <;> iassumption
    isplitl [HT] <;> iassumption
  iintro ⟨Hx2, Hkeep⟩ HT Hg
  iapply (wp_done d i)
  ispecialize Hk $$ HT HO Ha2 [Hf Hkeep] Ha [Hx2] Hv6 [Ho7] Hb Hg Hv8
  · iexists _
    isplitl [Hf] <;> iassumption
  · iexists _; iexact Hx2
  · unfold OutSt; iexists g; iexact Ho7
  iexact Hk

omit hT hM hv3 hv4 in
/-- The rows the waits give back join those that are back already. -/
theorem back_join {B : ℕ} {fz : Buf (Elt F) (mZ.view.loc (thr d i))} : ∀ j, iprop(ptsZ d i B (B + 1024 * (j - 1)) fz ∗ Back d i 0 B fz j ∗ Back d i 512 B fz j) ⊢ ptsZ d i B (B + 1024 * j) fz
  | 0 => by
    unfold Back
    iintro ⟨H, -, -⟩
    iexact H
  | j + 1 => by
    unfold Back
    iintro ⟨H, H1, H2⟩
    ihave H1 := (ptsZ_split d i (B + 1024 * j + 512) (by omega) (by omega) (a := B + 1024 * j) (c := B + 1024 * (j + 1)) (f := fz)).2 $$ [H1 H2]
    · isplitl [H1]
      · iexact H1
      · rw [show B + 1024 * (j + 1) = B + 1024 * j + 512 + 512 by omega]; iexact H2
    iapply (ptsZ_split d i (B + 1024 * j) (by omega) (by omega)).2
    isplitl [H]
    · iexact H
    · iexact H1

omit hT hM hv3 hv4 in
/-- What the tile holds before its `j`-th pair of chunks. -/
def Inv (ιwm : ℕ) (O : CellTallies nD τ sig (HIx 1)) (W₀ : Waits sig (HIx 1)) (fe : Buf (Elt F) (mE.view.loc (thr d i))) (fm : Buf (Elt F) (mM.view.loc (thr d i)))
    (fx : Buf (Elt F) (mA.view.loc (thr d i))) (fz zo : Buf (Elt F) (mZ.view.loc (thr d i))) (j : ℕ) : sProp (MT nD τ sig (HIx 1) (Elt F) ℕ (UU F) ℕ) :=
  iprop(Tb d i fe fm ∗ OW d i O W₀ ∗ ptsA d i (base i) (base i + 1024 * j) fx ∗ ptsA d i (base i + 1024 * j + 512) (base i + 4096) fx
    ∗ (∃ f, Fly d i fx (base i) j f ∗ Keep d i ιwm fx (base i) j f) ∗ (∃ f, mX.view.loc (thr d i) ↦[hX 512]{fullShare} f) ∗ semVal (thr d i, .dma cc0_scratch6.sem) 0
    ∗ OutSt d i cc0_scratch7 0 (base i) zo j ∗ OutSt d i cc0_scratch8 512 (base i) zo j
    ∗ ptsZ d i (base i) (base i + 1024 * (j - 1)) zo ∗ ptsZ d i (base i + 1024 * j) (base i + 4096) fz)

set_option maxHeartbeats 2000000 in
/-- A pair of chunks. -/
theorem wp_pair {Q : Unit → sProp (MT nD τ sig (HIx 1) (Elt F) ℕ (UU F) ℕ)} {fz : Buf (Elt F) (mZ.view.loc (thr d i))} (u : Unit) :
    iprop(wmInv EW ιwm ∗ MayWaits (thr d i) (default : HIx 1) O ∗ Inv d i ιwm O W₀ fe fm fx fz (zout d i fx E M) t2.val)
      ⊢ iprop((Inv d i ιwm O W₀ fe fm fx fz (zout d i fx E M) (t2.val + 1) -∗ Q ⟨⟩) -∗ wpt d i (k0_t2_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v4 (M 16) hw1 t2 u) Q) := by
  have hj := lt_of_lt_of_eq t2.isLt t2_trips
  have hB := base_le i
  unfold k0_t2_body
  unfold Inv
  iintro ⟨#Hwm, #Hmw, HT, HO, Ha0, Ha, ⟨%f, Hf, Hkeep⟩, Hx2, Hv6, Ho7, Ho8, Hz0, Hz⟩ Hk
  iapply (wp_then d i)
  iapply (wp_part19 d i (ιwm := ιwm) (O := O) (W₀ := W₀) hT hM hw1 hv3 hv4 v2 t2 (f := f) (fx := fx)) $$ [HT HO Ha Hf Hkeep Hx2 Hv6 Ho7]
  · isplitr; · iexact Hwm
    isplitr; · iexact Hmw
    isplitl [HT]; · iexact HT
    isplitl [HO]; · iexact HO
    isplitl [Hf]; · iexact Hf
    isplitl [Hkeep]; · iexact Hkeep
    isplitl [Hx2]; · iexact Hx2
    isplitl [Hv6]; · iexact Hv6
    isplitl [Ha] <;> iassumption
  iintro %r HT HO Ha1 Hx Hv5 ⟨%f', Hf2⟩ Ha Hb Hg Hv7
  ihave Hz := (ptsZ_split d i (base i + 1024 * t2.val + 512) (by omega) (by omega)).1 $$ Hz
  icases Hz with ⟨Hz1, Hz⟩
  obtain ⟨a, b, c⟩ := r
  iapply (wp_then d i)
  iapply (wp_part20 d i (ιwm := ιwm) (O := O) (W₀ := W₀) hT hM hw1 hv3 hv4 v2 t2 (f' := f') (fx := fx) (fz := fz) a b c) $$ [HT HO Hx Hv5 Hf2 Ha Hg Hv7 Ho8 Hz1]
  · isplitr; · iexact Hwm
    isplitr; · iexact Hmw
    isplitl [HT]; · iexact HT
    isplitl [HO]; · iexact HO
    isplitl [Hx]; · iexact Hx
    isplitl [Hv5]; · iexact Hv5
    isplitl [Hf2]; · iexact Hf2
    isplitl [Ha]; · iexact Ha
    isplitl [Hg]; · iexact Hg
    isplitl [Hv7]; · iexact Hv7
    isplitl [Ho8] <;> iassumption
  iintro HT HO Ha2 Hin Ha Hx2 Hv6 Ho7 Hb' ⟨%g, %hg, Hg⟩ Hv8
  ihave Hz := (ptsZ_split d i (base i + 1024 * (t2.val + 1)) (by omega) (by omega)).1 $$ Hz
  icases Hz with ⟨Hz1, Hz⟩
  iapply (wp_send d i (lo := 512) (R := base i + 1024 * t2.val + 512) (k0_off66_eq i t2) (by omega) hg (sem := cc0_scratch8) (fz := fz)) $$ [Hg Hz1 Hv8]
  · isplitl [Hg]; · iexact Hg
    isplitl [Hz1]; · iexact Hz1
    iexact Hv8
  iintro Ho8
  iapply (wp_done d i)
  iapply Hk
  isplitl [HT]; · iexact HT
  isplitl [HO]; · iexact HO
  isplitl [Ha0 Ha1 Ha2]
  · ihave Ha1 := (ptsA_split d i (base i + 1024 * t2.val + 512) (by omega) (by omega) (a := base i + 1024 * t2.val) (c := base i + 1024 * (t2.val + 1)) (f := fx)).2 $$ [Ha1 Ha2]
    · isplitl [Ha1] <;> iassumption
    iapply (ptsA_split d i (base i + 1024 * t2.val) (by omega) (by omega)).2
    isplitl [Ha0] <;> iassumption
  isplitl [Ha]; · iexact Ha
  isplitl [Hin]; · iexact Hin
  isplitl [Hx2]; · iexact Hx2
  isplitl [Hv6]; · iexact Hv6
  isplitl [Ho7]; · iexact Ho7
  isplitl [Ho8]
  · unfold OutSt
    iexists g
    iexact Ho8
  isplitl [Hz0 Hb Hb']
  · iapply (back_join d i t2.val)
    isplitl [Hz0]; · iexact Hz0
    isplitl [Hb] <;> iassumption
  iexact Hz

end

end Cert.Proof.Pool
-- ==== Proof.Tile.lean ====
/-
  The tile's whole run: the tables fetched, the idle accumulators cleared, the eight chunks of the
  tile's points pooled in pairs, and the last results awaited.
-/
module

public import proofs.«01_k».proof.Proof.Body

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section

variable (d : Dev nD) (i : grid0.Coords) {O : CellTallies nD τ sig (HIx 1)} {W₀ : Waits sig (HIx 1)} {ιwm : ℕ}

/-- A table fetched whole, and waited for. -/
theorem wp_table {S : Shape} {e : EltTy} {src : Memref sig .scVector .hbm S e} {dst : Memref sig .scVector .vmem S e} {sem : SemArray (DmaSem sig) S_} {h1 h2 h3 h4 h5}
    (hN : 0 < dst.view.dmaCredit) (hS : src.view.set = Finset.univ) (hD : dst.view.set = Finset.univ) {q : PosShare TreeShare} {fs : Buf (Elt F) (src.view.loc (thr d i))} {fd : Buf (Elt F) (dst.view.loc (thr d i))}
    {α : Type} {k : PUnit → PR F i α} {Q : α → sProp (MT nD τ sig (HIx 1) (Elt F) ℕ (UU F) ℕ)} :
    iprop(MayWaits (thr d i) (default : HIx 1) O ∗ (src.view.loc (thr d i) ↦[Finset.univ]{q} fs) ∗ (dst.view.loc (thr d i) ↦[Finset.univ]{fullShare} fd) ∗ semVal (thr d i, .dma sem.sem) 0 ∗ OW d i O W₀)
      ⊢ iprop(((src.view.loc (thr d i) ↦[Finset.univ]{q} fs) -∗ (dst.view.loc (thr d i) ↦[Finset.univ]{fullShare} dst.view.write (Elt F) fd (src.view.read (Elt F) fs) Finset.univ)
              -∗ semVal (thr d i, .dma sem.sem) 0 -∗ OW d i O W₀ -∗ wpt d i (k ⟨⟩) Q)
          -∗ wpt d i (Prog.lift (.enqueueDma src (.here dst) (.dma sem.sem) h1 h2 h3) >>= fun _ => Prog.lift (.waitDma2 sem.sem src dst h4 h5) >>= k) Q) := by
  have eS : (src.view.loc (thr d i) ↦[Finset.univ]{q} fs : sProp 𝕄) = src.view.loc (thr d i) ↦[src.view.set]{q} fs := by rw [hS]
  have eD : ∀ fd, (dst.view.loc (thr d i) ↦[Finset.univ]{fullShare} fd : sProp 𝕄) = dst.view.loc (thr d i) ↦[dst.view.set]{fullShare} fd := fun _ => by rw [hD]
  rw [eS, eD, eD]
  unfold OW
  iintro ⟨#Hmw, Hs, Hd, Hv, ⟨%W', %hW', HO⟩⟩ Hk
  iapply (wp_dmaLocal EC (defs := defs₀ (F := F)) 𝒱₀ (thr d i) none (src := src) (dst := dst) (via := .same) (sm := .dma sem.sem) (hsrc := h1) (hdst := h2) (hsem := h3)
    (k := fun _ => Prog.lift (.waitDma2 sem.sem src dst h4 h5) >>= k) (Q := Q) (q := q) (fs := fs) (fd := fd) (Sd := dst.view.set) default dst.view.dmaCredit rfl hN subset_rfl) $$ [Hs Hd Hv]
  · isplitl [Hs]; · iexact Hs
    isplitl [Hd] <;> iassumption
  iintro Hf
  iapply (wp_waitLocalO EC 𝒱₀ (thr d i) none (sem := sem.sem) (srcw := src) (dstw := dst) (hsrc := h4) (hdst := h5) (k := k) default (N := dst.view.dmaCredit) rfl) $$ [Hf HO]
  · isplitl [Hf]; · iexact Hf
    isplitl [HO]; · iexact HO
    iapply (MayWaits.elim (SemLoc.dma sem.sem)) $$ Hmw
  iintro ⟨⟨Hd, Hs⟩, Hv, HO⟩
  ispecialize Hk $$ Hs Hd Hv
  iapply Hk
  iexists (insert (SemLoc.dma sem.sem, default) W')
  isplitr
  · ipureintro
    intro p hp
    rcases Finset.mem_insert.1 hp with rfl | hp
    · exact .inr rfl
    · exact hW' p hp
  · iexact HO

/-- The check of the unit count: sixteen units at most keep every access inside its array. -/
theorem chk1_of {v9 : BitVec 32} (h : v9.toNat < 17) : k0_chk1 v9 := by
  have h3 : ∀ t : Fin (k0_t3_loop v9).trips, t.val < 16 := fun t => by have := lt_of_lt_of_eq t.isLt (t3_trips h); omega
  have h9 : ∀ t : Fin (k0_t9_loop v9).trips, False := fun t => absurd (lt_of_lt_of_eq t.isLt (t9_trips h)) (Nat.not_lt_zero _)
  have h6 : ∀ t : Fin (k0_t3_loop v9).trips, ∀ a, k0_off6 v9 t a + S16.size a ≤ S288.size a := fun t a => by
    have := h3 t
    obtain rfl := Fin.fin_one_eq_zero a
    rw [off6_val (h3 t)]; show _ + 16 ≤ 288; omega
  have h7 : ∀ (t : Fin (k0_t3_loop v9).trips) (t' : Fin k0_t4_loop.trips), ∀ a, k0_off7 v9 t t' a + S16.size a ≤ S8704.size a := fun t t' a => by
    have := h3 t
    have := lt_of_lt_of_eq t'.isLt t4_trips
    obtain rfl := Fin.fin_one_eq_zero a
    rw [off7_val (h3 t)]; show _ + 16 ≤ 8704; omega
  have ok3 : (k0_t3_loop v9).OK := of_small (P := fun v => (k0_t3_loop v).OK) (n := 17) (by decide +kernel) h
  have ok9 : (k0_t9_loop v9).OK := of_small (P := fun v => (k0_t9_loop v).OK) (n := 17) (by decide +kernel) h
  exact ⟨ok3, h6, h7, ok9, fun t => (h9 t).elim, fun t => (h9 t).elim, ok3, h6, h7, ok9, fun t => (h9 t).elim, fun t => (h9 t).elim⟩

/-- Lane `n` of the lane numbers is `n`. -/
theorem iota_val (x : S16.Idx) : iota .scVector S16 32 [0] iota_S16_d0_w32_scVector x = BitVec.ofNat 32 (x 0).val := by
  show BitVec.ofNat 32 (0 * 16 + (x 0).val) = _
  rw [Nat.zero_mul, Nat.zero_add]

/-- The loop that writes the zeros takes 32 steps. -/
theorem t1_trips : k0_t1_loop.trips = 32 := by decide +kernel

/-- The accumulators past the units' are cleared. -/
theorem wp_zeros {α : Type} {k : Unit → PR F i α} {Q : α → sProp (MT nD τ sig (HIx 1) (Elt F) ℕ (UU F) ℕ)} {ok} :
    iprop(∃ f, mR.view.loc (thr d i) ↦[Finset.univ]{fullShare} f)
      ⊢ iprop(((∃ f, ⌜Zero d i f⌝ ∗ (mR.view.loc (thr d i) ↦[Finset.univ]{fullShare} f)) -∗ wpt d i (k ⟨⟩) Q)
          -∗ wpt d i (Scf.Loop.for k0_t1_loop ok ⟨⟩ (k0_t1_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) >>= k) Q) := by
  iintro ⟨%f, Hm⟩ Hk
  iapply (wp_loop d i (l := k0_t1_loop) (fun g => iprop(∃ f, ⌜∀ n, 8192 ≤ n → n < 8192 + 16 * g → at8 d i f n = fzero⌝ ∗ (mR.view.loc (thr d i) ↦[Finset.univ]{fullShare} f))) ?_) $$ [Hm]
  · intro t
    have ht : t.val < 32 := lt_of_lt_of_eq t.isLt t1_trips
    iintro ⟨%f0, %h0, Hm⟩
    unfold k0_t1_body
    iapply (wp_ld d i mR (k0_off1 t) (k0_off1_inb t) _) $$ Hm
    iintro Hm
    iapply (wp_st d i mR (k0_off1 t) (k0_off1_inb t) _) $$ Hm
    iintro %f1 %h1 Hm
    iapply (wp_done d i)
    iexists f1
    isplitr
    · ipureintro
      intro n hn hn'
      have h1' := h1 n (by omega)
      rw [k0_off1_eq t] at h1'
      have e : at8 d i f1 n = if 16 * t.val + 8192 ≤ n ∧ n < 16 * t.val + 8192 + 16 then fzero else at8 d i f0 n := h1'
      rw [e]
      split
      · rfl
      · next h => exact h0 n hn (by omega)
    · iexact Hm
  · iexists f
    isplitr
    · ipureintro; intro n hn hn'; omega
    · iexact Hm
  rw [t1_trips]
  iintro ⟨%f0, %h0, Hm⟩
  iapply Hk
  iexists f0
  isplitr
  · ipureintro; exact h0
  · iexact Hm

/-- The node table and the small table, as the host left them. -/
abbrev Etab (fg : Buf (Elt F) (mG.view.loc (thr d i))) (n : ℕ) : ℕ := (show BitVec 32 from fg (ix 16384 n)).toNat
abbrev Mtab (fn : Buf (Elt F) (mN.view.loc (thr d i))) (n : ℕ) : BitVec 32 := fn (ix 288 n)

variable (fg : Buf (Elt F) (mG.view.loc (thr d i))) (fn : Buf (Elt F) (mN.view.loc (thr d i))) (fx : Buf (Elt F) (mA.view.loc (thr d i))) (fz : Buf (Elt F) (mZ.view.loc (thr d i))) (q q' : PosShare TreeShare)

/-- What the tile starts from, beside its output rows, and brings back. -/
def Kit : sProp (MT nD τ sig (HIx 1) (Elt F) ℕ (UU F) ℕ) :=
  iprop((mG.view.loc (thr d i) ↦[Finset.univ]{q} fg) ∗ (mN.view.loc (thr d i) ↦[Finset.univ]{q'} fn) ∗ ptsA d i (base i) (base i + 4096) fx)

/-- The tile's scratch arrays and its counters. -/
def Own : sProp (MT nD τ sig (HIx 1) (Elt F) ℕ (UU F) ℕ) :=
  iprop((∃ f, mX.view.loc (thr d i) ↦[Finset.univ]{fullShare} f) ∗ (∃ f, mO.view.loc (thr d i) ↦[Finset.univ]{fullShare} f) ∗ (∃ f, mR.view.loc (thr d i) ↦[Finset.univ]{fullShare} f)
    ∗ (∃ f, mE.view.loc (thr d i) ↦[Finset.univ]{fullShare} f) ∗ (∃ f, mM.view.loc (thr d i) ↦[Finset.univ]{fullShare} f)
    ∗ semVal (thr d i, .dma cc0_scratch5.sem) 0 ∗ semVal (thr d i, .dma cc0_scratch6.sem) 0 ∗ semVal (thr d i, .dma cc0_scratch7.sem) 0 ∗ semVal (thr d i, .dma cc0_scratch8.sem) 0
    ∗ semVal (thr d i, .dma cc0_scoped0.sem) 0 ∗ semVal (thr d i, .dma cc0_scoped1.sem) 0)

/-- The two halves make up the output buffer. -/
theorem hO_union : hO 0 ∪ hO 512 = Finset.univ := by
  rw [show hO 0 ∪ hO 512 = rws 1024 16 0 1024 from (rws_union (by omega) (by omega)).symm]
  exact Finset.eq_univ_of_forall fun y => by rw [mem_rws]; exact ⟨Nat.zero_le _, (y 0).isLt⟩

/-- The two buffers come in halves, and the halves make the buffers. -/
theorem halves_X {f : Buf (Elt F) (mX.view.loc (thr d i))} : ((mX.view.loc (thr d i) ↦[Finset.univ]{fullShare} f) : sProp 𝕄) ⊢ iprop((mX.view.loc (thr d i) ↦[hX 0]{fullShare} f) ∗ (mX.view.loc (thr d i) ↦[hX 512]{fullShare} f)) := by
  rw [← hX_union]; exact (pointsTo_union hX_disjoint).1
/-- The output buffer in two halves. -/
theorem halves_O {f : Buf (Elt F) (mO.view.loc (thr d i))} : ((mO.view.loc (thr d i) ↦[Finset.univ]{fullShare} f) : sProp 𝕄) ⊢ iprop((mO.view.loc (thr d i) ↦[hO 0]{fullShare} f) ∗ (mO.view.loc (thr d i) ↦[hO 512]{fullShare} f)) := by
  rw [← hO_union]; exact (pointsTo_union rws_disjoint).1
/-- The input buffer from its two halves. -/
theorem join_X {f f' : Buf (Elt F) (mX.view.loc (thr d i))} : (iprop((mX.view.loc (thr d i) ↦[hX 0]{fullShare} f) ∗ (mX.view.loc (thr d i) ↦[hX 512]{fullShare} f')) : sProp 𝕄) ⊢ iprop(∃ f, mX.view.loc (thr d i) ↦[Finset.univ]{fullShare} f) := by
  rw [← hX_union]; exact (pointsTo_join hX_disjoint).trans (exists_intro (Φ := fun f => iprop(mX.view.loc (thr d i) ↦[hX 0 ∪ hX 512]{fullShare} f)) _)
/-- The output buffer from its two halves. -/
theorem join_O {f f' : Buf (Elt F) (mO.view.loc (thr d i))} : (iprop((mO.view.loc (thr d i) ↦[hO 0]{fullShare} f) ∗ (mO.view.loc (thr d i) ↦[hO 512]{fullShare} f')) : sProp 𝕄) ⊢ iprop(∃ f, mO.view.loc (thr d i) ↦[Finset.univ]{fullShare} f) := by
  rw [← hO_union]; exact (pointsTo_join rws_disjoint).trans (exists_intro (Φ := fun f => iprop(mO.view.loc (thr d i) ↦[hO 0 ∪ hO 512]{fullShare} f)) _)

/-- An empty band of the points. -/
theorem ptsA_empty {a b : ℕ} (h : b ≤ a := by omega) : ptsA d i a b fx = iprop(emp) := by
  unfold ptsA; rw [show rws 131072 64 a b = ∅ from Finset.eq_empty_of_forall_notMem fun y hy => by rw [mem_rws] at hy; omega]; exact pointsTo_empty
/-- An empty band of the result. -/
theorem ptsZ_empty {a b : ℕ} (h : b ≤ a := by omega) : ptsZ d i a b fz = iprop(emp) := by
  unfold ptsZ; rw [show rws 131072 16 a b = ∅ from Finset.eq_empty_of_forall_notMem fun y hy => by rw [mem_rws] at hy; omega]; exact pointsTo_empty

omit fg fn fx fz q q' in
/-- A pair of chunks, the unit count read as the word `v9`. -/
theorem wp_pair' {fx : Buf (Elt F) (mA.view.loc (thr d i))} {E : ℕ → ℕ} {M : ℕ → BitVec 32} {fe : Buf (Elt F) (mE.view.loc (thr d i))} {fm : Buf (Elt F) (mM.view.loc (thr d i))}
    (hT : Tables d i fe fm E M) (hM : TabOK E M) {v9 : BitVec 32} (h9 : v9 = M 16) (hw1 : k0_chk1 v9) {v3 : IVec S16 32} (hv3 : ∀ x, v3 x = BitVec.ofNat 32 (x 0).val)
    {v4 : IVec S16 32} (hv4 : ∀ c < 16, v4 (lane c) = M c) (v2 : BitVec 32) (t2 : Fin k0_t2_loop.trips) {Q : Unit → sProp (MT nD τ sig (HIx 1) (Elt F) ℕ (UU F) ℕ)} {fz : Buf (Elt F) (mZ.view.loc (thr d i))} (u : Unit) :
    iprop(wmInv EW ιwm ∗ MayWaits (thr d i) (default : HIx 1) O ∗ Inv d i ιwm O W₀ fe fm fx fz (zout d i fx E M) t2.val)
      ⊢ iprop((Inv d i ιwm O W₀ fe fm fx fz (zout d i fx E M) (t2.val + 1) -∗ Q ⟨⟩) -∗ wpt d i (k0_t2_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v2 v3 v4 v9 hw1 t2 u) Q) := by
  subst h9
  exact wp_pair d i hT hM hw1 hv3 hv4 v2 t2 u

variable {fg fn fx fz q q'} (hM : TabOK (Etab d i fg) (Mtab d i fn))
include hM

set_option maxHeartbeats 2000000 in
/-- The run up to the last two waits. -/
theorem wp_part21 {Q : BitVec 32 → sProp (MT nD τ sig (HIx 1) (Elt F) ℕ (UU F) ℕ)} :
    iprop(wmInv EW ιwm ∗ MayWaits (thr d i) (default : HIx 1) O ∗ Kit d i fg fn fx q q' ∗ ptsZ d i (base i) (base i + 4096) fz ∗ Own d i ∗ OW d i O W₀)
      ⊢ iprop((∀ v, (mG.view.loc (thr d i) ↦[Finset.univ]{q} fg) -∗ (mN.view.loc (thr d i) ↦[Finset.univ]{q'} fn) -∗ semVal (thr d i, .dma cc0_scoped0.sem) 0 -∗ semVal (thr d i, .dma cc0_scoped1.sem) 0
            -∗ (∃ fe fm, Inv d i ιwm O W₀ fe fm fx fz (zout d i fx (Etab d i fg) (Mtab d i fn)) 4) -∗ Q v)
          -∗ wpt d i (k0_part21 i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) Q) := by
  have hB := base_le i
  have hBm := base_mod i
  rw [k0_part21_eq_skeleton]
  unfold k0_part21_skel
  dsimp only
  unfold Kit Own
  iintro ⟨#Hwm, #Hmw, ⟨Hg, Hn, Ha⟩, Hz, ⟨⟨%fb, Hx⟩, ⟨%g, Ho⟩, Hr, ⟨%fe, He⟩, ⟨%fm, Hm⟩, Hv5, Hv6, Hv7, Hv8, Hs0, Hs1⟩, HO⟩ Hk
  iapply (wp_table d i (src := mG) (dst := mE) (sem := cc0_scoped0) (O := O) (W₀ := W₀) (View.dmaCredit_pos _ (by decide)) (View.set_whole _) (View.set_whole _) (q := q) (fs := fg) (fd := fe)) $$ [Hg He Hs0 HO]
  · isplitr; · iexact Hmw
    isplitl [Hg]; · iexact Hg
    isplitl [He]; · iexact He
    isplitl [Hs0] <;> iassumption
  iintro Hg He Hs0 HO
  iapply (wp_table d i (src := mN) (dst := mM) (sem := cc0_scoped1) (O := O) (W₀ := W₀) (View.dmaCredit_pos _ (by decide)) (View.set_whole _) (View.set_whole _) (q := q') (fs := fn) (fd := fm)) $$ [Hn Hm Hs1 HO]
  · isplitr; · iexact Hmw
    isplitl [Hn]; · iexact Hn
    isplitl [Hm]; · iexact Hm
    isplitl [Hs1] <;> iassumption
  iintro Hn Hm Hs1 HO
  have hT : Tables d i (mE.view.write (Elt F) fe (mG.view.read (Elt F) fg) Finset.univ) (mM.view.write (Elt F) fm (mN.view.read (Elt F) fn) Finset.univ) (Etab d i fg) (Mtab d i fn) :=
    ⟨fun n _ => congrArg BitVec.toNat (congrFun (View.read_write_univ _ _) _), fun n _ => congrFun (View.read_write_univ _ _) _⟩
  generalize mE.view.write (Elt F) fe (mG.view.read (Elt F) fg) Finset.univ = fe' at hT ⊢
  generalize mM.view.write (Elt F) fm (mN.view.read (Elt F) fn) Finset.univ = fm' at hT ⊢
  iapply (wp_ld d i mM ![0] inb_S288_S16_0 _) $$ Hm
  iintro Hm
  iapply (wp_ld d i mM ![16] inb_S288_S16_16 _) $$ Hm
  iintro Hm
  have hv4 : ∀ c < 16, (fun x : S16.Idx => mM.view.read (Elt F) fm' (ix 288 ((![0] : Fin 1 → ℕ) 0 + (x 0).val))) (lane c) = Mtab d i fn c := by
    intro c hc
    show mM.view.read (Elt F) _ (ix 288 (0 + c % 16)) = _
    rw [Nat.zero_add, Nat.mod_eq_of_lt hc]
    exact hT.2 _ (by omega)
  have h9 : extractAt ![0] (k0_pay66 (F := F) fun x : S16.Idx => mM.view.read (Elt F) fm' (ix 288 ((![16] : Fin 1 → ℕ) 0 + (x 0).val))) inpos_S1_p0 = Mtab d i fn 16 := by
    show (show BitVec 32 from mM.view.read (Elt F) fm' (ix 288 (16 + 0))) = _
    exact hT.2 16 (by omega)
  iapply (wp_chk d i ?_)
  rotate_left
  · refine chk1_of (lt_of_eq_of_lt (congrArg BitVec.toNat h9) hM.num)
  iapply (wp_zeros d i) $$ Hr
  iintro Hr
  ihave Ha := (ptsA_split d i (base i + 512) (by omega) (by omega)).1 $$ Ha
  icases Ha with ⟨Ha1, Ha⟩
  ihave Hx := (halves_X d i) $$ Hx
  icases Hx with ⟨Hx1, Hx2⟩
  ihave Ho := (halves_O d i) $$ Ho
  icases Ho with ⟨Ho1, Ho2⟩
  iapply (wp_fetch d i (ιwm := ιwm) (lo := 0) (R := base i) (k0_off2_eq i) (by omega) (by omega) (sem := cc0_scratch5) (f := fb) (fx := fx)) $$ [Ha1 Hx1 Hv5]
  · isplitr; · iexact Hwm
    isplitl [Ha1]; · iexact Ha1
    isplitl [Hx1] <;> iassumption
  iintro Hf Ht
  iapply (wp_loop d i (l := k0_t2_loop) (fun j => iprop(wmInv EW ιwm ∗ MayWaits (thr d i) (default : HIx 1) O ∗ Inv d i ιwm O W₀ fe' fm'
      fx fz (zout d i fx (Etab d i fg) (Mtab d i fn)) j)) ?_) $$ [Hr He Hm HO Ha Hf Ht Hx2 Hv6 Ho1 Hv7 Ho2 Hv8 Hz]
  · intro t
    have key := wp_pair' d i (ιwm := ιwm) (O := O) (W₀ := W₀) hT hM h9 (chk1_of (lt_of_eq_of_lt (congrArg BitVec.toNat h9) hM.num)) (v3 := iota .scVector S16 32 [0] iota_S16_d0_w32_scVector) (fun x => iota_val x)
      (v4 := fun x : S16.Idx => mM.view.read (Elt F) fm' (ix 288 ((![0] : Fin 1 → ℕ) 0 + (x 0).val))) hv4
      (Scalar.muli (Scalar.addi (Scalar.muli (BitVec.ofNat 32 (i 1).val) 2#32) (BitVec.ofNat 32 (i 0).val)) 4096#32) t (fx := fx) (fz := fz) ⟨⟩
      (Q := fun _ => iprop(wmInv EW ιwm ∗ MayWaits (thr d i) (default : HIx 1) O ∗ Inv d i ιwm O W₀ fe' fm' fx fz (zout d i fx (Etab d i fg) (Mtab d i fn)) (t.val + 1)))
    iintro ⟨#Hwm, #Hmw, HI⟩
    iapply key $$ [HI]
    · isplitr; · iexact Hwm
      isplitr; · iexact Hmw
      iexact HI
    iintro HI
    isplitr; · iexact Hwm
    isplitr; · iexact Hmw
    iexact HI
  · isplitr; · iexact Hwm
    isplitr; · iexact Hmw
    unfold Inv Tb OutSt
    isplitl [He Hm Hr]
    · isplitl [He]; · iexact He
      isplitl [Hm]; · iexact Hm
      iexact Hr
    isplitl [HO]; · iexact HO
    isplitr
    · rw [ptsA_empty]; iempintro
    isplitl [Ha]; · iexact Ha
    isplitl [Hf Ht]
    · iexists fb
      unfold Fly Keep
      rw [if_pos (by omega), if_pos (by omega)]
      isplitl [Hf]; · iexact Hf
      isplitr; · iexact Hwm
      iexact Ht
    isplitl [Hx2]; · iexists fb; iexact Hx2
    isplitl [Hv6]; · iexact Hv6
    isplitl [Ho1 Hv7]
    · isplitl [Ho1]
      · iexists g; iexact Ho1
      · iexact Hv7
    isplitl [Ho2 Hv8]
    · isplitl [Ho2]
      · iexists g; iexact Ho2
      · iexact Hv8
    isplitr
    · rw [ptsZ_empty]; iempintro
    iexact Hz
  rw [t2_trips]
  iintro ⟨-, -, HI⟩
  iapply (wp_done d i)
  ispecialize Hk $$ %_ Hg Hn Hs0 Hs1 [HI]
  · iexists _; iexists _; iexact HI
  iexact Hk

set_option maxHeartbeats 2000000 in
/-- The tile's run: from its rows of the points and of the result, its shares of the tables and its own scratch, to the
    result's rows holding what the tables make of the points, and all the rest as it was. -/
theorem wp_tile :
    iprop(wmInv EW ιwm ∗ MayWaits (thr d i) (default : HIx 1) O ∗ Kit d i fg fn fx q q' ∗ ptsZ d i (base i) (base i + 4096) fz ∗ Own d i ∗ OW d i O W₀)
      ⊢ wpt d i (cc0__sc_body i (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) fun _ => iprop(Kit d i fg fn fx q q' ∗ ptsZ d i (base i) (base i + 4096) (zout d i fx (Etab d i fg) (Mtab d i fn)) ∗ Own d i ∗ OW d i O W₀) := by
  have hB := base_le i
  rw [cc0__sc_body_eq_skeleton]
  unfold cc0__sc_body_skel
  dsimp only
  iintro ⟨#Hwm, #Hmw, HK, Hz, Hown, HO⟩
  iapply (wp_then d i)
  iapply (wp_part21 d i (ιwm := ιwm) (O := O) (W₀ := W₀) (fz := fz) hM) $$ [HK Hz Hown HO]
  · isplitr; · iexact Hwm
    isplitr; · iexact Hmw
    isplitl [HK]; · iexact HK
    isplitl [Hz]; · iexact Hz
    isplitl [Hown] <;> iassumption
  unfold Inv Tb OutSt
  iintro %v Hg Hn Hs0 Hs1 ⟨%fe, %fm, ⟨He, Hm, %fr, %hfr, Hr⟩, HO, Ha, -, ⟨%f, Hv5, Hx⟩, ⟨%f', Hx'⟩, Hv6, ⟨%g, Ho⟩, ⟨%g', Ho'⟩, Hz, -⟩
  ihave Hv5 := (Entails.of_eq (show Fly d i fx (base i) 4 f = semVal (thr d i, .dma cc0_scratch5.sem) 0 from if_neg (by omega))) $$ Hv5
  ihave Hx := (Entails.of_eq (show Keep d i ιwm fx (base i) 4 f = (mX.view.loc (thr d i) ↦[hX 0]{fullShare} f) from if_neg (by omega))) $$ Hx
  iapply (wp_sent d i (sem := cc0_scratch7) (O := O) (W₀ := W₀)) $$ [Ho HO]
  · isplitr; · iexact Hmw
    isplitl [Ho] <;> iassumption
  iintro ⟨Hz1, Ho⟩ Hv7 HO
  iapply (wp_sent d i (sem := cc0_scratch8) (O := O) (W₀ := W₀)) $$ [Ho' HO]
  · isplitr; · iexact Hmw
    isplitl [Ho'] <;> iassumption
  iintro ⟨Hz2, Ho'⟩ Hv8 HO
  iapply (wp_done d i)
  unfold Kit Own
  isplitl [Hg Hn Ha]
  · isplitl [Hg]; · iexact Hg
    isplitl [Hn]; · iexact Hn
    iexact Ha
  isplitl [Hz Hz1 Hz2]
  · iapply (back_join d i 4)
    unfold Back
    isplitl [Hz]; · iexact Hz
    isplitl [Hz1] <;> iassumption
  isplitr [HO]
  · isplitl [Hx Hx']
    · iapply (join_X d i)
      isplitl [Hx] <;> iassumption
    isplitl [Ho Ho']
    · iapply (join_O d i)
      isplitl [Ho] <;> iassumption
    isplitl [Hr]; · iexists fr; iexact Hr
    isplitl [He]; · iexists fe; iexact He
    isplitl [Hm]; · iexists fm; iexact Hm
    isplitl [Hv5]; · iexact Hv5
    isplitl [Hv6]; · iexact Hv6
    isplitl [Hv7]; · iexact Hv7
    isplitl [Hv8]; · iexact Hv8
    isplitl [Hs0] <;> iassumption
  · iexact HO

end

end Cert.Proof.Pool
-- ==== Proof.Deal.lean ====
/-
  What the launch hands each tile and gets back: shares of the two tables, a band of the rows and a
  band of the result; the tile's obligation, met by the theorem on the tile.
-/
module

public import proofs.«01_k».proof.Proof.Tile
public import Idealize.ShloMosaic.Lib.Pipeline.Frame

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The coordinates of subcore `s` of core `c`. -/
def crd (c : Fin (grid0.bound 0)) (s : Fin (grid0.bound 1)) : grid0.Coords :=
  fun | 0 => c | 1 => s | ⟨_ + 2, h⟩ => absurd h (Nat.not_lt.2 (Nat.le_add_left _ _))

/-- The first core and its first subcore. -/
def c₀ : Fin (grid0.bound 0) := ⟨0, by decide⟩
def s₀ : Fin (grid0.bound 1) := ⟨0, by decide⟩

/-- The tile's place in the row of tiles. -/
def num (c : Fin (grid0.bound 0)) (s : Fin (grid0.bound 1)) : ℕ := 2 * s.val + c.val

/-- A subcore's first point by its number. -/
theorem base_crd (c : Fin (grid0.bound 0)) (s : Fin (grid0.bound 1)) : base (crd c s) = 4096 * num c s := by
  show 8192 * s.val + 4096 * c.val = 4096 * (2 * s.val + c.val); omega

/-! ## What the handshakes carry -/

/-- The arrays' places. -/
abbrev xLoc (d : Dev nD) : Loc nD τ sig := (T d : Thread nD τ).loc main_arg0
abbrev kLoc (d : Dev nD) : Loc nD τ sig := (T d : Thread nD τ).loc main_arg1
abbrev gLoc (d : Dev nD) : Loc nD τ sig := (T d : Thread nD τ).loc main_v82
abbrev nLoc (d : Dev nD) : Loc nD τ sig := (T d : Thread nD τ).loc main_v86
abbrev zLoc (d : Dev nD) : Loc nD τ sig := (T d : Thread nD τ).loc main_v87

variable (W : Dev nD → Valuation τ sig (Elt F))

/-- The tables before the kernel starts, as the tile reads them. -/
def EW' (d : Dev nD) : ℕ → ℕ := Etab d (crd c₀ s₀) (W d (Proc.devRef .tc main_v82))
def MW (d : Dev nD) : ℕ → BitVec 32 := Mtab d (crd c₀ s₀) (W d (Proc.devRef .tc main_v86))

/-- What the kernel leaves in the result: every tile's band of it. -/
def zfin (d : Dev nD) : Buf (Elt F) (zLoc d) :=
  zout d (crd c₀ s₀) (W d (Proc.devRef .tc main_arg0)) (EW' W d) (MW W d)

/-- A tile's part of the arrays: its shares of the tables, its band of the rows, its band of the result at `fz`. -/
def Part (d : Dev nD) (n : ℕ) (fz : Buf (Elt F) (zLoc d)) : sProp (MT nD τ sig (HIx 1) (Elt F) ℕ (UU F) ℕ) :=
  iprop((gLoc d ↦[Finset.univ]{shareTokN fullShare n} (W d (Proc.devRef .tc main_v82) : Buf (Elt F) (gLoc d)))
    ∗ (nLoc d ↦[Finset.univ]{shareTokN fullShare n} (W d (Proc.devRef .tc main_v86) : Buf (Elt F) (nLoc d)))
    ∗ (xLoc d ↦[rws 131072 64 (4096 * n) (4096 * n + 4096)]{fullShare} (W d (Proc.devRef .tc main_arg0) : Buf (Elt F) (xLoc d)))
    ∗ (zLoc d ↦[rws 131072 16 (4096 * n) (4096 * n + 4096)]{fullShare} fz))

instance part_storable (d : Dev nD) (n : ℕ) (fz : Buf (Elt F) (zLoc d)) : BI.Storable (upEmb : UEmb _ 𝕄) (Part W d n fz) := by
  unfold Part; infer_instance

/-- The result before the kernel starts. -/
abbrev z₀ (d : Dev nD) : Buf (Elt F) (zLoc d) := W d (Proc.devRef .tc main_v87)

/-- The one call takes each core its tiles' parts, each tile its part, and brings them back with the result written. -/
def P : (K (F := F)).Pay (nD := nD) (Val := Elt F) (Name := ℕ) (U := UU F) where
  st := fun q d c => match q with | 0 => bigSep Finset.univ fun s : Fin (grid0.bound 1) => Part W d (num c s) (z₀ W d)
  dn := fun q d c => match q with | 0 => bigSep Finset.univ fun s : Fin (grid0.bound 1) => Part W d (num c s) (zfin W d)
  go := fun q d c s => match q with | 0 => Part W d (num c s) (z₀ W d)
  td := fun q d c s => match q with | 0 => Part W d (num c s) (zfin W d)
  x := fun _ _ => iprop(∃ ιwm, wmInv EW ιwm)

instance P_storable : (P (F := F) W).IsStorable where
  st q d c := match q with
    | 0 => (inferInstance : BI.Storable (upEmb : UEmb _ 𝕄) (bigSep Finset.univ fun s : Fin (grid0.bound 1) => Part W d (num c s) (z₀ W d)))
  dn q d c := match q with
    | 0 => (inferInstance : BI.Storable (upEmb : UEmb _ 𝕄) (bigSep Finset.univ fun s : Fin (grid0.bound 1) => Part W d (num c s) (zfin W d)))
  go q d c s := match q with
    | 0 => (inferInstance : BI.Storable (upEmb : UEmb _ 𝕄) (Part W d (num c s) (z₀ W d)))
  td q d c s := match q with
    | 0 => (inferInstance : BI.Storable (upEmb : UEmb _ 𝕄) (Part W d (num c s) (zfin W d)))

/-! ## The tile's own buffers and counters, taken out of all of them and put back -/

variable (d : Dev nD) (i : grid0.Coords)

/-- The tile's scratch buffers among its own. -/
def bufs5 : List (Ref sig .scVector) := [cc0_scratch0, cc0_scratch1, cc0_scratch2, cc0_scratch3, cc0_scratch4]
/-- The tile's copy semaphores among its own. -/
def sems6 : List (SemLoc sig) := [.dma cc0_scratch5.sem, .dma cc0_scratch6.sem, .dma cc0_scratch7.sem, .dma cc0_scratch8.sem, .dma cc0_scoped0.sem, .dma cc0_scoped1.sem]

omit [FloatOps F] in
theorem bufs5_nodup : bufs5.Nodup := by unfold bufs5; decide
omit [FloatOps F] in
theorem sems6_nodup : sems6.Nodup := by unfold sems6; decide

omit [FloatOps F] in
/-- A sum over a set of references is the sum over a list of them, in turn, and the rest. -/
theorem bigSep_list {α β : Type} [DecidableEq β] (f : α → β) (Φ : β → sProp (MT nD τ sig (HIx 1) (Elt F) ℕ (UU F) ℕ)) :
    ∀ (l : List α) (S : Finset β), (∀ a ∈ l, f a ∈ S) → (l.map f).Nodup →
      (bigSep S Φ : sProp 𝕄) = l.foldr (fun a R => iprop(Φ (f a) ∗ R)) (bigSep (S \ (l.map f).toFinset) Φ)
  | [], S, _, _ => by simp
  | a :: l, S, hS, hn => by
    rw [List.map_cons, List.nodup_cons] at hn
    rw [List.foldr_cons, SparseCore.bigSep_erase' (hS a List.mem_cons_self),
      bigSep_list f Φ l (S.erase (f a)) (fun b hb => Finset.mem_erase.mpr ⟨fun e => hn.1 (e ▸ List.mem_map_of_mem hb), hS b (List.mem_cons_of_mem _ hb)⟩) hn.2]
    congr 3
    ext b; simp; tauto

omit [FloatOps F] in
theorem bufs_eq : (ownBufs (thr d i) : sProp 𝕄)
    = bufs5.foldr (fun b R => iprop((∃ f, (thr d i).loc b ↦{fullShare} f) ∗ R))
        (bigSep (ownRefs (τ := τ) (thr d i).2 \ (bufs5.map (thr d i).2.devRef).toFinset) fun b => iprop(∃ f, ((d, b) : Loc nD τ sig) ↦{fullShare} f)) := by
  unfold SparseCore.Cfg.ownBufs
  refine bigSep_list (fun b => (thr d i).2.devRef b) _ bufs5 _ (fun b hb => ?_) ?_
  · refine SparseCore.Cfg.mem_ownRefs_of_owner (p := (thr d i).2) ?_
    unfold bufs5 at hb
    simp only [List.mem_cons, List.not_mem_nil, or_false] at hb
    rcases hb with rfl | rfl | rfl | rfl | rfl <;> rfl
  · exact (List.nodup_map_iff (Proc.devRef_injective _)).mpr bufs5_nodup

omit [FloatOps F] in
theorem sems_eq : (ownSems0 (thr d i) : sProp 𝕄)
    = sems6.foldr (fun s R => iprop(semVal (thr d i, s) 0 ∗ R))
        (bigSep (ownCells (thr d i) \ (sems6.map fun s => ((thr d i, s) : GSem nD τ sig)).toFinset) fun g => semVal g 0) := by
  unfold SparseCore.Cfg.ownSems0
  refine bigSep_list (fun s => ((thr d i, s) : GSem nD τ sig)) _ sems6 _ (fun s hs => ?_) ?_
  · refine mem_ownCells.mpr ⟨rfl, ?_⟩
    revert s; unfold sems6
    show ∀ s ∈ _, (s : SemLoc sig).isScoped .scVector = true
    decide
  · exact (List.nodup_map_iff fun a b e => (Prod.mk.inj e).2).mpr sems6_nodup

/-- What is left of the tile's buffers and counters beside those the kernel uses. -/
def Rest : sProp (MT nD τ sig (HIx 1) (Elt F) ℕ (UU F) ℕ) :=
  iprop((bigSep (ownRefs (τ := τ) (thr d i).2 \ (bufs5.map (thr d i).2.devRef).toFinset) fun b => iprop(∃ f, ((d, b) : Loc nD τ sig) ↦{fullShare} f))
    ∗ bigSep (ownCells (thr d i) \ (sems6.map fun s => ((thr d i, s) : GSem nD τ sig)).toFinset) fun g => semVal g 0)

omit [FloatOps F] in
theorem own_out : iprop(ownBufs (thr d i) ∗ ownSems0 (thr d i)) ⊢ (iprop(Own d i ∗ Rest d i) : sProp 𝕄) := by
  rw [bufs_eq, sems_eq]; unfold bufs5 sems6 Own Rest
  simp only [List.foldr_cons, List.foldr_nil]
  iintro ⟨⟨H0, H1, H2, H3, H4, Hb⟩, H5, H6, H7, H8, H9, H10, Hs⟩
  isplitr [Hb Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hb]; · iexact Hb
  iexact Hs

omit [FloatOps F] in
theorem own_back : iprop(Own d i ∗ Rest d i) ⊢ (iprop(ownBufs (thr d i) ∗ ownSems0 (thr d i)) : sProp 𝕄) := by
  rw [bufs_eq, sems_eq]; unfold bufs5 sems6 Own Rest
  simp only [List.foldr_cons, List.foldr_nil]
  iintro ⟨⟨H0, H1, H2, H3, H4, H5, H6, H7, H8, H9, H10⟩, Hb, Hs⟩
  isplitl [H0 H1 H2 H3 H4 Hb]
  · isplitl [H0]; · iexact H0
    isplitl [H1]; · iexact H1
    isplitl [H2]; · iexact H2
    isplitl [H3]; · iexact H3
    isplitl [H4]; · iexact H4
    iexact Hb
  isplitl [H5]; · iexact H5
  isplitl [H6]; · iexact H6
  isplitl [H7]; · iexact H7
  isplitl [H8]; · iexact H8
  isplitl [H9]; · iexact H9
  isplitl [H10]; · iexact H10
  iexact Hs

/-! ## The tile's obligation -/

/-- The tables of every device are in range. -/
def Good : Prop := ∀ d, TabOK (EW' W d) (MW W d)

variable (c : Fin (grid0.bound 0)) (s : Fin (grid0.bound 1))

/-- A subcore's part, at its number. -/
theorem part_eq (fz : Buf (Elt F) (zLoc d)) : Part W d (num c s) fz
    ⊣⊢ iprop(Kit d (crd c s) (W d (Proc.devRef .tc main_v82)) (W d (Proc.devRef .tc main_v86)) (W d (Proc.devRef .tc main_arg0))
        (shareTokN fullShare (num c s)) (shareTokN fullShare (num c s)) ∗ ptsZ d (crd c s) (base (crd c s)) (base (crd c s) + 4096) fz) := by
  unfold Part Kit
  rw [base_crd]
  constructor
  · iintro ⟨H1, H2, H3, H4⟩
    isplitr [H4]
    · isplitl [H1]; · iexact H1
      isplitl [H2]; · iexact H2
      iexact H3
    iexact H4
  · iintro ⟨⟨H1, H2, H3⟩, H4⟩
    isplitl [H1]; · iexact H1
    isplitl [H2]; · iexact H2
    isplitl [H3]; · iexact H3
    iexact H4

/-- One subcore's run, from its part of the arrays to its part with the result. -/
theorem tile_body (hG : Good W) (O : CellTallies nD τ sig (HIx 1)) (W₀ : Waits sig (HIx 1)) (hO : ∀ g, O g none = 0) :
    iprop(levAts (K (F := F)).L (K (F := F)).lev ∗ (∃ ιwm, wmInv EW ιwm) ∗ Part W d (num c s) (z₀ W d)
        ∗ scopedBufs (thr d (crd c s)) ∗ scopedSems0 (thr d (crd c s)) ∗ owes (thr d (crd c s)) O W₀)
      ⊢ wpt d (crd c s) (cc0__sc_body (crd c s) (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) fun _ =>
          iprop(Part W d (num c s) (zfin W d) ∗ scopedBufs (thr d (crd c s)) ∗ scopedSems0 (thr d (crd c s))
            ∗ ∃ W', ⌜∀ p ∈ W', p ∈ W₀ ∨ p.2 = none⌝ ∗ owes (thr d (crd c s)) O W') := by
  rw [(K (F := F)).scopedBufs_V facts d _ _, SparseCore.Cfg.scopedSems0_V (Val := Elt F) d _ _]
  have hT : TabOK (Etab d (crd c s) (W d (Proc.devRef .tc main_v82))) (Mtab d (crd c s) (W d (Proc.devRef .tc main_v86))) := hG d
  iintro ⟨Hlv, ⟨%ιwm, #Hwm⟩, HP, Hb, Hs, HO⟩
  ihave Hmw := (show levAts (K (F := F)).L (K (F := F)).lev ⊢ (Transfers.MayWaits (thr d (crd c s)) (default : HIx 1) O : sProp 𝕄)
    from (K (F := F)).mayWaits_none (thr := thr d (crd c s)) hO) $$ Hlv
  ihave HP := (part_eq W d c s _).1 $$ HP
  icases HP with ⟨HK, Hz⟩
  ihave Hown := (own_out d (crd c s)) $$ [Hb Hs]
  · isplitl [Hb] <;> iassumption
  icases Hown with ⟨Hown, Hrest⟩
  iapply (wp_wand frame) $$ [HK Hz Hown HO Hmw]
  · iapply (wp_tile d (crd c s) (ιwm := ιwm) (O := O) (W₀ := W₀) (fz := z₀ W d) hT) $$ [HK Hz Hown HO Hmw]
    isplitr; · iexact Hwm
    isplitl [Hmw]; · iexact Hmw
    isplitl [HK]; · iexact HK
    isplitl [Hz]; · iexact Hz
    isplitl [Hown]; · iexact Hown
    unfold OW
    iexists W₀; isplitr; · ipureintro; exact fun p hp => Or.inl hp
    iexact HO
  iintro %_ ⟨HK, Hz, Hown, HO⟩
  isplitl [HK Hz]
  · iapply (part_eq W d c s (zfin W d)).2
    isplitl [HK]; · iexact HK
    iexact Hz
  ihave Hbs := (own_back d (crd c s)) $$ [Hown Hrest]
  · isplitl [Hown] <;> iassumption
  icases Hbs with ⟨Hb, Hs⟩
  isplitl [Hb]; · iexact Hb
  isplitl [Hs]; · iexact Hs
  unfold OW; iexact HO

end Cert.Proof.Pool
-- ==== Proof.Launch.lean ====
/-
  The launch: the main program runs its host operations, deals the arrays out to the tiles, runs the
  kernel on them, and gathers the result; every run ends with the arguments kept, the result at the
  tiles' bands, and every counter at zero.
-/
module

public import proofs.«01_k».proof.Proof.Deal

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (W : Dev nD → Valuation τ sig (Elt F))

/-! ## The tile's obligation, as the launch asks for it -/

theorem defs₀_vector (c : Fin τ.nSC) (s : Fin τ.nSub) :
    defs₀ (F := F) (.scVector c s) 0 () = SparseCore.onTile hcore0 hsub0 (fun c s => cc0__sc_body (crd c s) (Memref.whole main_arg0_scv) (Memref.isWhole_whole _) (Memref.whole main_v82_scv) (Memref.isWhole_whole _) (Memref.whole main_v86_scv) (Memref.isWhole_whole _) (Memref.whole main_v87_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) ⟨⟩ c s := rfl

omit [FloatOps F] in
/-- A wait of the tile's is one of those the launch allows. -/
theorem allow_waits {thr : Thread nD τ} {A B C : sProp (MT nD τ sig (HIx 1) (Elt F) ℕ (UU F) ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr; · ipureintro; exact fun p hp => (h p hp).imp_right Or.inl
  iexact HO

/-- Every subcore's run. -/
theorem tileObl (hG : Good W) : (K (F := F)).TileObl (D (F := F)) 𝒱 (P W) v₀ 0 := by
  intro d c i O W₀ hO _ _
  simp only [show (P W).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body W d ⟨_, hc.1⟩ ⟨_, hc.2⟩ hG O W₀ hO).trans (wp_mono frame _ _ fun _ => allow_waits)

/-- A core's part is its tiles' parts, going out and coming back. -/
theorem vecSplit : (K (F := F)).VecSplit' (P W) 0 := by
  intro d c
  show (bigSep Finset.univ fun s : Fin (grid0.bound 1) => Part W d (num c s) (z₀ W d)) ⊢ |={Set.univ}=> iprop(
      (bigSep Finset.univ fun s : Fin (grid0.bound 1) => Part W d (num c s) (z₀ W d))
      ∗ ((bigSep Finset.univ fun s : Fin (grid0.bound 1) => Part W d (num c s) (zfin W d))
          -∗ bigSep Finset.univ fun s : Fin (grid0.bound 1) => Part W d (num c s) (zfin W d)))
  iintro H; imodintro
  isplitl [H]; · iexact H
  iintro H; iexact H

/-! ## The ghost state at launch -/

/-- The launch's ghost state: the handshakes' rounds, nothing in write mode, no copy in flight. -/
def u₀ : UU F := (Rounds.initOf (K (F := F)).hsCells (K (F := F)).hsToks, (wm₀ nD τ sig (Elt F), 1))

omit [FloatOps F] in
theorem ownU_split (a : UH) (b : UW F) : (ownU (a, (b, (1 : Counters))) : sProp 𝕄) ⊢ iprop(BI.own (EH (F := F) a) ∗ ownU (EW (F := F) b)) :=
  BI.own_op_elim ((uEmb (nD := nD) (sig := sig) (Ix := HIx 1) (Val := Elt F) (Name := ℕ) (U := UU F) (Lvl := ℕ)).toEmb.op_of_mem
    (Prod.mk_mem_op (URA.mem_op_one a) (URA.mem_one_op (b, (1 : Counters)))))

omit [FloatOps F] in
theorem bigSep_none {I : Type} (s : Finset I) : (bigSep s fun _ => iprop(emp)) = (iprop(emp) : sProp 𝕄) := bigSep_emp_const s

/-- Every thread is told the name of the write-mode invariant. -/
theorem wm_all {ιwm : ℕ} : (wmInv EW ιwm : sProp 𝕄) ⊢ bigSep Finset.univ fun thr : Thread nD τ => bigSep Finset.univ fun q : Fin 1 => (P W).x q thr :=
  (exists_intro (Φ := fun ιwm => (wmInv EW ιwm : sProp 𝕄)) ιwm).trans ((bigSep_of_persistent (Finset.univ : Finset (Fin 1)) iprop(∃ ιwm, wmInv EW ιwm)).trans
    (bigSep_of_persistent (Finset.univ : Finset (Thread nD τ)) (bigSep Finset.univ fun _ : Fin 1 => iprop(∃ ιwm, wmInv EW ιwm))))

/-- What the launch starts from. -/
theorem hu₀ (m : MemSt nD τ sig (Elt F)) : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P W).x q thr) := by
  unfold u₀
  iintro Hu
  ihave H := (ownU_split _ _) $$ Hu
  icases H with ⟨HH, HK⟩
  imod (wmInv_alloc (emb := EW) m (avoid := ∅)) $$ HK with ⟨%ιwm, -, #Hwm⟩
  imodintro
  isplitl [HH]; · iexact HH
  isplitr; · rw [bigSep_none]; iempintro
  iapply (wm_all W (ιwm := ιwm)); iexact Hwm

/-! ## The arrays in the tiles' parts -/

omit [FloatOps F] in
/-- A row of bands of 4096 rows each. -/
theorem bands (R : ℕ → ℕ → sProp (MT nD τ sig (HIx 1) (Elt F) ℕ (UU F) ℕ)) (h0 : R 0 0 = iprop(emp)) (hs : ∀ a b c, a ≤ b → b ≤ c → R a c ⊣⊢ iprop(R a b ∗ R b c)) :
    ∀ n, (R 0 (4096 * n) : sProp 𝕄) ⊣⊢ bigSep (Finset.range n) fun k => R (4096 * k) (4096 * k + 4096)
  | 0 => by rw [Finset.range_zero, bigSep_empty, Nat.mul_zero, h0]; exact ⟨BI.Entails.refl _, BI.Entails.refl _⟩
  | n + 1 => by
    rw [Finset.range_add_one, SparseCore.bigSep_insert' Finset.notMem_range_self, show 4096 * (n + 1) = 4096 * n + 4096 by omega]
    have h := hs 0 (4096 * n) (4096 * n + 4096) (Nat.zero_le _) (Nat.le_add_right _ _)
    have ih := bands R h0 hs n
    constructor
    · iintro H
      ihave H := h.1 $$ H
      icases H with ⟨H1, H2⟩
      isplitl [H2]; · iexact H2
      iapply ih.1; iexact H1
    · iintro ⟨H2, H1⟩
      iapply h.2
      isplitl [H1]
      · iapply ih.2; iexact H1
      iexact H2

/-- The points are the subcores' bands of them. -/
theorem bands_x (d : Dev nD) (f : Buf (Elt F) (xLoc d)) :
    ((xLoc d ↦{fullShare} f) : sProp 𝕄) ⊣⊢ bigSep (Finset.range 32) fun k => xLoc d ↦[rws 131072 64 (4096 * k) (4096 * k + 4096)]{fullShare} f := by
  have h := bands (fun a b => (ptsA d (crd c₀ s₀) a b f : sProp 𝕄)) (ptsA_empty d _ f) (fun a b c h h' => ptsA_split d _ b h h') 32
  have e : rws 131072 64 0 (4096 * 32) = Finset.univ := Finset.eq_univ_of_forall fun y => mem_rws.mpr ⟨Nat.zero_le _, (y 0).isLt⟩
  unfold ptsA at h
  rw [e] at h
  exact h

/-- The result is the subcores' bands of it. -/
theorem bands_z (d : Dev nD) (f : Buf (Elt F) (zLoc d)) :
    ((zLoc d ↦{fullShare} f) : sProp 𝕄) ⊣⊢ bigSep (Finset.range 32) fun k => zLoc d ↦[rws 131072 16 (4096 * k) (4096 * k + 4096)]{fullShare} f := by
  have h := bands (fun a b => (ptsZ d (crd c₀ s₀) a b f : sProp 𝕄)) (ptsZ_empty d _ f) (fun a b c h h' => ptsZ_split d _ b h h') 32
  have e : rws 131072 16 0 (4096 * 32) = Finset.univ := Finset.eq_univ_of_forall fun y => mem_rws.mpr ⟨Nat.zero_le _, (y 0).isLt⟩
  unfold ptsZ at h
  rw [e] at h
  exact h

omit [FloatOps F] in
/-- The row of tiles by core and subcore. -/
theorem deal (Φ : ℕ → sProp (MT nD τ sig (HIx 1) (Elt F) ℕ (UU F) ℕ)) :
    (bigSep (Finset.range 32) Φ : sProp 𝕄) = bigSep Finset.univ fun c : Fin (grid0.bound 0) => bigSep Finset.univ fun s : Fin (grid0.bound 1) => Φ (num c s) := by
  have e : Finset.range 32 = (Finset.univ : Finset (Fin (grid0.bound 0) × Fin (grid0.bound 1))).image fun cs => num cs.1 cs.2 := by decide +kernel
  rw [e, SparseCore.bigSep_image_of_injOn, bigSep_univ_prod]
  intro a _ b _ h
  have h0 : ∀ a : Fin (grid0.bound 0), a.val < 2 := fun a => a.isLt
  have h1 := h0 a.1; have h2 := h0 b.1
  have h' : 2 * a.2.val + a.1.val = 2 * b.2.val + b.1.val := h
  exact Prod.ext (Fin.ext (by omega)) (Fin.ext (by omega))

/-- The tiles' parts are the rows and the result whole, and a share of the tables each. -/
theorem parts_eq (d : Dev nD) (fz : Buf (Elt F) (zLoc d)) :
    (bigSep Finset.univ fun c : Fin (grid0.bound 0) => bigSep Finset.univ fun s : Fin (grid0.bound 1) => Part W d (num c s) fz)
    ⊣⊢ iprop((bigSep (Finset.range 32) fun n => gLoc d ↦[Finset.univ]{shareTokN fullShare n} (W d (Proc.devRef .tc main_v82) : Buf (Elt F) (gLoc d)))
      ∗ (bigSep (Finset.range 32) fun n => nLoc d ↦[Finset.univ]{shareTokN fullShare n} (W d (Proc.devRef .tc main_v86) : Buf (Elt F) (nLoc d)))
      ∗ (xLoc d ↦{fullShare} (W d (Proc.devRef .tc main_arg0) : Buf (Elt F) (xLoc d))) ∗ (zLoc d ↦{fullShare} fz)) := by
  rw [← deal (F := F) fun n => Part W d n fz]
  unfold Part
  rw [bigSep_sep', bigSep_sep', bigSep_sep']
  have hx := bands_x d (W d (Proc.devRef .tc main_arg0) : Buf (Elt F) (xLoc d))
  have hz := bands_z d fz
  constructor
  · iintro ⟨H1, H2, H3, H4⟩
    isplitl [H1]; · iexact H1
    isplitl [H2]; · iexact H2
    isplitl [H3]; · iapply hx.2; iexact H3
    iapply hz.2; iexact H4
  · iintro ⟨H1, H2, H3, H4⟩
    isplitl [H1]; · iexact H1
    isplitl [H2]; · iexact H2
    isplitl [H3]; · iapply hx.1; iexact H3
    iapply hz.1; iexact H4

/-! ## The main program -/

theorem st0_eq (d : Dev nD) : (bigSep Finset.univ fun c : Fin ((K (F := F)).nCore 0) => (P W).st 0 d c)
    = bigSep Finset.univ fun c : Fin (grid0.bound 0) => bigSep Finset.univ fun s : Fin (grid0.bound 1) => Part W d (num c s) (z₀ W d) := rfl
/-- What the subcores give back. -/
theorem dn0_eq (d : Dev nD) : (bigSep Finset.univ fun c : Fin ((K (F := F)).nCore 0) => (P W).dn 0 d c)
    = bigSep Finset.univ fun c : Fin (grid0.bound 0) => bigSep Finset.univ fun s : Fin (grid0.bound 1) => Part W d (num c s) (zfin W d) := rfl

/-- What the main program ends with: the arguments and the result. -/
abbrev FIN (d : Dev nD) : sProp 𝕄 :=
  iprop((xLoc d ↦{fullShare} (W d (Proc.devRef .tc main_arg0) : Buf (Elt F) (xLoc d))) ∗ (kLoc d ↦{fullShare} (W d (Proc.devRef .tc main_arg1) : Buf (Elt F) (kLoc d))) ∗ (zLoc d ↦{fullShare} zfin W d))

/-- The five arrays the kernel and the claims speak of. -/
def five : List (Ref sig .tc) := [main_arg0, main_arg1, main_v82, main_v86, main_v87]
/-- The five arrays are different. -/
theorem five_nodup : five.Nodup := by unfold five; decide
/-- The five arrays outlive the kernel. -/
theorem five_unscoped : ∀ b ∈ five, (Proc.devRef .tc b : DevRef τ sig).isScoped = false := by unfold five; decide

/-- The five arrays taken out of all the buffers. -/
theorem five_out (d : Dev nD) : (StableHlo.held (T d : Thread nD τ) (Pipeline.ucRefs τ sig) (W d) : sProp 𝕄)
    ⊢ iprop((xLoc d ↦{fullShare} (W d (Proc.devRef .tc main_arg0) : Buf (Elt F) (xLoc d))) ∗ (kLoc d ↦{fullShare} (W d (Proc.devRef .tc main_arg1) : Buf (Elt F) (kLoc d)))
      ∗ (gLoc d ↦{fullShare} (W d (Proc.devRef .tc main_v82) : Buf (Elt F) (gLoc d))) ∗ (nLoc d ↦{fullShare} (W d (Proc.devRef .tc main_v86) : Buf (Elt F) (nLoc d)))
      ∗ (zLoc d ↦{fullShare} z₀ W d)) := by
  unfold StableHlo.held
  rw [bigSep_list (fun b => (Proc.devRef .tc b : DevRef τ sig)) _ five (Pipeline.ucRefs τ sig)
    (fun b hb => Finset.mem_filter.mpr ⟨StableHlo.devRef_mem_tcRefs b, by rw [five_unscoped b hb]; exact Bool.false_ne_true⟩)
    ((List.nodup_map_iff (Proc.devRef_injective _)).mpr five_nodup)]
  unfold five
  simp only [List.foldr_cons, List.foldr_nil]
  iintro ⟨H1, H2, H3, H4, H5, -⟩
  isplitl [H1]; · iexact H1
  isplitl [H2]; · iexact H2
  isplitl [H3]; · iexact H3
  isplitl [H4]; · iexact H4
  iexact H5

section Main

variable (m : (ℓ : Loc nD τ sig) → Buf (Elt F) ℓ) (ρ : Dev nD → PrngReg) (ops : List (HloOp τ sig (Elt F)))

/-- The arrays once the host operations have run. -/
abbrev WO (d : Dev nD) : Valuation τ sig (Elt F) := StableHlo.after ops (StableHlo.launchContents m d)

/-- The host's thread runs its operations and the kernel. -/
theorem hmain (hm : ∀ d, main (F := F) d = StableHlo.seq ops >>= fun _ => (sc (F := F)).run d 0) (hS : ∀ op ∈ ops, op.bufs ⊆ StableHlo.tcRefs τ sig) (hf : ∀ op ∈ ops, op.fresh = ∅)
    (κ : GSem nD τ sig → ℕ) (d : Dev nD) :
    iprop((K (F := F)).ctx EH (P (WO m ops)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN (WO m ops) d ∗ (K (F := F)).tcEnd d) := by
  unfold SparseCore.Cfg.tcRes SparseCore.Cfg.tcEnd
  rw [hm d, show unscopedBufs d (fun b => m ((T d : Thread nD τ).loc b)) = (StableHlo.held (T d : Thread nD τ) (Pipeline.ucRefs τ sig) (StableHlo.launchContents m d) : sProp 𝕄)
    from Pipeline.unscopedBufs_held d (StableHlo.launchContents m d)]
  iintro ⟨#Hctx, Hst, ⟨Hb, Hh, Hts, -⟩, -⟩
  iapply (StableHlo.wp_seq 𝒱 none Set.univ d (Pipeline.ucRefs τ sig) (fun _ => (sc (F := F)).run d 0) ops (fun op h => Pipeline.sub_ucRefs op (hS op h)) hf (StableHlo.launchContents m d)) $$ [Hb Hh]
  · isplitl [Hb] <;> iassumption
  iintro ⟨Hb, Hh⟩
  ihave Hh := (five_out (WO m ops) d) $$ Hh
  icases Hh with ⟨Hx, Hk, Hg, Hn, Hz⟩
  ihave Hg := (pointsTo_toks_range fullShare 32).1 $$ Hg
  icases Hg with ⟨-, Hg⟩
  ihave Hn := (pointsTo_toks_range fullShare 32).1 $$ Hn
  icases Hn with ⟨-, Hn⟩
  iapply ((K (F := F)).wp_run (D (F := F)) 𝒱 (EH := EH) (P := P (WO m ops)) κ d 0) $$ [Hst Hx Hg Hn Hz Hb Hts Hk]
  isplitr; · iexact Hctx
  isplitl [Hst]; · iexact Hst
  isplitl [Hx Hg Hn Hz]
  · rw [st0_eq]
    iapply (parts_eq (WO m ops) d _).2
    isplitl [Hg]; · iexact Hg
    isplitl [Hn]; · iexact Hn
    isplitl [Hx]; · iexact Hx
    iexact Hz
  iintro ⟨Hst, Hdn⟩
  ihave Hdn := (Entails.of_eq (dn0_eq (WO m ops) d)) $$ Hdn
  ihave Hdn := (parts_eq (WO m ops) d _).1 $$ Hdn
  icases Hdn with ⟨-, -, Hx, Hz⟩
  isplitl [Hst]; · iexact Hst
  isplitl [Hx Hz Hk]
  · isplitl [Hx]; · iexact Hx
    isplitl [Hk] <;> iassumption
  isplitl [Hb] <;> iassumption

/-- What a run's end tells of the memory. -/
def fq (d : Dev nD) (s' : Phys nD τ sig (Elt F)) : Prop :=
  s'.mem.mem (xLoc d) = W d (Proc.devRef .tc main_arg0) ∧ s'.mem.mem (kLoc d) = W d (Proc.devRef .tc main_arg1) ∧ s'.mem.mem (zLoc d) = zfin W d

/-- What the end's assertion says of the memory. -/
theorem hfin (d : Dev nD) (s' : Phys nD τ sig (Elt F)) : iprop(FIN W d ∗ SI s') ⊢ (⌜fq W d s'⌝ : sProp 𝕄) := by
  iintro ⟨⟨Hx, Hk, Hz⟩, HSI⟩
  ihave H := (persistent_entails_right (SI_pointsTo_agree (st := s') (ℓ := xLoc d) (I := Finset.univ) (q := fullShare))) $$ [HSI Hx]
  · isplitl [HSI] <;> iassumption
  icases H with ⟨%h1, HSI, -⟩
  ihave H := (persistent_entails_right (SI_pointsTo_agree (st := s') (ℓ := kLoc d) (I := Finset.univ) (q := fullShare))) $$ [HSI Hk]
  · isplitl [HSI] <;> iassumption
  icases H with ⟨%h2, HSI, -⟩
  ihave H := (SI_pointsTo_agree (st := s') (ℓ := zLoc d) (I := Finset.univ) (q := fullShare)) $$ [HSI Hz]
  · isplitl [HSI] <;> iassumption
  icases H with %h3
  ipureintro; exact ⟨funext fun i => h1 i (Finset.mem_univ i), funext fun i => h2 i (Finset.mem_univ i), funext fun i => h3 i (Finset.mem_univ i)⟩

/-- What every run ends in. -/
def QC : PUnit × MemSt nD τ sig (Elt F) → Prop := fun r =>
  (∀ d : Dev nD, r.2.mem (xLoc d) = W d (Proc.devRef .tc main_arg0) ∧ r.2.mem (kLoc d) = W d (Proc.devRef .tc main_arg1) ∧ r.2.mem (zLoc d) = zfin W d) ∧ r.2.sem = fun _ => 0

/-- Every run of the program, from any memory whose tables the host operations leave in range, ends. -/
theorem run_ops [∀ e, Nonempty (Elt F e)] (hm : ∀ d, main (F := F) d = StableHlo.seq ops >>= fun _ => (sc (F := F)).run d 0) (hS : ∀ op ∈ ops, op.bufs ⊆ StableHlo.tcRefs τ sig)
    (hf : ∀ op ∈ ops, op.fresh = ∅) (hG : Good (WO m ops)) :
    θ_run (Cert.KernelIdeal.defs (F := F)) (Cert.KernelIdeal.threads (F := F)) ⟨m, fun _ => 0, ρ⟩ (QC (WO m ops)) :=
  SparseCore.Cfg.θ_run_sc_quiescent (K := K (F := F)) (D := D (F := F)) (𝒱 := 𝒱) (EH := EH) (P := P (WO m ops)) (A := ∅) facts v₀
    (fun q hq => match q with | 0 => nomatch hq)
    (fun q _ => match q with | 0 => tileObl (WO m ops) hG)
    (fun q _ => match q with | 0 => SparseCore.Cfg.VecSplit.of_plain (vecSplit (WO m ops)))
    m ρ main (fun _ => iprop(emp)) (FIN (WO m ops)) (u₀ (F := F)) (sep_elim_left.trans (hu₀ (WO m ops) ⟨m, fun _ => 0, ρ⟩)) (hmain m ρ ops hm hS hf) (fq (WO m ops)) (hfin (WO m ops)) (QC (WO m ops)) (fun _ h hz => ⟨h, hz⟩)

end Main

end Cert.Proof.Pool
-- ==== Proof.Host.lean ====
/-
  The host operations of the main program: their list, cut where a named table is complete, and the
  program as that list followed by the kernel.
-/
module

public import proofs.«01_k».proof.Proof.Launch

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- The operations for which earlier column each column first repeats. -/
def ops0 : List (HloOp τ sig (Elt F)) :=
  [ nullary main_v0 (iotaInDim S16 32 0),
    nullary main_v1 (iotaInDim S64 32 0),
    unary main_arg1 main_v2 (broadcastInDim S64x16x1 ![0, 1] bcast_S64x16_S64x16x1_0_1 : (⟨S64x16, .i1⟩ : BufTy).Contents (Elt F) → (⟨S64x16x1, .i1⟩ : BufTy).Contents (Elt F)),
    unary main_arg1 main_v3 (broadcastInDim S64x1x16 ![0, 2] bcast_S64x16_S64x1x16_0_2 : (⟨S64x16, .i1⟩ : BufTy).Contents (Elt F) → (⟨S64x1x16, .i1⟩ : BufTy).Contents (Elt F)),
    unary main_v2 main_v4 (broadcastInDim S64x16x16 ![0, 1, 2] bcast_S64x16x1_S64x16x16_0_1_2 : (⟨S64x16x1, .i1⟩ : BufTy).Contents (Elt F) → (⟨S64x16x16, .i1⟩ : BufTy).Contents (Elt F)),
    unary main_v3 main_v5 (broadcastInDim S64x16x16 ![0, 1, 2] bcast_S64x1x16_S64x16x16_0_1_2 : (⟨S64x1x16, .i1⟩ : BufTy).Contents (Elt F) → (⟨S64x16x16, .i1⟩ : BufTy).Contents (Elt F)),
    binary main_v4 main_v5 main_v6 (cmpi .eq : (⟨S64x16x16, .i1⟩ : BufTy).Contents (Elt F) → (⟨S64x16x16, .i1⟩ : BufTy).Contents (Elt F) → (⟨S64x16x16, .i1⟩ : BufTy).Contents (Elt F)),
    nullary main_c (constantI S_ 1 1#1),
    binary main_v6 main_c main_v7 ((fun x v => Host.reduce IntOp.andi x v reducesTo_S64x16x16_S16x16_d0 h_S_) : (⟨S64x16x16, .i1⟩ : BufTy).Contents (Elt F) → (⟨S_, .i1⟩ : BufTy).Contents (Elt F) → (⟨S16x16, .i1⟩ : BufTy).Contents (Elt F)),
    TRef.nullary (TRef.of (T := ⟨S16x16, .i32⟩) main_call0_v0) (iotaInDim S16x16 32 0),
    TRef.nullary (TRef.of (T := ⟨S_, .i1⟩) main_call0_c) (constantI S_ 1 0#1),
    TRef.nullary (TRef.of (T := ⟨S_, .i32⟩) main_call0_c_0) (constantI S_ 32 0#32),
    TRef.quaternary (TRef.of (T := ⟨S16x16, .i1⟩) main_v7) (TRef.of (T := ⟨S16x16, .i32⟩) main_call0_v0) (TRef.of (T := ⟨S_, .i1⟩) main_call0_c) (TRef.of (T := ⟨S_, .i32⟩) main_call0_c_0) (TRef.of (T := ⟨S16, .i1⟩) main_call0_v1_0) (fun x y u v j => (Host.reduce2 reducer_argmax_i1_i32 x y u v reducesTo_S16x16_S16_d0 h_S_ j).1),
    TRef.quaternary (TRef.of (T := ⟨S16x16, .i1⟩) main_v7) (TRef.of (T := ⟨S16x16, .i32⟩) main_call0_v0) (TRef.of (T := ⟨S_, .i1⟩) main_call0_c) (TRef.of (T := ⟨S_, .i32⟩) main_call0_c_0) (TRef.of (T := ⟨S16, .i32⟩) main_v8) (fun x y u v j => (Host.reduce2 reducer_argmax_i1_i32 x y u v reducesTo_S16x16_S16_d0 h_S_ j).2) ]

/-- The operations for the places of the distinct columns and how many there are. -/
def ops1 : List (HloOp τ sig (Elt F)) :=
  [ binary main_v8 main_v0 main_v9 (cmpi .eq : (⟨S16, .i32⟩ : BufTy).Contents (Elt F) → (⟨S16, .i32⟩ : BufTy).Contents (Elt F) → (⟨S16, .i1⟩ : BufTy).Contents (Elt F)),
    unary main_v9 main_v10 ((extui 32 · natLt_1_32) : (⟨S16, .i1⟩ : BufTy).Contents (Elt F) → (⟨S16, .i32⟩ : BufTy).Contents (Elt F)),
    TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S16, .i32⟩) main_v10) (TRef.of (T := ⟨S_, .i32⟩) main_call1_call0_v0) (TRef.of (T := ⟨S16, .i32⟩) main_v11) (fun x v => Host.reduceWindow IntOp.addi ![16] ![1] ![15] ![0] x v reduceWindows_S16_S16_w16s1p15_0 h_S_),
    nullary main_c_0 (constantI S_ 32 1#32),
    unary main_c_0 main_v12 (broadcastInDim S16 ![] bcast_S_S16 : (⟨S_, .i32⟩ : BufTy).Contents (Elt F) → (⟨S16, .i32⟩ : BufTy).Contents (Elt F)),
    binary main_v11 main_v12 main_v13 (subi : (⟨S16, .i32⟩ : BufTy).Contents (Elt F) → (⟨S16, .i32⟩ : BufTy).Contents (Elt F) → (⟨S16, .i32⟩ : BufTy).Contents (Elt F)),
    unary main_v9 main_v14 ((extui 32 · natLt_1_32) : (⟨S16, .i1⟩ : BufTy).Contents (Elt F) → (⟨S16, .i32⟩ : BufTy).Contents (Elt F)),
    nullary main_c_1 (constantI S_ 32 0#32),
    binary main_v14 main_c_1 main_v15 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)) ]

/-- The operations for the place of each column's representative. -/
def ops2 : List (HloOp τ sig (Elt F)) :=
  [ nullary main_c_2 (constantI S_ 32 0#32),
    unary main_c_2 main_v16 (broadcastInDim S16 ![] bcast_S_S16 : (⟨S_, .i32⟩ : BufTy).Contents (Elt F) → (⟨S16, .i32⟩ : BufTy).Contents (Elt F)),
    binary main_v8 main_v16 main_v17 (cmpi .slt : (⟨S16, .i32⟩ : BufTy).Contents (Elt F) → (⟨S16, .i32⟩ : BufTy).Contents (Elt F) → (⟨S16, .i1⟩ : BufTy).Contents (Elt F)),
    nullary main_c_3 (constantI S_ 32 16#32),
    unary main_c_3 main_v18 (broadcastInDim S16 ![] bcast_S_S16 : (⟨S_, .i32⟩ : BufTy).Contents (Elt F) → (⟨S16, .i32⟩ : BufTy).Contents (Elt F)),
    binary main_v8 main_v18 main_v19 (addi : (⟨S16, .i32⟩ : BufTy).Contents (Elt F) → (⟨S16, .i32⟩ : BufTy).Contents (Elt F) → (⟨S16, .i32⟩ : BufTy).Contents (Elt F)),
    ternary main_v17 main_v19 main_v8 main_v20 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v20 main_v21 (broadcastInDim S16x1 ![0] bcast_S16_S16x1_0 : (⟨S16, .i32⟩ : BufTy).Contents (Elt F) → (⟨S16x1, .i32⟩ : BufTy).Contents (Elt F)),
    binary main_v13 main_v21 main_v22 ((fun x i => Host.gather gather_S16_S16x1_S16_n_0_n_n_0_1_1 x i) : (⟨S16, .i32⟩ : BufTy).Contents (Elt F) → (⟨S16x1, .i32⟩ : BufTy).Contents (Elt F) → (⟨S16, .i32⟩ : BufTy).Contents (Elt F)),
    nullary main_c_4 (constantI S_ 1 0#1),
    binary main_arg1 main_c_4 main_v23 ((fun x v => Host.reduce IntOp.ori x v reducesTo_S64x16_S16_d0 h_S_) : (⟨S64x16, .i1⟩ : BufTy).Contents (Elt F) → (⟨S_, .i1⟩ : BufTy).Contents (Elt F) → (⟨S16, .i1⟩ : BufTy).Contents (Elt F)),
    nullary main_c_5 (constantI S_ 32 16#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S16, .i32⟩) main_call2_v1) (broadcastInDim S16 ![] bcast_S_S16),
    TRef.ternary (TRef.of (T := ⟨S16, .i1⟩) main_v23) (TRef.of (T := ⟨S16, .i32⟩) main_v22) (TRef.of (T := ⟨S16, .i32⟩) main_call2_v1) (TRef.of (T := ⟨S16, .i32⟩) main_v24) select ]

/-- The operations for the representatives. -/
def ops3 : List (HloOp τ sig (Elt F)) :=
  [ nullary main_c_6 (constantI S_ 32 0#32),
    unary main_c_6 main_v25 (broadcastInDim S16 ![] bcast_S_S16 : (⟨S_, .i32⟩ : BufTy).Contents (Elt F) → (⟨S16, .i32⟩ : BufTy).Contents (Elt F)),
    nullary main_c_7 (constantI S_ 32 16#32),
    TRef.unary (TRef.of (T := ⟨S_, .i32⟩) main_c_7) (TRef.of (T := ⟨S_, .i32⟩) main_call3_v0) id,
    TRef.unary (TRef.of (T := ⟨S_, .i32⟩) main_call3_v0) (TRef.of (T := ⟨S16, .i32⟩) main_call3_v1) (broadcastInDim S16 ![] bcast_S_S16),
    TRef.ternary (TRef.of (T := ⟨S16, .i1⟩) main_v9) (TRef.of (T := ⟨S16, .i32⟩) main_v13) (TRef.of (T := ⟨S16, .i32⟩) main_call3_v1) (TRef.of (T := ⟨S16, .i32⟩) main_v26) select,
    nullary main_c_8 (constantI S_ 32 0#32),
    unary main_c_8 main_v27 (broadcastInDim S16 ![] bcast_S_S16 : (⟨S_, .i32⟩ : BufTy).Contents (Elt F) → (⟨S16, .i32⟩ : BufTy).Contents (Elt F)),
    binary main_v26 main_v27 main_v28 (cmpi .slt : (⟨S16, .i32⟩ : BufTy).Contents (Elt F) → (⟨S16, .i32⟩ : BufTy).Contents (Elt F) → (⟨S16, .i1⟩ : BufTy).Contents (Elt F)),
    nullary main_c_9 (constantI S_ 32 16#32),
    unary main_c_9 main_v29 (broadcastInDim S16 ![] bcast_S_S16 : (⟨S_, .i32⟩ : BufTy).Contents (Elt F) → (⟨S16, .i32⟩ : BufTy).Contents (Elt F)),
    binary main_v26 main_v29 main_v30 (addi : (⟨S16, .i32⟩ : BufTy).Contents (Elt F) → (⟨S16, .i32⟩ : BufTy).Contents (Elt F) → (⟨S16, .i32⟩ : BufTy).Contents (Elt F)),
    ternary main_v28 main_v30 main_v26 main_v31 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v31 main_v32 (broadcastInDim S16x1 ![0] bcast_S16_S16x1_0 : (⟨S16, .i32⟩ : BufTy).Contents (Elt F) → (⟨S16x1, .i32⟩ : BufTy).Contents (Elt F)),
    ternary main_v25 main_v32 main_v0 main_v33 ((fun x i u => Host.scatter scatter_S16_S16x1_S16_n_0_0_1 (fun _ b => b) x i u) : (⟨S16, .i32⟩ : BufTy).Contents (Elt F) → (⟨S16x1, .i32⟩ : BufTy).Contents (Elt F) → (⟨S16, .i32⟩ : BufTy).Contents (Elt F) → (⟨S16, .i32⟩ : BufTy).Contents (Elt F)) ]

/-- The operations for the representatives' masks and their counts. -/
def ops4 : List (HloOp τ sig (Elt F)) :=
  [ unary main_arg1 main_v34 ((transpose S16x64 [1, 0] · transposes_S64x16_S16x64_1_0) : (⟨S64x16, .i1⟩ : BufTy).Contents (Elt F) → (⟨S16x64, .i1⟩ : BufTy).Contents (Elt F)),
    nullary main_c_10 (constantI S_ 32 0#32),
    unary main_c_10 main_v35 (broadcastInDim S16 ![] bcast_S_S16 : (⟨S_, .i32⟩ : BufTy).Contents (Elt F) → (⟨S16, .i32⟩ : BufTy).Contents (Elt F)),
    binary main_v33 main_v35 main_v36 (cmpi .slt : (⟨S16, .i32⟩ : BufTy).Contents (Elt F) → (⟨S16, .i32⟩ : BufTy).Contents (Elt F) → (⟨S16, .i1⟩ : BufTy).Contents (Elt F)),
    nullary main_c_11 (constantI S_ 32 16#32),
    unary main_c_11 main_v37 (broadcastInDim S16 ![] bcast_S_S16 : (⟨S_, .i32⟩ : BufTy).Contents (Elt F) → (⟨S16, .i32⟩ : BufTy).Contents (Elt F)),
    binary main_v33 main_v37 main_v38 (addi : (⟨S16, .i32⟩ : BufTy).Contents (Elt F) → (⟨S16, .i32⟩ : BufTy).Contents (Elt F) → (⟨S16, .i32⟩ : BufTy).Contents (Elt F)),
    ternary main_v36 main_v38 main_v33 main_v39 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v39 main_v40 (broadcastInDim S16x1 ![0] bcast_S16_S16x1_0 : (⟨S16, .i32⟩ : BufTy).Contents (Elt F) → (⟨S16x1, .i32⟩ : BufTy).Contents (Elt F)),
    binary main_v34 main_v40 main_v41 ((fun x i => Host.gather gather_S16x64_S16x1_S16x64_1_0_n_n_0_1_164 x i) : (⟨S16x64, .i1⟩ : BufTy).Contents (Elt F) → (⟨S16x1, .i32⟩ : BufTy).Contents (Elt F) → (⟨S16x64, .i1⟩ : BufTy).Contents (Elt F)),
    unary main_v41 main_v42 ((extui 32 · natLt_1_32) : (⟨S16x64, .i1⟩ : BufTy).Contents (Elt F) → (⟨S16x64, .i32⟩ : BufTy).Contents (Elt F)),
    nullary main_c_12 (constantI S_ 32 0#32),
    binary main_v42 main_c_12 main_v43 ((fun x v => Host.reduce IntOp.addi x v reducesTo_S16x64_S16_d1 h_S_) : (⟨S16x64, .i32⟩ : BufTy).Contents (Elt F) → (⟨S_, .i32⟩ : BufTy).Contents (Elt F) → (⟨S16, .i32⟩ : BufTy).Contents (Elt F)) ]

/-- The operations for two constants. -/
def ops5 : List (HloOp τ sig (Elt F)) :=
  [ nullary main_c_13 (constantI S_ 32 0#32),
    nullary main_c_14 (constantI S_ 32 1#32) ]

/-- The operations for the nodes, those of the mask first. -/
def ops6 : List (HloOp τ sig (Elt F)) :=
  [ TRef.unary (TRef.of (T := ⟨S_, .i32⟩) main_c_13) (TRef.of (T := ⟨S16x64, .i32⟩) main_call4_v0) (broadcastInDim S16x64 ![] bcast_S_S16x64),
    TRef.unary (TRef.of (T := ⟨S_, .i32⟩) main_c_14) (TRef.of (T := ⟨S16x64, .i32⟩) main_call4_v1) (broadcastInDim S16x64 ![] bcast_S_S16x64),
    TRef.ternary (TRef.of (T := ⟨S16x64, .i1⟩) main_v41) (TRef.of (T := ⟨S16x64, .i32⟩) main_call4_v0) (TRef.of (T := ⟨S16x64, .i32⟩) main_call4_v1) (TRef.of (T := ⟨S16x64, .i32⟩) main_v44) select,
    nullary main_c_15 (constantI S_ 32 64#32),
    unary main_c_15 main_v45 (broadcastInDim S16x64 ![] bcast_S_S16x64 : (⟨S_, .i32⟩ : BufTy).Contents (Elt F) → (⟨S16x64, .i32⟩ : BufTy).Contents (Elt F)),
    binary main_v44 main_v45 main_v46 (muli : (⟨S16x64, .i32⟩ : BufTy).Contents (Elt F) → (⟨S16x64, .i32⟩ : BufTy).Contents (Elt F) → (⟨S16x64, .i32⟩ : BufTy).Contents (Elt F)),
    unary main_v1 main_v47 (broadcastInDim S1x64 ![1] bcast_S64_S1x64_1 : (⟨S64, .i32⟩ : BufTy).Contents (Elt F) → (⟨S1x64, .i32⟩ : BufTy).Contents (Elt F)),
    unary main_v46 main_v48 (id : (⟨S16x64, .i32⟩ : BufTy).Contents (Elt F) → (⟨S16x64, .i32⟩ : BufTy).Contents (Elt F)),
    unary main_v47 main_v49 (broadcastInDim S16x64 ![0, 1] bcast_S1x64_S16x64_0_1 : (⟨S1x64, .i32⟩ : BufTy).Contents (Elt F) → (⟨S16x64, .i32⟩ : BufTy).Contents (Elt F)),
    binary main_v48 main_v49 main_v50 (addi : (⟨S16x64, .i32⟩ : BufTy).Contents (Elt F) → (⟨S16x64, .i32⟩ : BufTy).Contents (Elt F) → (⟨S16x64, .i32⟩ : BufTy).Contents (Elt F)),
    TRef.nullary (TRef.of (T := ⟨S16x64, .i32⟩) main_call5_v0) (iotaInDim S16x64 32 1),
    TRef.binary (TRef.of (T := ⟨S16x64, .i32⟩) main_v50) (TRef.of (T := ⟨S16x64, .i32⟩) main_call5_v0) (TRef.of (T := ⟨S16x64, .i32⟩) main_call5_v1_0) (fun x y => (Host.sort2 S16x64 1 comparator_i32_i32_d1 x y).1),
    TRef.binary (TRef.of (T := ⟨S16x64, .i32⟩) main_v50) (TRef.of (T := ⟨S16x64, .i32⟩) main_call5_v0) (TRef.of (T := ⟨S16x64, .i32⟩) main_v51) (fun x y => (Host.sort2 S16x64 1 comparator_i32_i32_d1 x y).2) ]

/-- The operations for the mask's nodes, the last repeated. -/
def ops7 : List (HloOp τ sig (Elt F)) :=
  [ unary main_v1 main_v52 (broadcastInDim S1x64 ![1] bcast_S64_S1x64_1 : (⟨S64, .i32⟩ : BufTy).Contents (Elt F) → (⟨S1x64, .i32⟩ : BufTy).Contents (Elt F)),
    unary main_v43 main_v53 (broadcastInDim S16x1 ![0] bcast_S16_S16x1_0 : (⟨S16, .i32⟩ : BufTy).Contents (Elt F) → (⟨S16x1, .i32⟩ : BufTy).Contents (Elt F)),
    nullary main_c_16 (constantI S_ 32 1#32),
    unary main_c_16 main_v54 (broadcastInDim S16x1 ![] bcast_S_S16x1 : (⟨S_, .i32⟩ : BufTy).Contents (Elt F) → (⟨S16x1, .i32⟩ : BufTy).Contents (Elt F)),
    binary main_v53 main_v54 main_v55 (subi : (⟨S16x1, .i32⟩ : BufTy).Contents (Elt F) → (⟨S16x1, .i32⟩ : BufTy).Contents (Elt F) → (⟨S16x1, .i32⟩ : BufTy).Contents (Elt F)),
    nullary main_c_17 (constantI S_ 32 0#32),
    unary main_c_17 main_v56 (broadcastInDim S16x1 ![] bcast_S_S16x1 : (⟨S_, .i32⟩ : BufTy).Contents (Elt F) → (⟨S16x1, .i32⟩ : BufTy).Contents (Elt F)),
    binary main_v55 main_v56 main_v57 (maxsi : (⟨S16x1, .i32⟩ : BufTy).Contents (Elt F) → (⟨S16x1, .i32⟩ : BufTy).Contents (Elt F) → (⟨S16x1, .i32⟩ : BufTy).Contents (Elt F)),
    unary main_v52 main_v58 (broadcastInDim S16x64 ![0, 1] bcast_S1x64_S16x64_0_1 : (⟨S1x64, .i32⟩ : BufTy).Contents (Elt F) → (⟨S16x64, .i32⟩ : BufTy).Contents (Elt F)),
    unary main_v57 main_v59 (broadcastInDim S16x64 ![0, 1] bcast_S16x1_S16x64_0_1 : (⟨S16x1, .i32⟩ : BufTy).Contents (Elt F) → (⟨S16x64, .i32⟩ : BufTy).Contents (Elt F)),
    binary main_v58 main_v59 main_v60 (minsi : (⟨S16x64, .i32⟩ : BufTy).Contents (Elt F) → (⟨S16x64, .i32⟩ : BufTy).Contents (Elt F) → (⟨S16x64, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S16x64, .i32⟩) main_call6_v0) (broadcastInDim S16x64 ![] bcast_S_S16x64),
    TRef.binary (TRef.of (T := ⟨S16x64, .i32⟩) main_v60) (TRef.of (T := ⟨S16x64, .i32⟩) main_call6_v0) (TRef.of (T := ⟨S16x64, .i1⟩) main_call6_v1) (cmpi .slt),
    TRef.nullary (TRef.of (T := ⟨S_, .i32⟩) main_call6_c_0) (constantI S_ 32 64#32),
    TRef.unary (TRef.of (T := ⟨S_, .i32⟩) main_call6_c_0) (TRef.of (T := ⟨S16x64, .i32⟩) main_call6_v2) (broadcastInDim S16x64 ![] bcast_S_S16x64),
    TRef.binary (TRef.of (T := ⟨S16x64, .i32⟩) main_v60) (TRef.of (T := ⟨S16x64, .i32⟩) main_call6_v2) (TRef.of (T := ⟨S16x64, .i32⟩) main_call6_v3) addi,
    TRef.ternary (TRef.of (T := ⟨S16x64, .i1⟩) main_call6_v1) (TRef.of (T := ⟨S16x64, .i32⟩) main_call6_v3) (TRef.of (T := ⟨S16x64, .i32⟩) main_v60) (TRef.of (T := ⟨S16x64, .i32⟩) main_call6_v4) select,
    TRef.reshape (TRef.of (T := ⟨S16x64, .i32⟩) main_call6_v4) (TRef.of (T := ⟨S16x64x1, .i32⟩) main_call6_v5) (rfl : (.i32 : EltTy) = .i32) shapeCasts_S16x64_S16x64x1,
    TRef.nullary (TRef.of (T := ⟨S1, .i32⟩) main_call6_c_1) (constantI S1 32 63#32),
    TRef.nullary (TRef.of (T := ⟨S_, .i32⟩) main_call6_c_2) (constantI S_ 32 0#32),
    TRef.unary (TRef.of (T := ⟨S_, .i32⟩) main_call6_c_2) (TRef.of (T := ⟨S16x64x1, .i32⟩) main_call6_v6) (broadcastInDim S16x64x1 ![] bcast_S_S16x64x1),
    TRef.binary (TRef.of (T := ⟨S16x64x1, .i32⟩) main_call6_v5) (TRef.of (T := ⟨S16x64x1, .i32⟩) main_call6_v6) (TRef.of (T := ⟨S16x64x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S16x64x1, .i32⟩) main_call6_v9) (broadcastInDim S16x64x1 ![0, 1, 2] bcast_S1x1x1_S16x64x1_0_1_2),
    TRef.binary (TRef.of (T := ⟨S16x64x1, .i32⟩) main_call6_v5) (TRef.of (T := ⟨S16x64x1, .i32⟩) main_call6_v9) (TRef.of (T := ⟨S16x64x1, .i1⟩) main_call6_v10) (cmpi .sle),
    TRef.binary (TRef.of (T := ⟨S16x64x1, .i1⟩) main_call6_v7) (TRef.of (T := ⟨S16x64x1, .i1⟩) main_call6_v10) (TRef.of (T := ⟨S16x64x1, .i1⟩) main_call6_v11) andi,
    TRef.nullary (TRef.of (T := ⟨S_, .i1⟩) main_call6_c_3) (constantI S_ 1 1#1),
    TRef.binary (TRef.of (T := ⟨S16x64x1, .i1⟩) main_call6_v11) (TRef.of (T := ⟨S_, .i1⟩) main_call6_c_3) (TRef.of (T := ⟨S16x64, .i1⟩) main_call6_v12) (fun x v => Host.reduce IntOp.andi x v reducesTo_S16x64x1_S16x64_d2 h_S_),
    TRef.binary (TRef.of (T := ⟨S16x64, .i32⟩) main_v51) (TRef.of (T := ⟨S16x64x1, .i32⟩) main_call6_v5) (TRef.of (T := ⟨S16x64, .i32⟩) main_call6_v13) (fun x i => Host.gather gather_S16x64_S16x64x1_S16x64_n_1_0_0_1_2_11 x i),
    TRef.nullary (TRef.of (T := ⟨S_, .i32⟩) main_call6_c_4) (constantI S_ 32 2147483648#32),
    TRef.unary (TRef.of (T := ⟨S_, .i32⟩) main_call6_c_4) (TRef.of (T := ⟨S16x64, .i32⟩) main_call6_v14) (broadcastInDim S16x64 ![] bcast_S_S16x64),
    TRef.ternary (TRef.of (T := ⟨S16x64, .i1⟩) main_call6_v12) (TRef.of (T := ⟨S16x64, .i32⟩) main_call6_v13) (TRef.of (T := ⟨S16x64, .i32⟩) main_call6_v14) (TRef.of (T := ⟨S16x64, .i32⟩) main_v61) select ]

/-- The operations for the blocks of sixteen nodes. -/
def ops8 : List (HloOp τ sig (Elt F)) :=
  [ nullary main_c_18 (constantI S_ 32 15#32),
    unary main_c_18 main_v62 (broadcastInDim S16 ![] bcast_S_S16 : (⟨S_, .i32⟩ : BufTy).Contents (Elt F) → (⟨S16, .i32⟩ : BufTy).Contents (Elt F)),
    binary main_v43 main_v62 main_v63 (addi : (⟨S16, .i32⟩ : BufTy).Contents (Elt F) → (⟨S16, .i32⟩ : BufTy).Contents (Elt F) → (⟨S16, .i32⟩ : BufTy).Contents (Elt F)),
    nullary main_c_19 (constantI S_ 32 16#32),
    TRef.unary (TRef.of (T := ⟨S_, .i32⟩) main_c_19) (TRef.of (T := ⟨S_, .i32⟩) main_call7_v0) id,
    TRef.unary (TRef.of (T := ⟨S_, .i32⟩) main_call7_v0) (TRef.of (T := ⟨S16, .i32⟩) main_call7_v1) (broadcastInDim S16 ![] bcast_S_S16),
    TRef.binary (TRef.of (T := ⟨S16, .i32⟩) main_v63) (TRef.of (T := ⟨S16, .i32⟩) main_call7_v1) (TRef.of (T := ⟨S16, .i32⟩) main_call7_v2) Host.divsi,
    TRef.unary (TRef.of (T := ⟨S16, .i32⟩) main_v63) (TRef.of (T := ⟨S16, .i32⟩) main_call7_v3) signi,
    TRef.unary (TRef.of (T := ⟨S_, .i32⟩) main_call7_v0) (TRef.of (T := ⟨S_, .i32⟩) main_call7_v4) signi,
    TRef.unary (TRef.of (T := ⟨S_, .i32⟩) main_call7_v4) (TRef.of (T := ⟨S16, .i32⟩) main_call7_v5) (broadcastInDim S16 ![] bcast_S_S16),
    TRef.binary (TRef.of (T := ⟨S16, .i32⟩) main_call7_v3) (TRef.of (T := ⟨S16, .i32⟩) main_call7_v5) (TRef.of (T := ⟨S16, .i1⟩) main_call7_v6) (cmpi .ne),
    TRef.unary (TRef.of (T := ⟨S_, .i32⟩) main_call7_v0) (TRef.of (T := ⟨S16, .i32⟩) main_call7_v7) (broadcastInDim S16 ![] bcast_S_S16),
    TRef.binary (TRef.of (T := ⟨S16, .i32⟩) main_v63) (TRef.of (T := ⟨S16, .i32⟩) main_call7_v7) (TRef.of (T := ⟨S16, .i32⟩) main_call7_v8) Host.remsi,
    TRef.nullary (TRef.of (T := ⟨S_, .i32⟩) main_call7_c) (constantI S_ 32 0#32),
    TRef.unary (TRef.of (T := ⟨S_, .i32⟩) main_call7_c) (TRef.of (T := ⟨S16, .i32⟩) main_call7_v9) (broadcastInDim S16 ![] bcast_S_S16),
    TRef.binary (TRef.of (T := ⟨S16, .i32⟩) main_call7_v8) (TRef.of (T := ⟨S16, .i32⟩) main_call7_v9) (TRef.of (T := ⟨S16, .i1⟩) main_call7_v10) (cmpi .ne),
    TRef.binary (TRef.of (T := ⟨S16, .i1⟩) main_call7_v6) (TRef.of (T := ⟨S16, .i1⟩) main_call7_v10) (TRef.of (T := ⟨S16, .i1⟩) main_call7_v11) andi,
    TRef.nullary (TRef.of (T := ⟨S_, .i32⟩) main_call7_c_0) (constantI S_ 32 1#32),
    TRef.unary (TRef.of (T := ⟨S_, .i32⟩) main_call7_c_0) (TRef.of (T := ⟨S16, .i32⟩) main_call7_v12) (broadcastInDim S16 ![] bcast_S_S16),
    TRef.binary (TRef.of (T := ⟨S16, .i32⟩) main_call7_v2) (TRef.of (T := ⟨S16, .i32⟩) main_call7_v12) (TRef.of (T := ⟨S16, .i32⟩) main_call7_v13) subi,
    TRef.ternary (TRef.of (T := ⟨S16, .i1⟩) main_call7_v11) (TRef.of (T := ⟨S16, .i32⟩) main_call7_v13) (TRef.of (T := ⟨S16, .i32⟩) main_call7_v2) (TRef.of (T := ⟨S16, .i32⟩) main_v64) select,
    nullary main_c_20 (constantI S_ 32 1#32),
    unary main_c_20 main_v65 (broadcastInDim S16 ![] bcast_S_S16 : (⟨S_, .i32⟩ : BufTy).Contents (Elt F) → (⟨S16, .i32⟩ : BufTy).Contents (Elt F)),
    binary main_v64 main_v65 main_v66 (maxsi : (⟨S16, .i32⟩ : BufTy).Contents (Elt F) → (⟨S16, .i32⟩ : BufTy).Contents (Elt F) → (⟨S16, .i32⟩ : BufTy).Contents (Elt F)) ]

/-- The operations for the rotated blocks. -/
def ops9 : List (HloOp τ sig (Elt F)) :=
  [ reshape main_v61 main_v67 (rfl : (.i32 : EltTy) = .i32) shapeCasts_S16x64_S16x4x16,
    nullary main_v68 (iotaInDim S16 32 0),
    unary main_v68 main_v69 (broadcastInDim S16x1 ![0] bcast_S16_S16x1_0 : (⟨S16, .i32⟩ : BufTy).Contents (Elt F) → (⟨S16x1, .i32⟩ : BufTy).Contents (Elt F)),
    unary main_v68 main_v70 (broadcastInDim S1x16 ![1] bcast_S16_S1x16_1 : (⟨S16, .i32⟩ : BufTy).Contents (Elt F) → (⟨S1x16, .i32⟩ : BufTy).Contents (Elt F)),
    unary main_v69 main_v71 (broadcastInDim S16x16 ![0, 1] bcast_S16x1_S16x16_0_1 : (⟨S16x1, .i32⟩ : BufTy).Contents (Elt F) → (⟨S16x16, .i32⟩ : BufTy).Contents (Elt F)),
    unary main_v70 main_v72 (broadcastInDim S16x16 ![0, 1] bcast_S1x16_S16x16_0_1 : (⟨S1x16, .i32⟩ : BufTy).Contents (Elt F) → (⟨S16x16, .i32⟩ : BufTy).Contents (Elt F)),
    binary main_v71 main_v72 main_v73 (addi : (⟨S16x16, .i32⟩ : BufTy).Contents (Elt F) → (⟨S16x16, .i32⟩ : BufTy).Contents (Elt F) → (⟨S16x16, .i32⟩ : BufTy).Contents (Elt F)),
    nullary main_c_21 (constantI S_ 32 16#32),
    TRef.unary (TRef.of (T := ⟨S_, .i32⟩) main_c_21) (TRef.of (T := ⟨S_, .i32⟩) main_call8_v0) id,
    TRef.nullary (TRef.of (T := ⟨S_, .i32⟩) main_call8_c) (constantI S_ 32 0#32),
    TRef.binary (TRef.of (T := ⟨S_, .i32⟩) main_call8_v0) (TRef.of (T := ⟨S_, .i32⟩) main_call8_c) (TRef.of (T := ⟨S_, .i1⟩) main_call8_v1) (cmpi .eq),
    TRef.nullary (TRef.of (T := ⟨S_, .i32⟩) main_call8_c_0) (constantI S_ 32 1#32),
    TRef.ternary (TRef.of (T := ⟨S_, .i1⟩) main_call8_v1) (TRef.of (T := ⟨S_, .i32⟩) main_call8_c_0) (TRef.of (T := ⟨S_, .i32⟩) main_call8_v0) (TRef.of (T := ⟨S_, .i32⟩) main_call8_v2) select,
    TRef.unary (TRef.of (T := ⟨S_, .i32⟩) main_call8_v2) (TRef.of (T := ⟨S16x16, .i32⟩) main_call8_v3) (broadcastInDim S16x16 ![] bcast_S_S16x16),
    TRef.binary (TRef.of (T := ⟨S16x16, .i32⟩) main_v73) (TRef.of (T := ⟨S16x16, .i32⟩) main_call8_v3) (TRef.of (T := ⟨S16x16, .i32⟩) main_call8_v4) Host.remsi,
    TRef.nullary (TRef.of (T := ⟨S_, .i32⟩) main_call8_c_1) (constantI S_ 32 0#32),
    TRef.unary (TRef.of (T := ⟨S_, .i32⟩) main_call8_c_1) (TRef.of (T := ⟨S16x16, .i32⟩) main_call8_v5) (broadcastInDim S16x16 ![] bcast_S_S16x16),
    TRef.binary (TRef.of (T := ⟨S16x16, .i32⟩) main_call8_v4) (TRef.of (T := ⟨S16x16, .i32⟩) main_call8_v5) (TRef.of (T := ⟨S16x16, .i1⟩) main_call8_v6) (cmpi .ne),
    TRef.nullary (TRef.of (T := ⟨S_, .i32⟩) main_call8_c_2) (constantI S_ 32 0#32),
    TRef.unary (TRef.of (T := ⟨S_, .i32⟩) main_call8_c_2) (TRef.of (T := ⟨S16x16, .i32⟩) main_call8_v7) (broadcastInDim S16x16 ![] bcast_S_S16x16),
    TRef.binary (TRef.of (T := ⟨S16x16, .i32⟩) main_call8_v4) (TRef.of (T := ⟨S16x16, .i32⟩) main_call8_v7) (TRef.of (T := ⟨S16x16, .i1⟩) main_call8_v8) (cmpi .slt),
    TRef.nullary (TRef.of (T := ⟨S_, .i32⟩) main_call8_c_3) (constantI S_ 32 0#32),
    TRef.binary (TRef.of (T := ⟨S_, .i32⟩) main_call8_v2) (TRef.of (T := ⟨S_, .i32⟩) main_call8_c_3) (TRef.of (T := ⟨S_, .i1⟩) main_call8_v9) (cmpi .slt),
    TRef.unary (TRef.of (T := ⟨S_, .i1⟩) main_call8_v9) (TRef.of (T := ⟨S16x16, .i1⟩) main_call8_v10) (broadcastInDim S16x16 ![] bcast_S_S16x16),
    TRef.binary (TRef.of (T := ⟨S16x16, .i1⟩) main_call8_v8) (TRef.of (T := ⟨S16x16, .i1⟩) main_call8_v10) (TRef.of (T := ⟨S16x16, .i1⟩) main_call8_v11) (cmpi .ne),
    TRef.binary (TRef.of (T := ⟨S16x16, .i1⟩) main_call8_v11) (TRef.of (T := ⟨S16x16, .i1⟩) main_call8_v6) (TRef.of (T := ⟨S16x16, .i1⟩) main_call8_v12) andi,
    TRef.unary (TRef.of (T := ⟨S_, .i32⟩) main_call8_v2) (TRef.of (T := ⟨S16x16, .i32⟩) main_call8_v13) (broadcastInDim S16x16 ![] bcast_S_S16x16),
    TRef.binary (TRef.of (T := ⟨S16x16, .i32⟩) main_call8_v4) (TRef.of (T := ⟨S16x16, .i32⟩) main_call8_v13) (TRef.of (T := ⟨S16x16, .i32⟩) main_call8_v14) addi,
    TRef.ternary (TRef.of (T := ⟨S16x16, .i1⟩) main_call8_v12) (TRef.of (T := ⟨S16x16, .i32⟩) main_call8_v14) (TRef.of (T := ⟨S16x16, .i32⟩) main_call8_v4) (TRef.of (T := ⟨S16x16, .i32⟩) main_v74) select,
    nullary main_c_22 (constantI S_ 32 0#32),
    unary main_c_22 main_v75 (broadcastInDim S16x16 ![] bcast_S_S16x16 : (⟨S_, .i32⟩ : BufTy).Contents (Elt F) → (⟨S16x16, .i32⟩ : BufTy).Contents (Elt F)),
    binary main_v74 main_v75 main_v76 (cmpi .slt : (⟨S16x16, .i32⟩ : BufTy).Contents (Elt F) → (⟨S16x16, .i32⟩ : BufTy).Contents (Elt F) → (⟨S16x16, .i1⟩ : BufTy).Contents (Elt F)),
    nullary main_c_23 (constantI S_ 32 16#32),
    unary main_c_23 main_v77 (broadcastInDim S16x16 ![] bcast_S_S16x16 : (⟨S_, .i32⟩ : BufTy).Contents (Elt F) → (⟨S16x16, .i32⟩ : BufTy).Contents (Elt F)),
    binary main_v74 main_v77 main_v78 (addi : (⟨S16x16, .i32⟩ : BufTy).Contents (Elt F) → (⟨S16x16, .i32⟩ : BufTy).Contents (Elt F) → (⟨S16x16, .i32⟩ : BufTy).Contents (Elt F)),
    ternary main_v76 main_v78 main_v74 main_v79 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    unary main_v79 main_v80 (broadcastInDim S16x16x1 ![0, 1] bcast_S16x16_S16x16x1_0_1 : (⟨S16x16, .i32⟩ : BufTy).Contents (Elt F) → (⟨S16x16x1, .i32⟩ : BufTy).Contents (Elt F)),
    binary main_v67 main_v80 main_v81 ((fun x i => Host.gather gather_S16x4x16_S16x16x1_S16x4x16x16_01_2_n_n_2_2_1641 x i) : (⟨S16x4x16, .i32⟩ : BufTy).Contents (Elt F) → (⟨S16x16x1, .i32⟩ : BufTy).Contents (Elt F) → (⟨S16x4x16x16, .i32⟩ : BufTy).Contents (Elt F)),
    reshape main_v81 main_v82 (rfl : (.i32 : EltTy) = .i32) shapeCasts_S16x4x16x16_S16384 ]

/-- The operations for the second table. -/
def ops10 : List (HloOp τ sig (Elt F)) :=
  [ unary main_v15 main_v83 (broadcastInDim S16 ![] bcast_S_S16 : (⟨S_, .i32⟩ : BufTy).Contents (Elt F) → (⟨S16, .i32⟩ : BufTy).Contents (Elt F)),
    unary main_v66 main_v84 (broadcastInDim S16x16 ![0] bcast_S16_S16x16_0 : (⟨S16, .i32⟩ : BufTy).Contents (Elt F) → (⟨S16x16, .i32⟩ : BufTy).Contents (Elt F)),
    reshape main_v84 main_v85 (rfl : (.i32 : EltTy) = .i32) shapeCasts_S16x16_S256,
    nary ![main_v24, main_v83, main_v85] main_v86 (fun u => (concatenate S288 0 [⟨S16, (u 0 : (⟨S16, .i32⟩ : BufTy).Contents (Elt F))⟩, ⟨S16, (u 1 : (⟨S16, .i32⟩ : BufTy).Contents (Elt F))⟩, ⟨S256, (u 2 : (⟨S256, .i32⟩ : BufTy).Contents (Elt F))⟩] concatenates_S16_S16_S256_S288_d0 : (⟨S288, .i32⟩ : BufTy).Contents (Elt F))) ]

/-- All the operations. -/
def hostOps : List (HloOp τ sig (Elt F)) := (ops0 ++ (ops1 ++ (ops2 ++ (ops3 ++ (ops4 ++ (ops5)))))) ++ (ops6 ++ (ops7 ++ (ops8 ++ (ops9 ++ (ops10)))))

set_option maxHeartbeats 4000000 in
theorem part0_eq (d : Dev nD) : main_part0 (F := F) d = seq (ops0 ++ (ops1 ++ (ops2 ++ (ops3 ++ (ops4 ++ (ops5)))))) := rfl
set_option maxHeartbeats 4000000 in
theorem part1_eq (d : Dev nD) : main_part1 (F := F) d = seq (ops6 ++ (ops7 ++ (ops8 ++ (ops9 ++ (ops10))))) >>= fun _ => (sc (F := F)).run d 0 >>= fun _ => pure ⟨⟩ := rfl
omit [FloatOps F] in
/-- Two runs of operations one after the other, then a last part. -/
theorem two_parts (A B : List (HloOp τ sig (Elt F))) {Λ : Labels} {p q r : Prog (TpuEff nD τ sig (Elt F) Λ .tc) PUnit}
    (hp : p = seq A) (hq : q = seq B >>= fun _ => r) : (p >>= fun _ => q) = seq (A ++ B) >>= fun _ => r := by
  rw [hp, hq, seq_append, bind_assoc]
/-- The program is the host's operations and then the kernel. -/
theorem main_eq (d : Dev nD) : main (F := F) d = seq hostOps >>= fun _ => (sc (F := F)).run d 0 :=
  two_parts _ _ (part0_eq d) ((part1_eq d).trans (by simp only [bind_pure_unit]))

/-- Operations whose buffers are the main program's and which choose no contents. -/
def Fine (ops : List (HloOp τ sig (Elt F))) : Prop := ∀ op ∈ ops, op.bufs ⊆ tcRefs τ sig ∧ op.fresh = ∅

omit [FloatOps F] in
theorem Fine.nil : Fine (F := F) [] := fun _ h => absurd h List.not_mem_nil
omit [FloatOps F] in
theorem Fine.cons {op : HloOp τ sig (Elt F)} {ops : List (HloOp τ sig (Elt F))} (h : op.bufs ⊆ tcRefs τ sig) (h' : op.fresh = ∅) (ht : Fine ops) : Fine (op :: ops) :=
  fun o ho => (List.mem_cons.mp ho).elim (fun e => e ▸ ⟨h, h'⟩) (ht o)
omit [FloatOps F] in
theorem Fine.append {ops ops' : List (HloOp τ sig (Elt F))} (h : Fine ops) (h' : Fine ops') : Fine (ops ++ ops') :=
  fun o ho => (List.mem_append.mp ho).elim (h o) (h' o)

/-- The host's operations touch the program's own buffers only. -/
theorem hostOps_fine : Fine (F := F) hostOps := by
  unfold hostOps
  repeat' apply Fine.append
  all_goals
    first | unfold ops0 | unfold ops1 | unfold ops2 | unfold ops3 | unfold ops4 | unfold ops5 | unfold ops6 | unfold ops7 | unfold ops8 | unfold ops9 | unfold ops10
    repeat (first | (with_reducible exact Fine.nil) | refine Fine.cons ?_ rfl ?_ | (with_reducible exact nullary_bufs_sub ..) | (with_reducible exact unary_bufs_sub ..) | (with_reducible exact binary_bufs_sub ..) | (with_reducible exact ternary_bufs_sub ..) | (with_reducible exact quaternary_bufs_sub ..) | (with_reducible exact reshape_bufs_sub ..) | (with_reducible exact nary_bufs_sub ..))

end Cert.Proof.Pool
-- ==== Proof.Cols.lean ====
/-
  The columns of the mask: which earlier column each one repeats.
-/
module

public import Idealize.ShloMosaic.Lib.StableHlo.RunRead
public import Idealize.ShloMosaic.Lib.Routing.Ops
public import Idealize.ShloMosaic.Lib.Routing.OpsSet
public import Idealize.ShloMosaic.Lib.Routing.OpsOrder
public import Idealize.ShloMosaic.Lib.ReduceAll
public import proofs.«01_k».proof.Proof.Host

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- Two columns of the mask that are equal. -/
def Same (k : IVec S64x16 1) (a b : Fin 16) : Prop := ∀ n : Fin 64, k (ValueIdx.ix2 n a) = k (ValueIdx.ix2 n b)

/-- A reduction by «and» from one is one exactly where every element it covers is. -/
theorem all_iff {s t : Shape} {axes : List (Fin s.rank)} (x : s.Idx → BitVec 1) (h : s.ReducesTo axes t) (hu : 0 < S_.numel) (j : t.Idx) :
    Host.reduce IntOp.andi x (constantI S_ 1 1#1) h hu j = 1#1 ↔ ∀ i, h.drop i = j → x i = 1#1 := by
  refine ⟨fun e i hi => Host.reduce_andi_eq_one x _ h hu j e i hi, fun hx => ?_⟩
  rw [Host.reduce_eq_foldl, ← List.foldl_map]
  generalize hL : List.map x _ = L
  have hall : ∀ b ∈ L, b = 1#1 := by
    intro b hb
    rw [← hL] at hb
    obtain ⟨i, hi, rfl⟩ := List.mem_map.mp hb
    exact hx i (of_decide_eq_true (List.mem_filter.mp hi).2)
  clear hL
  show List.foldl IntOp.andi 1#1 L = 1#1
  induction L with
  | nil => rfl
  | cons b L ih =>
    rw [List.foldl_cons, hall b List.mem_cons_self]
    exact ih fun b hb => hall b (List.mem_cons_of_mem _ hb)

/-- The index a search for the greatest bit ends with: the least index of a one, if there is a one. -/
theorem argmax_fold (L : List (BitVec 1 × BitVec 32)) (hL : ∀ p ∈ L, p.2.toNat < 2 ^ 31) (a : BitVec 1 × BitVec 32) (ha : a.2.toNat < 2 ^ 31)
    (h : a.1 = 1#1 ∨ ∃ p ∈ L, p.1 = 1#1) :
    (L.foldl reducer_argmax_i1_i32 a ∈ a :: L ∧ (L.foldl reducer_argmax_i1_i32 a).1 = 1#1)
      ∧ ∀ p ∈ a :: L, p.1 = 1#1 → (L.foldl reducer_argmax_i1_i32 a).2.toNat ≤ p.2.toNat := by
  induction L generalizing a with
  | nil =>
    rcases h with h | ⟨p, hp, -⟩
    · exact ⟨⟨List.mem_cons_self, h⟩, fun p hp _ => by rw [List.mem_singleton.mp hp]; exact le_refl _⟩
    · exact absurd hp List.not_mem_nil
  | cons b L ih =>
    have hb := hL b List.mem_cons_self
    have hc : (reducer_argmax_i1_i32 a b = a ∨ reducer_argmax_i1_i32 a b = b)
        ∧ ((a.1 = 1#1 ∨ b.1 = 1#1) → (reducer_argmax_i1_i32 a b).1 = 1#1)
        ∧ (a.1 = 1#1 → (reducer_argmax_i1_i32 a b).2.toNat ≤ a.2.toNat) ∧ (b.1 = 1#1 → (reducer_argmax_i1_i32 a b).2.toNat ≤ b.2.toNat) := by
      obtain ⟨v, i⟩ := a
      obtain ⟨w, j⟩ := b
      have hlt : IntOp.cmpi .slt i j = 1#1 ↔ i.toNat < j.toNat := StableHlo.Predicate.slt_iff_toNat ha hb
      by_cases hij : i.toNat < j.toNat
      · have e := hlt.mpr hij
        rcases BitVec.eq_zero_or_eq_one v with rfl | rfl <;> rcases BitVec.eq_zero_or_eq_one w with rfl | rfl <;>
          simp only [reducer_argmax_i1_i32, e] <;> simp [Scalar.select, IntOp.cmpi, IntOp.ori, IntOp.andi] <;> omega
      · have e : IntOp.cmpi .slt i j = 0#1 := (BitVec.eq_zero_or_eq_one _).resolve_right fun h => hij (hlt.mp h)
        rcases BitVec.eq_zero_or_eq_one v with rfl | rfl <;> rcases BitVec.eq_zero_or_eq_one w with rfl | rfl <;>
          simp only [reducer_argmax_i1_i32, e] <;> simp [Scalar.select, IntOp.cmpi, IntOp.ori, IntOp.andi] <;> omega
    obtain ⟨hab, hone, hla, hlb⟩ := hc
    rw [List.foldl_cons]
    have ha' : (reducer_argmax_i1_i32 a b).2.toNat < 2 ^ 31 := by rcases hab with e | e <;> rw [e] <;> assumption
    obtain ⟨⟨hm, h1⟩, hmin⟩ := ih (fun p hp => hL p (List.mem_cons_of_mem _ hp)) (reducer_argmax_i1_i32 a b) ha' (by
      rcases h with h | ⟨p, hp, hp1⟩
      · exact .inl (hone (.inl h))
      · rcases List.mem_cons.mp hp with rfl | hp
        · exact .inl (hone (.inr hp1))
        · exact .inr ⟨p, hp, hp1⟩)
    refine ⟨⟨?_, h1⟩, fun p hp hp1 => ?_⟩
    · rcases List.mem_cons.mp hm with e | hm
      · rw [e]
        rcases hab with e | e <;> rw [e] <;> simp
      · exact List.mem_cons_of_mem _ (List.mem_cons_of_mem _ hm)
    · rcases List.mem_cons.mp hp with rfl | hp
      · exact (hmin _ List.mem_cons_self (hone (.inl hp1))).trans (hla hp1)
      · rcases List.mem_cons.mp hp with rfl | hp
        · exact (hmin _ List.mem_cons_self (hone (.inr hp1))).trans (hlb hp1)
        · exact hmin p (List.mem_cons_of_mem _ hp) hp1

/-- The pair of columns that a node's comparison belongs to. -/
theorem drop3 (h : S64x16x16.ReducesTo [0] S16x16) (n : Fin 64) (a b : Fin 16) : h.drop (ix3 n a b) = ValueIdx.ix2 a b :=
  funext fun x => match x with | ⟨0, _⟩ => rfl | ⟨1, _⟩ => rfl
/-- The column that a pair's comparison belongs to. -/
theorem drop2 (h : S16x16.ReducesTo [0] S16) (a b : Fin 16) : h.drop (ValueIdx.ix2 a b) = ix1 b :=
  funext fun x => match x with | ⟨0, _⟩ => rfl

/-- A comparison of two arrays at a place. -/
theorem cmpi_ap {s : Shape} {w : ℕ} (p : CmpIPredicate) (x y : IVec s w) (i : s.Idx) : cmpi p x y i = IntOp.cmpi p (x i) (y i) := rfl

/-- Which columns of the mask equal which, as bits. -/
def eqBits (k : IVec S64x16 1) : IVec S16x16 1 :=
  Host.reduce IntOp.andi
    (cmpi .eq (broadcastInDim S64x16x16 ![0, 1, 2] bcast_S64x16x1_S64x16x16_0_1_2 (broadcastInDim S64x16x1 ![0, 1] bcast_S64x16_S64x16x1_0_1 k))
      (broadcastInDim S64x16x16 ![0, 1, 2] bcast_S64x1x16_S64x16x16_0_1_2 (broadcastInDim S64x1x16 ![0, 2] bcast_S64x16_S64x1x16_0_2 k)))
    (constantI S_ 1 1#1) reducesTo_S64x16x16_S16x16_d0 h_S_

/-- The host's table of equal columns is one exactly where two columns are the same. -/
theorem eqBits_iff (k : IVec S64x16 1) (a b : Fin 16) : eqBits k (ValueIdx.ix2 a b) = 1#1 ↔ Same k a b := by
  have hv (n : Fin 64) (a b : Fin 16) : cmpi .eq (broadcastInDim S64x16x16 ![0, 1, 2] bcast_S64x16x1_S64x16x16_0_1_2 (broadcastInDim S64x16x1 ![0, 1] bcast_S64x16_S64x16x1_0_1 k))
      (broadcastInDim S64x16x16 ![0, 1, 2] bcast_S64x1x16_S64x16x16_0_1_2 (broadcastInDim S64x1x16 ![0, 2] bcast_S64x16_S64x1x16_0_2 k)) (ix3 n a b) = 1#1
        ↔ k (ValueIdx.ix2 n a) = k (ValueIdx.ix2 n b) := by
    rw [cmpi_ap, broadcastInDim_apply _ bcast_S64x16x1_S64x16x16_0_1_2 _ (ix3 n a b) (ix3 n a 0) (fun x => match x with | ⟨0, _⟩ => rfl | ⟨1, _⟩ => rfl | ⟨2, _⟩ => rfl),
      broadcastInDim_apply _ bcast_S64x1x16_S64x16x16_0_1_2 _ (ix3 n a b) (ix3 n 0 b) (fun x => match x with | ⟨0, _⟩ => rfl | ⟨1, _⟩ => rfl | ⟨2, _⟩ => rfl),
      broadcastInDim_apply _ bcast_S64x16_S64x16x1_0_1 _ (ix3 n a 0) (ValueIdx.ix2 n a) (fun x => match x with | ⟨0, _⟩ => rfl | ⟨1, _⟩ => rfl),
      broadcastInDim_apply _ bcast_S64x16_S64x1x16_0_2 _ (ix3 n 0 b) (ValueIdx.ix2 n b) (fun x => match x with | ⟨0, _⟩ => rfl | ⟨1, _⟩ => rfl)]
    exact StableHlo.Predicate.cmpi_eq_iff
  refine (all_iff _ _ _ _).trans ⟨fun h n => (hv n a b).mp (h _ (drop3 _ n a b)), fun h i hi => ?_⟩
  obtain ⟨n, a', b', rfl⟩ : ∃ (n : Fin 64) (a' b' : Fin 16), i = ix3 n a' b' := ⟨i 0, i 1, i 2, eq_ix3 i⟩
  rw [drop3] at hi
  have e0 : a' = a := congrFun hi 0
  have e1 : b' = b := congrFun hi 1
  subst e0 e1
  exact (hv n a' b').mpr (h n)

/-- The first column equal to each column. -/
theorem first_spec (k : IVec S64x16 1) (c : Fin 16) : ∃ f : Fin 16,
    (Host.reduce2 reducer_argmax_i1_i32 (eqBits k) (iotaInDim S16x16 32 0) (constantI S_ 1 0#1) (constantI S_ 32 0#32) reducesTo_S16x16_S16_d0 h_S_ (ix1 c)).2 = BitVec.ofNat 32 f.val
      ∧ Same k f c ∧ ∀ a, Same k a c → f ≤ a := by
  have hiff := eqBits_iff k
  generalize eqBits k = E at hiff ⊢
  rw [Host.reduce2_eq_foldl_fiber]
  generalize hL : Host.argReduceFiber (E) (iotaInDim S16x16 32 0) reducesTo_S16x16_S16_d0 (ix1 c) = L
  have hmem : ∀ p, p ∈ L ↔ ∃ a : Fin 16, p = (E (ValueIdx.ix2 a c), BitVec.ofNat 32 a.val) := by
    intro p
    rw [← hL, Host.argReduceFiber]
    constructor
    · intro hp
      obtain ⟨n, hn, rfl⟩ := List.mem_map.mp hp
      have hd := of_decide_eq_true (List.mem_filter.mp hn).2
      generalize S16x16.rowMajor.symm n = i at hd ⊢
      obtain ⟨a, b, rfl⟩ : ∃ a b : Fin 16, i = ValueIdx.ix2 a b := ⟨i 0, i 1, eq_ix2 i⟩
      rw [drop2] at hd
      have e : b = c := congrFun hd 0
      subst e
      exact ⟨a, rfl⟩
    · rintro ⟨a, rfl⟩
      refine List.mem_map.mpr ⟨S16x16.rowMajor (ValueIdx.ix2 a c), List.mem_filter.mpr ⟨List.mem_finRange _, decide_eq_true ?_⟩, ?_⟩
      · rw [Equiv.symm_apply_apply, drop2]
      · rw [Equiv.symm_apply_apply]
        rfl
  have hs (a : Fin 16) : (BitVec.ofNat 32 a.val).toNat = a.val := by rw [BitVec.toNat_ofNat]; omega
  have hlt : ∀ p ∈ L, p.2.toNat < 2 ^ 31 := by
    intro p hp
    obtain ⟨a, rfl⟩ := (hmem p).mp hp
    show (BitVec.ofNat 32 a.val).toNat < _
    rw [hs]
    have := a.isLt
    omega
  have hcc : E (ValueIdx.ix2 c c) = 1#1 := (hiff c c).mpr fun _ => rfl
  have hcm : (E (ValueIdx.ix2 c c), BitVec.ofNat 32 c.val) ∈ L := (hmem _).mpr ⟨c, rfl⟩
  have hex : ∃ p ∈ L, p.1 = 1#1 := ⟨(E (ValueIdx.ix2 c c), BitVec.ofNat 32 c.val), hcm, hcc⟩
  obtain ⟨⟨hm, h1⟩, hmin⟩ := argmax_fold L hlt (0#1, 0#32) (lt_of_eq_of_lt (b := 0) rfl (by norm_num)) (Or.inr hex)
  change L.foldl reducer_argmax_i1_i32 (0#1, 0#32) ∈ _ at hm
  generalize hr : L.foldl reducer_argmax_i1_i32 (0#1, 0#32) = r at hm h1 hmin
  show ∃ f : Fin 16, (L.foldl reducer_argmax_i1_i32 (0#1, 0#32)).2 = _ ∧ _
  rw [hr]
  rcases List.mem_cons.mp hm with rfl | hm
  · exact absurd h1 (by decide)
  obtain ⟨f, rfl⟩ := (hmem _).mp hm
  refine ⟨f, rfl, (hiff f c).mp h1, fun a ha => ?_⟩
  have := hmin _ (List.mem_cons_of_mem _ ((hmem _).mpr ⟨a, rfl⟩)) ((hiff a c).mpr ha)
  change (BitVec.ofNat 32 f.val).toNat ≤ (BitVec.ofNat 32 a.val).toNat at this
  rw [hs, hs] at this
  exact this

/-- The first column equal to each column, chosen. -/
def fst (k : IVec S64x16 1) (c : Fin 16) : Fin 16 := (first_spec k c).choose
/-- The host's first maximum is the first column that is the same as `c`. -/
theorem fst_word (k : IVec S64x16 1) (c : Fin 16) :
    (Host.reduce2 reducer_argmax_i1_i32 (eqBits k) (iotaInDim S16x16 32 0) (constantI S_ 1 0#1) (constantI S_ 32 0#32) reducesTo_S16x16_S16_d0 h_S_ (ix1 c)).2 = BitVec.ofNat 32 (fst k c).val := by
  unfold fst
  exact (first_spec k c).choose_spec.1
/-- The first column that is the same as `c` is the same as `c`. -/
theorem fst_same (k : IVec S64x16 1) (c : Fin 16) : Same k (fst k c) c := (first_spec k c).choose_spec.2.1
/-- No column before it is the same as `c`. -/
theorem fst_le (k : IVec S64x16 1) (c a : Fin 16) (h : Same k a c) : fst k c ≤ a := (first_spec k c).choose_spec.2.2 a h
/-- The first of a first column is itself. -/
theorem fst_fst (k : IVec S64x16 1) (c : Fin 16) : fst k (fst k c) = fst k c :=
  le_antisymm (fst_le k _ _ fun _ => rfl) (fst_le k c _ fun n => (fst_same k (fst k c) n).trans (fst_same k c n))

/-- The host's first columns. -/
theorem v8_spec (W : Valuation τ sig (Elt F)) (c : Fin 16) :
    (after ops0 W (Proc.devRef .tc main_v8) : IVec S16 32) (ix1 c) = BitVec.ofNat 32 (fst (W (Proc.devRef .tc main_arg1)) c).val := by
  unfold ops0
  after_reads_simp
  simp only [TRef.toBuf, TRef.ofBuf, cast_eq]
  exact fst_word (W (Proc.devRef .tc main_arg1)) c
/-- The host's numbers of the columns. -/
theorem v0_spec (W : Valuation τ sig (Elt F)) (c : Fin 16) : (after ops0 W (Proc.devRef .tc main_v0) : IVec S16 32) (ix1 c) = BitVec.ofNat 32 c.val := by
  unfold ops0
  after_reads_simp
  rfl
/-- The host's numbers of the nodes. -/
theorem v1_spec (W : Valuation τ sig (Elt F)) (n : Fin 64) : (after ops0 W (Proc.devRef .tc main_v1) : IVec S64 32) (ix1 n) = BitVec.ofNat 32 n.val := by
  unfold ops0
  after_reads_simp
  rfl

/-- One for a column that no earlier column equals, zero for the others. -/
def isRep (k : IVec S64x16 1) (i : ℕ) : ℕ := if h : i < 16 then if fst k ⟨i, h⟩ = ⟨i, h⟩ then 1 else 0 else 0
/-- How many of the first `n` columns no earlier column equals. -/
def rank (k : IVec S64x16 1) (n : ℕ) : ℕ := ((List.range n).map (isRep k)).sum

/-- The rank one column further on. -/
theorem rank_succ (k : IVec S64x16 1) (n : ℕ) : rank k (n + 1) = rank k n + isRep k n := by
  simp [rank, List.range_succ]
/-- Ranks grow. -/
theorem rank_mono (k : IVec S64x16 1) {a b : ℕ} (h : a ≤ b) : rank k a ≤ rank k b := by
  induction b, h using Nat.le_induction with
  | base => exact le_refl _
  | succ n _ ih => rw [rank_succ]; omega
/-- A first column counts one. -/
theorem isRep_rep (k : IVec S64x16 1) (c : Fin 16) (h : fst k c = c) : isRep k c.val = 1 := by
  unfold isRep
  rw [dif_pos c.isLt, if_pos h]
/-- A column counts one at most. -/
theorem isRep_le (k : IVec S64x16 1) (n : ℕ) : isRep k n ≤ 1 := by
  unfold isRep
  split
  · split <;> omega
  · omega
/-- A rank is no more than the number of the columns before. -/
theorem rank_le (k : IVec S64x16 1) (n : ℕ) : rank k n ≤ n := by
  induction n with
  | zero => simp [rank]
  | succ n ih => rw [rank_succ]; have := isRep_le k n; omega
/-- Two first columns of the same rank are the same. -/
theorem rank_inj (k : IVec S64x16 1) (a b : Fin 16) (ha : fst k a = a) (hb : fst k b = b) (h : rank k a.val = rank k b.val) : a = b := by
  have ea := isRep_rep k a ha
  have eb := isRep_rep k b hb
  rcases lt_trichotomy a.val b.val with hl | hl | hl
  · have := rank_mono k (show a.val + 1 ≤ b.val by omega)
    rw [rank_succ] at this; omega
  · exact Fin.ext hl
  · have := rank_mono k (show b.val + 1 ≤ a.val by omega)
    rw [rank_succ] at this; omega
/-- A first column's rank is below the number of the first columns. -/
theorem rank_lt (k : IVec S64x16 1) (c : Fin 16) (h : fst k c = c) : rank k c.val < rank k 16 := by
  have e := isRep_rep k c h
  have := rank_mono k (show c.val + 1 ≤ 16 by omega)
  rw [rank_succ] at this; omega

end Cert.Proof.Pool
-- ==== Proof.Ranks.lean ====
/-
  The columns' places: how many columns no earlier column equals, and which.
-/
module

public import proofs.«01_k».proof.Proof.Cols

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- A reduction by «or» from zero is one exactly where an element it covers is. -/
theorem any_iff {s t : Shape} {axes : List (Fin s.rank)} (x : s.Idx → BitVec 1) (h : s.ReducesTo axes t) (hu : 0 < S_.numel) (j : t.Idx) :
    Host.reduce IntOp.ori x (constantI S_ 1 0#1) h hu j = 1#1 ↔ ∃ i, h.drop i = j ∧ x i = 1#1 := by
  haveI : DecidableEq s.Idx := Classical.decEq _
  rw [Host.reduce_eq_fold]
  refine (fold_ori _ x).trans ⟨fun ⟨i, hi, e⟩ => ⟨i, (Finset.mem_filter.mp hi).2, e⟩, fun ⟨i, hi, e⟩ => ⟨i, Finset.mem_filter.mpr ⟨Finset.mem_univ _, hi⟩, e⟩⟩

/-- The column that a node's bit belongs to. -/
theorem drop64 (h : S64x16.ReducesTo [0] S16) (n : Fin 64) (c : Fin 16) : h.drop (ValueIdx.ix2 n c) = ix1 c :=
  funext fun x => match x with | ⟨0, _⟩ => rfl

/-- A column's word is its number. -/
theorem ofNat16 (a : Fin 16) : (BitVec.ofNat 32 a.val).toNat = a.val := by rw [BitVec.toNat_ofNat]; omega

/-- The word one less than a positive small number. -/
theorem ofNat_pred (n : ℕ) (h : 1 ≤ n) (h' : n ≤ 16) : BitVec.ofNat 32 n - 1#32 = BitVec.ofNat 32 (n - 1) :=
  StableHlo.Predicate.sub_one_ofNat n h (by omega)

section Tables
variable (W : Valuation τ sig (Elt F)) (k : IVec S64x16 1)

/-- Whether a column is the first of those the same, as a bit. -/
theorem rep_bit (h8 : ∀ c : Fin 16, (W (Proc.devRef .tc main_v8) : IVec S16 32) (ix1 c) = BitVec.ofNat 32 (fst k c).val)
    (h0 : ∀ c : Fin 16, (W (Proc.devRef .tc main_v0) : IVec S16 32) (ix1 c) = BitVec.ofNat 32 c.val) (c : Fin 16) :
    cmpi .eq (W (Proc.devRef .tc main_v8) : IVec S16 32) (W (Proc.devRef .tc main_v0) : IVec S16 32) (ix1 c) = if fst k c = c then 1#1 else 0#1 := by
  rw [cmpi_ap, h8, h0]
  have e : IntOp.cmpi .eq (BitVec.ofNat 32 (fst k c).val) (BitVec.ofNat 32 c.val) = 1#1 ↔ fst k c = c :=
    StableHlo.Predicate.cmpi_eq_iff.trans ⟨fun h => Fin.ext (by have := congrArg BitVec.toNat h; rwa [ofNat16, ofNat16] at this), fun h => by rw [h]⟩
  split
  · exact e.mpr ‹_›
  · exact (BitVec.eq_zero_or_eq_one _).resolve_right fun h => ‹¬_› (e.mp h)

/-- The host's bits of the first columns. -/
theorem v9_spec (h8 : ∀ c : Fin 16, (W (Proc.devRef .tc main_v8) : IVec S16 32) (ix1 c) = BitVec.ofNat 32 (fst k c).val)
    (h0 : ∀ c : Fin 16, (W (Proc.devRef .tc main_v0) : IVec S16 32) (ix1 c) = BitVec.ofNat 32 c.val) (c : Fin 16) :
    (after ops1 W (Proc.devRef .tc main_v9) : IVec S16 1) (ix1 c) = if fst k c = c then 1#1 else 0#1 := by
  unfold ops1
  after_reads_simp
  exact rep_bit W k h8 h0 c

/-- The bits as words. -/
theorem ext_spec (x : IVec S16 1) (hx : ∀ c : Fin 16, x (ix1 c) = if fst k c = c then 1#1 else 0#1) (c : Fin 16) :
    extui 32 x natLt_1_32 (ix1 c) = BitVec.ofNat 32 (isRep k c.val) := by
  show (x (ix1 c)).setWidth 32 = _
  rw [hx, isRep, dif_pos c.isLt]
  split <;> rfl

/-- The host's running counts less one. -/
theorem v13_spec (h8 : ∀ c : Fin 16, (W (Proc.devRef .tc main_v8) : IVec S16 32) (ix1 c) = BitVec.ofNat 32 (fst k c).val)
    (h0 : ∀ c : Fin 16, (W (Proc.devRef .tc main_v0) : IVec S16 32) (ix1 c) = BitVec.ofNat 32 c.val) (c : Fin 16) :
    (after ops1 W (Proc.devRef .tc main_v13) : IVec S16 32) (ix1 c) = BitVec.ofNat 32 (rank k (c.val + 1)) - 1#32 := by
  have h9 := rep_bit W k h8 h0
  unfold ops1
  after_reads_simp
  simp only [TRef.toBuf, TRef.ofBuf, cast_eq]
  exact congrArg (· - 1#32) (cumsum1 (by rfl) _ (isRep k) (ext_spec k _ h9) _ rfl reduceWindows_S16_S16_w16s1p15_0 h_S_ c)

/-- The number of the distinct columns. -/
theorem v15_spec (h8 : ∀ c : Fin 16, (W (Proc.devRef .tc main_v8) : IVec S16 32) (ix1 c) = BitVec.ofNat 32 (fst k c).val)
    (h0 : ∀ c : Fin 16, (W (Proc.devRef .tc main_v0) : IVec S16 32) (ix1 c) = BitVec.ofNat 32 c.val) :
    (after ops1 W (Proc.devRef .tc main_v15) : IVec S_ 32) ix0 = BitVec.ofNat 32 (rank k 16) := by
  have h9 := rep_bit W k h8 h0
  unfold ops1
  after_reads_simp
  exact reduce_sum _ (isRep k) (ext_spec k _ h9) _ _

/-- A word below 2³¹ is no negative number, so the wrapped index is the index. -/
theorem wrap16 (x a : IVec S16 32) (hx : ∀ c : Fin 16, (x (ix1 c)).toNat < 2 ^ 31) (c : Fin 16) :
    select (cmpi .slt x (broadcastInDim S16 ![] bcast_S_S16 (constantI S_ 32 0#32))) a x (ix1 c) = x (ix1 c) := by
  show Scalar.select (IntOp.cmpi .slt (x (ix1 c)) 0#32) (a (ix1 c)) (x (ix1 c)) = _
  exact wrap_of_lt _ _ (hx c)

/-- A constant array at a place. -/
theorem bc_const (t : Shape) (h : S_.BroadcastsInDim t ![]) (b : BitVec 32) (i : t.Idx) : broadcastInDim t ![] h (constantI S_ 32 b) i = b := rfl

/-- The places of the columns among the distinct ones, or 16 for one with no node. -/
theorem v24_spec (hk : W (Proc.devRef .tc main_arg1) = k) (h8 : ∀ c : Fin 16, (W (Proc.devRef .tc main_v8) : IVec S16 32) (ix1 c) = BitVec.ofNat 32 (fst k c).val)
    (h13 : ∀ c : Fin 16, (W (Proc.devRef .tc main_v13) : IVec S16 32) (ix1 c) = BitVec.ofNat 32 (rank k (c.val + 1)) - 1#32) (c : Fin 16) :
    (after ops2 W (Proc.devRef .tc main_v24) : IVec S16 32) (ix1 c)
      = BitVec.ofNat 32 (open Classical in if ∃ n : Fin 64, k (ValueIdx.ix2 n c) = 1#1 then rank k (fst k c).val else 16) := by
  unfold ops2
  after_reads_simp
  simp only [TRef.toBuf, TRef.ofBuf, cast_eq, id]
  have hlt (c : Fin 16) : ((W (Proc.devRef .tc main_v8) : IVec S16 32) (ix1 c)).toNat < 2 ^ 31 := by rw [h8, ofNat16]; have := (fst k c).isLt; omega
  have hg := gather_take1 gather_S16_S16x1_S16_n_0_n_n_0_1_1 rfl rfl rfl rfl (W (Proc.devRef .tc main_v13) : IVec S16 32)
    (broadcastInDim S16x1 ![0] bcast_S16_S16x1_0 (select (cmpi .slt (W (Proc.devRef .tc main_v8) : IVec S16 32) (broadcastInDim S16 ![] bcast_S_S16 (constantI S_ 32 0#32)))
      (addi (W (Proc.devRef .tc main_v8) : IVec S16 32) (broadcastInDim S16 ![] bcast_S_S16 (constantI S_ 32 16#32))) (W (Proc.devRef .tc main_v8) : IVec S16 32))) c (fst k c)
    (by rw [bcCol, wrap16 _ _ hlt, h8]) (by norm_num)
  rw [h13, ofNat_pred _ (by rw [rank_succ, isRep_rep k _ (fst_fst k c)]; omega) ((rank_le k _).trans (by omega)), rank_succ, isRep_rep k _ (fst_fst k c)] at hg
  have ha := any_iff k reducesTo_S64x16_S16_d0 h_S_ (ix1 c)
  have hany : (∃ i, (reducesTo_S64x16_S16_d0).drop i = ix1 c ∧ k i = 1#1) ↔ ∃ n : Fin 64, k (ValueIdx.ix2 n c) = 1#1 := by
    constructor
    · rintro ⟨i, hi, e⟩
      obtain ⟨n, c', rfl⟩ : ∃ (n : Fin 64) (c' : Fin 16), i = ValueIdx.ix2 n c' := ⟨i 0, i 1, eq_ix2 i⟩
      rw [drop64] at hi
      have e0 : c' = c := congrFun hi 0
      exact ⟨n, e0 ▸ e⟩
    · rintro ⟨n, e⟩
      exact ⟨_, drop64 _ n c, e⟩
  rw [hk]
  show Scalar.select (Host.reduce IntOp.ori k (constantI S_ 1 0#1) reducesTo_S64x16_S16_d0 h_S_ (ix1 c)) (Host.gather _ _ _ (ix1 c)) 16#32 = _
  by_cases h : ∃ n : Fin 64, k (ValueIdx.ix2 n c) = 1#1
  · rw [ha.mpr (hany.mpr h), if_pos h]
    exact hg
  · rw [(BitVec.eq_zero_or_eq_one _).resolve_right fun e => h (hany.mp (ha.mp e)), if_neg h]
    rfl

/-- The representatives of the distinct columns, by the host's scatter. -/
theorem v33_spec (h9 : ∀ c : Fin 16, (W (Proc.devRef .tc main_v9) : IVec S16 1) (ix1 c) = if fst k c = c then 1#1 else 0#1)
    (h0 : ∀ c : Fin 16, (W (Proc.devRef .tc main_v0) : IVec S16 32) (ix1 c) = BitVec.ofNat 32 c.val)
    (h13 : ∀ c : Fin 16, (W (Proc.devRef .tc main_v13) : IVec S16 32) (ix1 c) = BitVec.ofNat 32 (rank k (c.val + 1)) - 1#32) (D : Fin 16) :
    ∃ r : Fin 16, (after ops3 W (Proc.devRef .tc main_v33) : IVec S16 32) (ix1 D) = BitVec.ofNat 32 r.val
      ∧ ∀ c : Fin 16, fst k c = c → rank k c.val = D.val → r = c := by
  unfold ops3
  after_reads_simp
  simp only [TRef.toBuf, TRef.ofBuf, cast_eq, id]
  let gi : ℕ → ℕ := fun i => if isRep k i = 1 then rank k i else 16
  have hsel (i : Fin 16) : select (W (Proc.devRef .tc main_v9) : IVec S16 1) (W (Proc.devRef .tc main_v13) : IVec S16 32)
      (broadcastInDim S16 ![] bcast_S_S16 (constantI S_ 32 16#32)) (ix1 i) = BitVec.ofNat 32 (gi i.val) := by
    show Scalar.select ((W (Proc.devRef .tc main_v9) : IVec S16 1) (ix1 i)) ((W (Proc.devRef .tc main_v13) : IVec S16 32) (ix1 i)) 16#32 = _
    rw [h9, h13]
    by_cases h : fst k i = i
    · have e := isRep_rep k i h
      rw [if_pos h, ofNat_pred _ (by rw [rank_succ, e]; omega) ((rank_le k _).trans (by omega)), rank_succ, e]
      show _ = BitVec.ofNat 32 (if isRep k i.val = 1 then _ else _)
      rw [if_pos e]
      rfl
    · have e : isRep k i.val = 0 := by unfold isRep; rw [dif_pos i.isLt, if_neg h]
      rw [if_neg h]
      show _ = BitVec.ofNat 32 (if isRep k i.val = 1 then _ else _)
      rw [if_neg (by omega)]
      rfl
  have hgi (i : Fin 16) : gi i.val ≤ 16 := by
    show (if isRep k i.val = 1 then _ else _) ≤ 16
    split
    · exact (rank_le k _).trans (by omega)
    · exact le_refl _
  have hrep (i : Fin 16) (h : gi i.val = D.val) : fst k i = i ∧ rank k i.val = D.val := by
    change (if isRep k i.val = 1 then _ else _) = D.val at h
    split at h
    · refine ⟨?_, h⟩
      rename_i e
      unfold isRep at e
      rw [dif_pos i.isLt] at e
      by_contra hn
      rw [if_neg hn] at e
      omega
    · have := D.isLt; omega
  have hidx (i : Fin 16) (a : IVec S16 32) (x : IVec S16 32) (hx : ∀ i : Fin 16, x (ix1 i) = BitVec.ofNat 32 (gi i.val)) :
      broadcastInDim S16x1 ![0] bcast_S16_S16x1_0 (select (cmpi .slt x (broadcastInDim S16 ![] bcast_S_S16 (constantI S_ 32 0#32))) a x) (ValueIdx.ix2 i (0 : Fin 1)) = BitVec.ofNat 32 (gi i.val) := by
    rw [bcCol, wrap16 x a (fun c => by rw [hx, BitVec.toNat_ofNat]; have := hgi c; omega), hx]
  have key (v : BitVec 32) := scatter_set scatter_S16_S16x1_S16_n_0_0_1 rfl rfl rfl (broadcastInDim S16 ![] bcast_S_S16 (constantI S_ 32 0#32)) _
    (W (Proc.devRef .tc main_v0) : IVec S16 32) gi (fun i => hidx i (addi (select (W (Proc.devRef .tc main_v9) : IVec S16 1) (W (Proc.devRef .tc main_v13) : IVec S16 32) (broadcastInDim S16 ![] bcast_S_S16 (constantI S_ 32 16#32))) (broadcastInDim S16 ![] bcast_S_S16 (constantI S_ 32 16#32))) _ hsel) (fun i => by have := hgi i; omega) D v
  by_cases hex : ∃ c : Fin 16, fst k c = c ∧ rank k c.val = D.val
  · obtain ⟨c, hc, hr⟩ := hex
    have hu (i : Fin 16) (h : gi i.val = D.val) : i = c := rank_inj k i c (hrep i h).1 hc ((hrep i h).2.trans hr.symm)
    refine ⟨c, (key (BitVec.ofNat 32 c.val) fun i h => by rw [h0, hu i h]).1 ⟨c, ?_⟩, fun c' hc' hr' => rank_inj k c c' hc hc' (hr.trans hr'.symm)⟩
    show (if isRep k c.val = 1 then _ else _) = D.val
    rw [if_pos (isRep_rep k c hc), hr]
  · exact ⟨0, (key 0#32 fun i h => absurd ⟨i, hrep i h⟩ hex).2 fun i h => hex ⟨i, hrep i h⟩, fun c hc hr => absurd ⟨c, hc, hr⟩ hex⟩

end Tables

end Cert.Proof.Pool
-- ==== Proof.Nodes.lean ====
/-
  The columns' nodes: their order, their count and the list the kernel reads.
-/
module

public import proofs.«01_k».proof.Proof.Ranks

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- That a node is in a column of the mask. -/
def In (k : IVec S64x16 1) (c : Fin 16) (n : ℕ) : Prop := ∃ h : n < 64, k (ValueIdx.ix2 ⟨n, h⟩ c) = 1#1
open Classical in
/-- How many nodes a column of the mask has. -/
def cnt (k : IVec S64x16 1) (c : Fin 16) : ℕ := Nat.count (In k c) 64
/-- The key by which a column's nodes are sorted: the nodes of the column before the others. -/
def keyW (k : IVec S64x16 1) (c : Fin 16) (n : Fin 64) : BitVec 32 := Scalar.select (k (ValueIdx.ix2 n c)) 0#32 1#32 * 64#32 + BitVec.ofNat 32 n.val
/-- The order of a column's nodes. -/
def ord (k : IVec S64x16 1) (c : Fin 16) (p : Fin 64) : Fin 64 :=
  sortedFrom (fun a b => comparator_i32_i32_d1 (keyW k c a, BitVec.ofNat 32 a.val) (keyW k c b, BitVec.ofNat 32 b.val) == 1#1) p
/-- The place a list of `n` nodes is read at for place `j`, the last place serving for those past it. -/
def upto16 (n : ℕ) (j : Fin 64) : Fin 64 := ⟨min j.val (n - 1), lt_of_le_of_lt (min_le_left _ _) j.isLt⟩

/-- A column has 64 nodes at most. -/
theorem cnt_le (k : IVec S64x16 1) (c : Fin 16) : cnt k c ≤ 64 := by
  classical
  unfold cnt
  exact Nat.count_le _

/-- The row that a sort runs along. -/
theorem along_ap (D : Fin 16) (p q : Fin 64) : Shape.Idx.along (s := S16x64) (ValueIdx.ix2 D p) 1 q = ValueIdx.ix2 D q := by
  funext x
  match x with
  | ⟨0, _⟩ => rfl
  | ⟨1, _⟩ => rfl

/-- The places a sort of a row by its keys brings along. -/
theorem sort_ap (K : IVec S16x64 32) (Kd : Fin 64 → BitVec 32) (D : Fin 16) (hK : ∀ n : Fin 64, K (ValueIdx.ix2 D n) = Kd n) (p : Fin 64) :
    (Host.sort2 S16x64 1 comparator_i32_i32_d1 K (iotaInDim S16x64 32 1)).2 (ValueIdx.ix2 D p)
      = BitVec.ofNat 32 (sortedFrom (fun a b => comparator_i32_i32_d1 (Kd a, BitVec.ofNat 32 a.val) (Kd b, BitVec.ofNat 32 b.val) == 1#1) p).val := by
  refine (congrArg (iotaInDim S16x64 32 1) (along_ap D p (sortedFrom (fun a b => comparator_i32_i32_d1
    (K (Shape.Idx.along (s := S16x64) (ValueIdx.ix2 D p) 1 a), iotaInDim S16x64 32 1 (Shape.Idx.along (s := S16x64) (ValueIdx.ix2 D p) 1 a))
    (K (Shape.Idx.along (s := S16x64) (ValueIdx.ix2 D p) 1 b), iotaInDim S16x64 32 1 (Shape.Idx.along (s := S16x64) (ValueIdx.ix2 D p) 1 b)) == 1#1) p))).trans ?_
  refine congrArg (fun f : Fin 64 → Fin 64 → Bool => BitVec.ofNat 32 (sortedFrom f p).val) (funext fun a => funext fun b => ?_)
  have ha := congrArg (fun i => (K i, iotaInDim S16x64 32 1 i)) (along_ap D p a)
  have hb := congrArg (fun i => (K i, iotaInDim S16x64 32 1 i)) (along_ap D p b)
  refine (congrArg₂ (fun u v => comparator_i32_i32_d1 u v == 1#1) ha hb).trans ?_
  show (comparator_i32_i32_d1 (K (ValueIdx.ix2 D a), BitVec.ofNat 32 a.val) (K (ValueIdx.ix2 D b), BitVec.ofNat 32 b.val) == 1#1) = _
  rw [hK, hK]

section Tables
variable (W : Valuation τ sig (Elt F)) (k : IVec S64x16 1) (ρ : Fin 16 → Fin 16)

/-- The distinct columns of the mask, as rows. -/
theorem mrep (hk : W (Proc.devRef .tc main_arg1) = k) (h33 : ∀ D : Fin 16, (W (Proc.devRef .tc main_v33) : IVec S16 32) (ix1 D) = BitVec.ofNat 32 (ρ D).val)
    (D : Fin 16) (n : Fin 64) : (after ops4 W (Proc.devRef .tc main_v41) : IVec S16x64 1) (ValueIdx.ix2 D n) = k (ValueIdx.ix2 n (ρ D)) := by
  unfold ops4
  after_reads_simp
  rw [hk]
  have hlt (c : Fin 16) : ((W (Proc.devRef .tc main_v33) : IVec S16 32) (ix1 c)).toNat < 2 ^ 31 := by rw [h33, ofNat16]; have := (ρ c).isLt; omega
  exact (gather_row gather_S16x64_S16x1_S16x64_1_0_n_n_0_1_164 rfl rfl rfl rfl rfl (transpose S16x64 [1, 0] k transposes_S64x16_S16x64_1_0) _ D n (ρ D)
    (by rw [bcCol, wrap16 _ _ hlt, h33]) (by norm_num)).trans (transpose_apply _ k _ _ _ fun c => match c with | ⟨0, _⟩ => rfl | ⟨1, _⟩ => rfl)

/-- The numbers of their nodes. -/
theorem v43_spec (hk : W (Proc.devRef .tc main_arg1) = k) (h33 : ∀ D : Fin 16, (W (Proc.devRef .tc main_v33) : IVec S16 32) (ix1 D) = BitVec.ofNat 32 (ρ D).val)
    (D : Fin 16) : (after ops4 W (Proc.devRef .tc main_v43) : IVec S16 32) (ix1 D) = BitVec.ofNat 32 (cnt k (ρ D)) := by
  have hm := mrep W k ρ hk h33 D
  classical
  have e : (after ops4 W (Proc.devRef .tc main_v43) : IVec S16 32)
      = Host.reduce IntOp.addi (extui 32 (after ops4 W (Proc.devRef .tc main_v41) : IVec S16x64 1) natLt_1_32) (constantI S_ 32 0#32) reducesTo_S16x64_S16_d1 h_S_ := by
    unfold ops4
    after_reads_simp
  rw [e]
  generalize (after ops4 W (Proc.devRef .tc main_v41) : IVec S16x64 1) = m at hm
  rw [reduce_count (by norm_num) m natLt_1_32 reducesTo_S16x64_S16_d1 h_S_ D (In k (ρ D)) fun q => by
    rw [hm]
    exact ⟨fun h => ⟨q.isLt, h⟩, fun ⟨_, h⟩ => h⟩]
  unfold cnt
  congr

/-- The order of their nodes. -/
theorem v51_spec (h41 : ∀ (D : Fin 16) (n : Fin 64), (W (Proc.devRef .tc main_v41) : IVec S16x64 1) (ValueIdx.ix2 D n) = k (ValueIdx.ix2 n (ρ D)))
    (h1 : ∀ n : Fin 64, (W (Proc.devRef .tc main_v1) : IVec S64 32) (ix1 n) = BitVec.ofNat 32 n.val)
    (h13 : W (Proc.devRef .tc main_c_13) = constantI S_ 32 0#32) (h14 : W (Proc.devRef .tc main_c_14) = constantI S_ 32 1#32) (D : Fin 16) (p : Fin 64) :
    (after ops6 W (Proc.devRef .tc main_v51) : IVec S16x64 32) (ValueIdx.ix2 D p) = BitVec.ofNat 32 (ord k (ρ D) p).val := by
  unfold ops6
  after_reads_simp
  simp only [TRef.toBuf, TRef.ofBuf, cast_eq, id]
  rw [h13, h14]
  generalize hK : addi (muli (select _ _ _) _) _ = K
  have hKv (n : Fin 64) : K (ValueIdx.ix2 D n) = keyW k (ρ D) n := by
    rw [← hK]
    show IntOp.addi (IntOp.muli (Scalar.select ((W (Proc.devRef .tc main_v41) : IVec S16x64 1) (ValueIdx.ix2 D n)) 0#32 1#32) 64#32) ((_ : IVec S16x64 32) (ValueIdx.ix2 D n)) = _
    rw [broadcastInDim_apply _ bcast_S1x64_S16x64_0_1 _ (ValueIdx.ix2 D n) (ValueIdx.ix2 0 n) (fun x => match x with | ⟨0, _⟩ => rfl | ⟨1, _⟩ => rfl),
      broadcastInDim_apply _ bcast_S64_S1x64_1 _ (ValueIdx.ix2 0 n) (ix1 n) (fun x => match x with | ⟨0, _⟩ => rfl), h41, h1]
    rfl
  exact sort_ap K (keyW k (ρ D)) D hKv p

end Tables

end Cert.Proof.Pool
-- ==== Proof.Lists.lean ====
/-
  The lists of the columns' nodes and the numbers of their blocks.
-/
module

public import Idealize.ShloMosaic.Lib.Routing.Words
public import Idealize.ShloMosaic.Lib.WordArith
public import proofs.«01_k».proof.Proof.Nodes

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- A take along the rows: the entry of row `D` at the place the index holds. -/
theorem take_along {α : Type} (x : S16x64.Idx → α) (idx : IVec S16x64x1 32) (D : Fin 16) (j q : Fin 64) (hq : idx (ix3 D j (0 : Fin 1)) = BitVec.ofNat 32 q.val) :
    Host.gather gather_S16x64_S16x64x1_S16x64_n_1_0_0_1_2_11 x idx (ValueIdx.ix2 D j) = x (ValueIdx.ix2 D q) := by
  unfold Host.gather
  refine congrArg x (funext fun a => Fin.ext ?_)
  match a with
  | ⟨0, _⟩ => show 0 + D.val + 0 = D.val; omega
  | ⟨1, _⟩ =>
    have e : GatherDims.siIdx gather_S16x64_S16x64x1_S16x64_n_1_0_0_1_2_11 (ValueIdx.ix2 D j) ⟨0, by decide⟩ = ix3 D j (0 : Fin 1) := by
      funext b
      match b with
      | ⟨0, _⟩ => rfl
      | ⟨1, _⟩ => rfl
      | ⟨2, _⟩ => rfl
    show min (idx (GatherDims.siIdx gather_S16x64_S16x64x1_S16x64_n_1_0_0_1_2_11 (ValueIdx.ix2 D j) ⟨0, by decide⟩)).toInt.toNat 63 + 0 + 0 = q.val
    rw [e, hq, StableHlo.Predicate.toInt_ofNat_small _ (by omega)]
    have := q.isLt
    omega

/-- A take along the last axis of sixteen blocks each. -/
theorem take_last {α : Type} (x : S16x4x16.Idx → α) (idx : IVec S16x16x1 32) (D : Fin 16) (b : Fin 4) (s l q : Fin 16) (hq : idx (ix3 s l (0 : Fin 1)) = BitVec.ofNat 32 q.val) :
    Host.gather gather_S16x4x16_S16x16x1_S16x4x16x16_01_2_n_n_2_2_1641 x idx (ix4 D b s l) = x (ix3 D b q) := by
  unfold Host.gather
  refine congrArg x (funext fun a => Fin.ext ?_)
  match a with
  | ⟨0, _⟩ => show 0 + 0 + D.val = D.val; omega
  | ⟨1, _⟩ => show 0 + 0 + b.val = b.val; omega
  | ⟨2, _⟩ =>
    have e : GatherDims.siIdx gather_S16x4x16_S16x16x1_S16x4x16x16_01_2_n_n_2_2_1641 (ix4 D b s l) ⟨0, by decide⟩ = ix3 s l (0 : Fin 1) := by
      funext b
      match b with
      | ⟨0, _⟩ => rfl
      | ⟨1, _⟩ => rfl
      | ⟨2, _⟩ => rfl
    show min (idx (GatherDims.siIdx gather_S16x4x16_S16x16x1_S16x4x16x16_01_2_n_n_2_2_1641 (ix4 D b s l) ⟨0, by decide⟩)).toInt.toNat 15 + 0 + 0 = q.val
    rw [e, hq, StableHlo.Predicate.toInt_ofNat_small _ (by omega)]
    have := q.isLt
    omega

/-- A node's word is its number. -/
theorem ofNat64 (a : Fin 64) : (BitVec.ofNat 32 a.val).toNat = a.val := by rw [BitVec.toNat_ofNat]; omega

/-- The lesser of two small words. -/
theorem minsi_small (a b : ℕ) (ha : a < 2 ^ 31) (hb : b < 2 ^ 31) : IntOp.minsi (BitVec.ofNat 32 a) (BitVec.ofNat 32 b) = BitVec.ofNat 32 (min a b) := by
  have ea : (BitVec.ofNat 32 a).toNat = a := by rw [BitVec.toNat_ofNat]; omega
  have eb : (BitVec.ofNat 32 b).toNat = b := by rw [BitVec.toNat_ofNat]; omega
  apply BitVec.eq_of_toNat_eq
  rw [Idealize.ShloMosaic.WordArith.toNat_minsi_of_lt _ _ (by omega) (by omega), ea, eb, BitVec.toNat_ofNat]
  omega

/-- The index table of a take along the rows, from the places. -/
def takeIdx (P : IVec S16x64 32) : IVec S16x64x1 32 :=
  shapeCast S16x64x1 (select (cmpi .slt P (broadcastInDim S16x64 ![] bcast_S_S16x64 (constantI S_ 32 0#32))) (addi P (broadcastInDim S16x64 ![] bcast_S_S16x64 (constantI S_ 32 64#32))) P) shapeCasts_S16x64_S16x64x1
/-- Where that table is in range. -/
def takeOk (P : IVec S16x64 32) : IVec S16x64 1 :=
  Host.reduce IntOp.andi (andi (cmpi .sge (takeIdx P) (broadcastInDim S16x64x1 ![] bcast_S_S16x64x1 (constantI S_ 32 0#32)))
    (cmpi .sle (takeIdx P) (broadcastInDim S16x64x1 ![0, 1, 2] bcast_S1x1x1_S16x64x1_0_1_2 (broadcastInDim S1x1x1 ![2] bcast_S1_S1x1x1_2 (constantI S1 32 63#32))))) (constantI S_ 1 1#1) reducesTo_S16x64x1_S16x64_d2 h_S_
/-- The take along the rows, with a filling word where the table is out of range. -/
def taken (P x : IVec S16x64 32) : IVec S16x64 32 :=
  select (takeOk P) (Host.gather gather_S16x64_S16x64x1_S16x64_n_1_0_0_1_2_11 x (takeIdx P)) (broadcastInDim S16x64 ![] bcast_S_S16x64 (constantI S_ 32 2147483648#32))

/-- The row-wise take at an index in range. -/
theorem taken_ap (P x : IVec S16x64 32) (g : Fin 16 → Fin 64 → Fin 64) (hp : ∀ D j, P (ValueIdx.ix2 D j) = BitVec.ofNat 32 (g D j).val) (D : Fin 16) (j : Fin 64) :
    taken P x (ValueIdx.ix2 D j) = x (ValueIdx.ix2 D (g D j)) := by
  have hQ (D : Fin 16) (j : Fin 64) : takeIdx P (ix3 D j (0 : Fin 1)) = BitVec.ofNat 32 (g D j).val := by
    refine (shapeCast_apply _ shapeCasts_S16x64_S16x64x1 (ix3 D j (0 : Fin 1)) (ValueIdx.ix2 D j) (by rw [Shape.rowMajor_val_three, Shape.rowMajor_val_two]; show D.val * 64 + j.val = (D.val * 64 + j.val) * 1 + 0; omega)).trans ?_
    show Scalar.select (IntOp.cmpi .slt (P (ValueIdx.ix2 D j)) 0#32) _ (P (ValueIdx.ix2 D j)) = _
    rw [hp]
    exact wrap_of_lt _ _ (by rw [ofNat64]; have := (g D j).isLt; omega)
  have hall : takeOk P (ValueIdx.ix2 D j) = 1#1 := by
    refine Host.reduce_andi_one _ _ _ _ _ rfl fun i => ?_
    obtain ⟨a, b, c, rfl⟩ : ∃ (a : Fin 16) (b : Fin 64) (c : Fin 1), i = ix3 a b c := ⟨i 0, i 1, i 2, eq_ix3 i⟩
    have hc : c = 0 := Subsingleton.elim _ _
    subst hc
    show IntOp.andi (IntOp.cmpi .sge (takeIdx P (ix3 a b (0 : Fin 1))) 0#32) (IntOp.cmpi .sle (takeIdx P (ix3 a b (0 : Fin 1))) 63#32) = 1#1
    have hl := ofNat64 (g a b)
    have hlt := (g a b).isLt
    rw [hQ, (StableHlo.Predicate.sge_iff_toNat (by omega) (by decide)).mpr (by simp), (StableHlo.Predicate.sle_iff_toNat (by omega) (by decide)).mpr (by rw [hl]; show _ ≤ 63; omega)]
    rfl
  show Scalar.select (takeOk P (ValueIdx.ix2 D j)) (Host.gather _ _ _ (ValueIdx.ix2 D j)) _ = _
  rw [hall]
  exact take_along x _ D j _ (hQ D j)

section Tables
variable (W : Valuation τ sig (Elt F)) (C : Fin 16 → ℕ) (hC : ∀ D, C D ≤ 64)
include hC

/-- The places of the lists as one index table. -/
theorem place_spec (h43 : ∀ D : Fin 16, (W (Proc.devRef .tc main_v43) : IVec S16 32) (ix1 D) = BitVec.ofNat 32 (C D))
    (h1 : ∀ n : Fin 64, (W (Proc.devRef .tc main_v1) : IVec S64 32) (ix1 n) = BitVec.ofNat 32 n.val) (D : Fin 16) (j : Fin 64) :
    (after ops7 W (Proc.devRef .tc main_v60) : IVec S16x64 32) (ValueIdx.ix2 D j) = BitVec.ofNat 32 (upto16 (C D) j).val := by
  unfold ops7
  after_reads_simp
  show IntOp.minsi ((_ : IVec S16x64 32) (ValueIdx.ix2 D j)) ((_ : IVec S16x64 32) (ValueIdx.ix2 D j)) = _
  rw [broadcastInDim_apply _ bcast_S1x64_S16x64_0_1 _ (ValueIdx.ix2 D j) (ValueIdx.ix2 0 j) (fun x => match x with | ⟨0, _⟩ => rfl | ⟨1, _⟩ => rfl),
    broadcastInDim_apply _ bcast_S64_S1x64_1 _ (ValueIdx.ix2 0 j) (ix1 j) (fun x => match x with | ⟨0, _⟩ => rfl), h1,
    broadcastInDim_apply _ bcast_S16x1_S16x64_0_1 _ (ValueIdx.ix2 D j) (ValueIdx.ix2 D 0) (fun x => match x with | ⟨0, _⟩ => rfl | ⟨1, _⟩ => rfl)]
  show IntOp.minsi _ (IntOp.maxsi ((_ : IVec S16x1 32) (ValueIdx.ix2 D 0) - 1#32) 0#32) = _
  rw [bcCol, h43, maxsi_pred (by have := hC D; omega), minsi_small _ _ (by omega) (by have := hC D; omega)]
  rfl

/-- The columns' padded lists of nodes. -/
theorem v61_spec (h43 : ∀ D : Fin 16, (W (Proc.devRef .tc main_v43) : IVec S16 32) (ix1 D) = BitVec.ofNat 32 (C D))
    (h1 : ∀ n : Fin 64, (W (Proc.devRef .tc main_v1) : IVec S64 32) (ix1 n) = BitVec.ofNat 32 n.val) (o : Fin 16 → Fin 64 → Fin 64)
    (h51 : ∀ (D : Fin 16) (p : Fin 64), (W (Proc.devRef .tc main_v51) : IVec S16x64 32) (ValueIdx.ix2 D p) = BitVec.ofNat 32 (o D p).val) (D : Fin 16) (j : Fin 64) :
    (after ops7 W (Proc.devRef .tc main_v61) : IVec S16x64 32) (ValueIdx.ix2 D j) = BitVec.ofNat 32 (o D (upto16 (C D) j)).val := by
  have e : (after ops7 W (Proc.devRef .tc main_v61) : IVec S16x64 32) = taken (after ops7 W (Proc.devRef .tc main_v60)) (W (Proc.devRef .tc main_v51)) := by
    unfold ops7
    after_reads_simp
    simp only [TRef.toBuf, TRef.ofBuf, cast_eq, id]
    rfl
  rw [e, taken_ap _ _ (fun D j => upto16 (C D) j) (place_spec W C hC h43 h1), h51]

/-- The numbers of the columns' blocks, one at least. -/
theorem v66_spec (h43 : ∀ D : Fin 16, (W (Proc.devRef .tc main_v43) : IVec S16 32) (ix1 D) = BitVec.ofNat 32 (C D)) (D : Fin 16) :
    (after ops8 W (Proc.devRef .tc main_v66) : IVec S16 32) (ix1 D) = BitVec.ofNat 32 (max ((C D + 15) / 16) 1) := by
  unfold ops8
  after_reads_simp
  simp only [TRef.toBuf, TRef.ofBuf, cast_eq, id]
  have hc := hC D
  have hd := pyDiv_ap bcast_S_S16 (addi (W (Proc.devRef .tc main_v43) : IVec S16 32) (broadcastInDim S16 ![] bcast_S_S16 (constantI S_ 32 15#32))) (constantI S_ 32 16#32) (ix1 D)
    (a := C D + 15) (b := 16) (by
      show IntOp.addi ((W (Proc.devRef .tc main_v43) : IVec S16 32) (ix1 D)) 15#32 = _
      rw [h43, BitVec.ofNat_add]
      rfl) rfl (by omega) (by norm_num) (by norm_num)
  refine (congrArg (fun w => IntOp.maxsi w 1#32) hd).trans ?_
  have hlt : (C D + 15) / 16 ≤ 4 := by omega
  generalize (C D + 15) / 16 = x at hlt
  interval_cases x <;> decide

end Tables

/-- Lane `l` of the list rotated by `s`. -/
def rot (s l : Fin 16) : Fin 16 := ⟨(s.val + l.val) % 16, Nat.mod_lt _ (by norm_num)⟩

/-- The table of rotations. -/
theorem v74_spec (W : Valuation τ sig (Elt F)) (s l : Fin 16) :
    (after ops9 W (Proc.devRef .tc main_v74) : IVec S16x16 32) (ValueIdx.ix2 s l) = BitVec.ofNat 32 (rot s l).val := by
  unfold ops9
  after_reads_simp
  simp only [TRef.toBuf, TRef.ofBuf, cast_eq, id]
  have hs := s.isLt
  have hl := l.isLt
  refine (pyRem_ap bcast_S_S16x16 _ (constantI S_ 32 16#32) (ValueIdx.ix2 s l) (a := s.val + l.val) (b := 16) ?_ rfl (by omega) (by norm_num) (by norm_num)).trans rfl
  show IntOp.addi ((_ : IVec S16x16 32) (ValueIdx.ix2 s l)) ((_ : IVec S16x16 32) (ValueIdx.ix2 s l)) = _
  rw [broadcastInDim_apply _ bcast_S16x1_S16x16_0_1 _ (ValueIdx.ix2 s l) (ValueIdx.ix2 s 0) (fun x => match x with | ⟨0, _⟩ => rfl | ⟨1, _⟩ => rfl),
    broadcastInDim_apply _ bcast_S1x16_S16x16_0_1 _ (ValueIdx.ix2 s l) (ValueIdx.ix2 0 l) (fun x => match x with | ⟨0, _⟩ => rfl | ⟨1, _⟩ => rfl),
    broadcastInDim_apply _ bcast_S16_S16x1_0 _ (ValueIdx.ix2 s 0) (ix1 s) (fun x => match x with | ⟨0, _⟩ => rfl),
    broadcastInDim_apply _ bcast_S16_S1x16_1 _ (ValueIdx.ix2 0 l) (ix1 l) (fun x => match x with | ⟨0, _⟩ => rfl), BitVec.ofNat_add]
  rfl

/-- The rotated blocks from the lists and the rotations. -/
def rotated (x : IVec S16x64 32) (r : IVec S16x16 32) : IVec S16384 32 :=
  shapeCast S16384 (Host.gather gather_S16x4x16_S16x16x1_S16x4x16x16_01_2_n_n_2_2_1641 (shapeCast S16x4x16 x shapeCasts_S16x64_S16x4x16)
    (broadcastInDim S16x16x1 ![0, 1] bcast_S16x16_S16x16x1_0_1 (select (cmpi .slt r (broadcastInDim S16x16 ![] bcast_S_S16x16 (constantI S_ 32 0#32))) (addi r (broadcastInDim S16x16 ![] bcast_S_S16x16 (constantI S_ 32 16#32))) r)))
    shapeCasts_S16x4x16x16_S16384

/-- The first table holds the lists, each block rotated for the sixteen lanes. -/
theorem v82_spec (W : Valuation τ sig (Elt F)) (D : Fin 16) (b : Fin 4) (s l : Fin 16) (q : Fin 16384) (hq : q.val = ((D.val * 4 + b.val) * 16 + s.val) * 16 + l.val)
    (j : Fin 64) (hj : j.val = b.val * 16 + (s.val + l.val) % 16) :
    (after ops9 W (Proc.devRef .tc main_v82) : IVec S16384 32) (ix1 q) = (W (Proc.devRef .tc main_v61) : IVec S16x64 32) (ValueIdx.ix2 D j) := by
  have hr := v74_spec W
  have e : (after ops9 W (Proc.devRef .tc main_v82) : IVec S16384 32) = rotated (W (Proc.devRef .tc main_v61)) (after ops9 W (Proc.devRef .tc main_v74)) := by
    unfold ops9
    after_reads_simp
    simp only [TRef.toBuf, TRef.ofBuf, cast_eq, id]
    rfl
  rw [e]
  generalize (after ops9 W (Proc.devRef .tc main_v74) : IVec S16x16 32) = r at hr
  refine (shapeCast_apply _ shapeCasts_S16x4x16x16_S16384 (ix1 q) (ix4 D b s l) (by rw [Shape.rowMajor_val_four, Shape.rowMajor_val_one]; exact hq.symm)).trans ?_
  refine (take_last _ _ D b s l (rot s l) ?_).trans ?_
  · rw [broadcastInDim_apply _ bcast_S16x16_S16x16x1_0_1 _ (ix3 s l (0 : Fin 1)) (ValueIdx.ix2 s l) (fun x => match x with | ⟨0, _⟩ => rfl | ⟨1, _⟩ => rfl)]
    show Scalar.select (IntOp.cmpi .slt (r (ValueIdx.ix2 s l)) 0#32) _ (r (ValueIdx.ix2 s l)) = _
    rw [hr]
    exact wrap_of_lt _ _ (by rw [ofNat16]; have := (rot s l).isLt; omega)
  · exact shapeCast_apply _ shapeCasts_S16x64_S16x4x16 (ix3 D b (rot s l)) (ValueIdx.ix2 D j) (by
      rw [Shape.rowMajor_val_three, Shape.rowMajor_val_two]
      show D.val * 64 + j.val = (D.val * 4 + b.val) * 16 + (s.val + l.val) % 16
      omega)

/-- The second table from its three parts. -/
def joined (x n : IVec S16 32) (t : IVec S256 32) : IVec S288 32 :=
  concatenate S288 0 [⟨S16, x⟩, ⟨S16, n⟩, ⟨S256, t⟩] concatenates_S16_S16_S256_S288_d0

/-- The second table is made of its three parts. -/
theorem v86_eq (W : Valuation τ sig (Elt F)) :
    (after ops10 W (Proc.devRef .tc main_v86) : IVec S288 32) = joined (W (Proc.devRef .tc main_v24)) (broadcastInDim S16 ![] bcast_S_S16 (W (Proc.devRef .tc main_v15) : IVec S_ 32))
      (shapeCast S256 (broadcastInDim S16x16 ![0] bcast_S16_S16x16_0 (W (Proc.devRef .tc main_v66) : IVec S16 32)) shapeCasts_S16x16_S256) := by
  unfold ops10
  after_reads_simp
  rfl

/-- Its first part is the places of the columns. -/
theorem v86_pos (W : Valuation τ sig (Elt F)) (c : Fin 16) (q : Fin 288) (hq : q.val = c.val) :
    (after ops10 W (Proc.devRef .tc main_v86) : IVec S288 32) (ix1 q) = (W (Proc.devRef .tc main_v24) : IVec S16 32) (ix1 c) := by
  rw [v86_eq]
  exact concatenate_apply_piece 0 [⟨S16, _⟩, ⟨S16, _⟩, ⟨S256, _⟩] concatenates_S16_S16_S256_S288_d0 (ix1 q) 0 (Nat.succ_pos 2) S16 _ rfl rfl 0 rfl (ix1 c) (fun b hb => match b with | ⟨0, _⟩ => absurd rfl hb) (by show 0 + c.val = q.val; omega)
/-- Its second is the number of the distinct columns. -/
theorem v86_num (W : Valuation τ sig (Elt F)) (c : Fin 16) (q : Fin 288) (hq : q.val = 16 + c.val) :
    (after ops10 W (Proc.devRef .tc main_v86) : IVec S288 32) (ix1 q) = (W (Proc.devRef .tc main_v15) : IVec S_ 32) ix0 := by
  rw [v86_eq]
  refine (concatenate_apply_piece 0 [⟨S16, _⟩, ⟨S16, _⟩, ⟨S256, _⟩] concatenates_S16_S16_S256_S288_d0 (ix1 q) 1 (Nat.succ_lt_succ (Nat.succ_pos 1)) S16 _ rfl rfl 16 rfl (ix1 c) (fun b hb => match b with | ⟨0, _⟩ => absurd rfl hb) (by show 16 + c.val = q.val; omega)).trans ?_
  exact congrArg (W (Proc.devRef .tc main_v15) : IVec S_ 32) (eq_ix0 _)
/-- Its third is the numbers of blocks, sixteen times each. -/
theorem v86_td (W : Valuation τ sig (Elt F)) (D l : Fin 16) (q : Fin 288) (hq : q.val = 32 + 16 * D.val + l.val) :
    (after ops10 W (Proc.devRef .tc main_v86) : IVec S288 32) (ix1 q) = (W (Proc.devRef .tc main_v66) : IVec S16 32) (ix1 D) := by
  rw [v86_eq]
  have hp : D.val * 16 + l.val < 256 := by have := D.isLt; have := l.isLt; omega
  refine (concatenate_apply_piece 0 [⟨S16, _⟩, ⟨S16, _⟩, ⟨S256, _⟩] concatenates_S16_S16_S256_S288_d0 (ix1 q) 2 (Nat.lt_succ_self 2) S256 _ rfl rfl 32 rfl (ix1 ⟨D.val * 16 + l.val, hp⟩) (fun b hb => match b with | ⟨0, _⟩ => absurd rfl hb) (by show 32 + (D.val * 16 + l.val) = q.val; omega)).trans ?_
  refine (shapeCast_apply _ shapeCasts_S16x16_S256 (ix1 ⟨D.val * 16 + l.val, hp⟩) (ValueIdx.ix2 D l) (by rw [Shape.rowMajor_val_two, Shape.rowMajor_val_one]; rfl)).trans ?_
  exact broadcastInDim_apply _ bcast_S16_S16x16_0 _ (ValueIdx.ix2 D l) (ix1 D) (fun x => match x with | ⟨0, _⟩ => rfl)

end Cert.Proof.Pool
-- ==== Proof.Tables.lean ====
/-
  What the host's operations leave in the two tables.
-/
module

public import proofs.«01_k».proof.Proof.Lists

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Chain
variable {F : FTy → Type} [FloatOps F]

/-- Two lists of operations, one after the other. -/
theorem after_cat {Val : EltTy → Type} (a b : List (HloOp τ sig Val)) (V : Valuation τ sig Val) : after (a ++ b) V = after b (after a V) := by
  induction a generalizing V with
  | nil => rfl
  | cons op l ih => exact ih _

/-- The operations leave the buffer `b` as it was. -/
def Keeps (ops : List (HloOp τ sig (Elt F))) (b : Ref sig .tc) : Prop := ∀ W : Valuation τ sig (Elt F), after ops W (Proc.devRef .tc b) = W (Proc.devRef .tc b)

/-- Two lists of operations that both leave a buffer alone leave it alone together. -/
theorem Keeps.cat {a b : List (HloOp τ sig (Elt F))} {r : Ref sig .tc} (ha : Keeps a r) (hb : Keeps b r) : Keeps (a ++ b) r :=
  fun W => (congrFun (after_cat a b W) _).trans ((hb _).trans (ha W))

/-- What window 0 of the host's operations leaves alone. -/
theorem keep0 : Keeps (F := F) ops0 main_arg0 ∧ Keeps (F := F) ops0 main_arg1 := by
  unfold ops0
  refine ⟨?_, ?_⟩ <;> (intro W; after_reads_simp)
/-- What window 1 of the host's operations leaves alone. -/
theorem keep1 : Keeps (F := F) ops1 main_arg0 ∧ Keeps (F := F) ops1 main_arg1 ∧ Keeps (F := F) ops1 main_v0 ∧ Keeps (F := F) ops1 main_v1 ∧ Keeps (F := F) ops1 main_v8 := by
  unfold ops1
  refine ⟨?_, ?_, ?_, ?_, ?_⟩ <;> (intro W; after_reads_simp)
/-- What window 2 of the host's operations leaves alone. -/
theorem keep2 : Keeps (F := F) ops2 main_arg0 ∧ Keeps (F := F) ops2 main_arg1 ∧ Keeps (F := F) ops2 main_v0 ∧ Keeps (F := F) ops2 main_v1 ∧ Keeps (F := F) ops2 main_v9 ∧ Keeps (F := F) ops2 main_v13 ∧ Keeps (F := F) ops2 main_v15 := by
  unfold ops2
  refine ⟨?_, ?_, ?_, ?_, ?_, ?_, ?_⟩ <;> (intro W; after_reads_simp)
/-- What window 3 of the host's operations leaves alone. -/
theorem keep3 : Keeps (F := F) ops3 main_arg0 ∧ Keeps (F := F) ops3 main_arg1 ∧ Keeps (F := F) ops3 main_v1 ∧ Keeps (F := F) ops3 main_v15 ∧ Keeps (F := F) ops3 main_v24 := by
  unfold ops3
  refine ⟨?_, ?_, ?_, ?_, ?_⟩ <;> (intro W; after_reads_simp)
/-- What window 4 of the host's operations leaves alone. -/
theorem keep4 : Keeps (F := F) ops4 main_arg0 ∧ Keeps (F := F) ops4 main_arg1 ∧ Keeps (F := F) ops4 main_v1 ∧ Keeps (F := F) ops4 main_v15 ∧ Keeps (F := F) ops4 main_v24 := by
  unfold ops4
  refine ⟨?_, ?_, ?_, ?_, ?_⟩ <;> (intro W; after_reads_simp)
/-- What window 5 of the host's operations leaves alone. -/
theorem keep5 : Keeps (F := F) ops5 main_arg0 ∧ Keeps (F := F) ops5 main_arg1 ∧ Keeps (F := F) ops5 main_v1 ∧ Keeps (F := F) ops5 main_v15 ∧ Keeps (F := F) ops5 main_v24 ∧ Keeps (F := F) ops5 main_v41 ∧ Keeps (F := F) ops5 main_v43 := by
  unfold ops5
  refine ⟨?_, ?_, ?_, ?_, ?_, ?_, ?_⟩ <;> (intro W; after_reads_simp)
/-- What window 6 of the host's operations leaves alone. -/
theorem keep6 : Keeps (F := F) ops6 main_arg0 ∧ Keeps (F := F) ops6 main_arg1 ∧ Keeps (F := F) ops6 main_v1 ∧ Keeps (F := F) ops6 main_v15 ∧ Keeps (F := F) ops6 main_v24 ∧ Keeps (F := F) ops6 main_v43 := by
  unfold ops6
  refine ⟨?_, ?_, ?_, ?_, ?_, ?_⟩ <;> (intro W; after_reads_simp)
/-- What window 7 of the host's operations leaves alone. -/
theorem keep7 : Keeps (F := F) ops7 main_arg0 ∧ Keeps (F := F) ops7 main_arg1 ∧ Keeps (F := F) ops7 main_v15 ∧ Keeps (F := F) ops7 main_v24 ∧ Keeps (F := F) ops7 main_v43 := by
  unfold ops7
  refine ⟨?_, ?_, ?_, ?_, ?_⟩ <;> (intro W; after_reads_simp)
/-- What window 8 of the host's operations leaves alone. -/
theorem keep8 : Keeps (F := F) ops8 main_arg0 ∧ Keeps (F := F) ops8 main_arg1 ∧ Keeps (F := F) ops8 main_v15 ∧ Keeps (F := F) ops8 main_v24 ∧ Keeps (F := F) ops8 main_v61 := by
  unfold ops8
  refine ⟨?_, ?_, ?_, ?_, ?_⟩ <;> (intro W; after_reads_simp)
/-- What window 9 of the host's operations leaves alone. -/
theorem keep9 : Keeps (F := F) ops9 main_arg0 ∧ Keeps (F := F) ops9 main_arg1 ∧ Keeps (F := F) ops9 main_v15 ∧ Keeps (F := F) ops9 main_v24 ∧ Keeps (F := F) ops9 main_v66 := by
  unfold ops9
  refine ⟨?_, ?_, ?_, ?_, ?_⟩ <;> (intro W; after_reads_simp)
/-- What window 10 of the host's operations leaves alone. -/
theorem keep10 : Keeps (F := F) ops10 main_arg0 ∧ Keeps (F := F) ops10 main_arg1 ∧ Keeps (F := F) ops10 main_v82 := by
  unfold ops10
  refine ⟨?_, ?_, ?_⟩ <;> (intro W; after_reads_simp)

/-- The host's operations leave the points alone. -/
theorem keep_x : Keeps (F := F) hostOps main_arg0 :=
  ((keep0.1.cat (keep1.1.cat (keep2.1.cat (keep3.1.cat (keep4.1.cat keep5.1))))).cat (keep6.1.cat (keep7.1.cat (keep8.1.cat (keep9.1.cat keep10.1)))))
/-- The host's operations leave the mask alone. -/
theorem keep_mask : Keeps (F := F) hostOps main_arg1 :=
  ((keep0.2.cat (keep1.2.1.cat (keep2.2.1.cat (keep3.2.1.cat (keep4.2.1.cat keep5.2.1))))).cat (keep6.2.1.cat (keep7.2.1.cat (keep8.2.1.cat (keep9.2.1.cat keep10.2.1)))))

/-- The two tables for the mask `k`: the rows of `g` are the nodes of the columns `ρ 0`, `ρ 1`, …; `t` gives the place of each column, the number of
    distinct columns, and the number of blocks of each. -/
structure Tab (k : IVec S64x16 1) (ρ : Fin 16 → Fin 16) (g : IVec S16384 32) (t : IVec S288 32) : Prop where
  rep : ∀ c : Fin 16, fst k c = c → ∀ D : Fin 16, rank k c.val = D.val → ρ D = c
  node : ∀ (D : Fin 16) (b : Fin 4) (s l : Fin 16) (q : Fin 16384), q.val = ((D.val * 4 + b.val) * 16 + s.val) * 16 + l.val →
    ∀ j : Fin 64, j.val = b.val * 16 + (s.val + l.val) % 16 → g (ix1 q) = BitVec.ofNat 32 (ord k (ρ D) (upto16 (cnt k (ρ D)) j)).val
  pos : ∀ (c : Fin 16) (q : Fin 288), q.val = c.val →
    t (ix1 q) = BitVec.ofNat 32 (open Classical in if ∃ n : Fin 64, k (ValueIdx.ix2 n c) = 1#1 then rank k (fst k c).val else 16)
  num : ∀ (c : Fin 16) (q : Fin 288), q.val = 16 + c.val → t (ix1 q) = BitVec.ofNat 32 (rank k 16)
  td : ∀ (D l : Fin 16) (q : Fin 288), q.val = 32 + 16 * D.val + l.val → t (ix1 q) = BitVec.ofNat 32 (max ((cnt k (ρ D) + 15) / 16) 1)

/-- The host's operations are the eleven windows in turn. -/
theorem hostOps_after (V : Valuation τ sig (Elt F)) : after hostOps V = after ops10 (after ops9 (after ops8 (after ops7 (after ops6 (after ops5 (after ops4 (after ops3
    (after ops2 (after ops1 (after ops0 V)))))))))) := by
  unfold hostOps
  simp only [after_cat]

/-- The host's operations leave two tables that are right for the mask. -/
theorem tables (V : Valuation τ sig (Elt F)) : ∃ ρ : Fin 16 → Fin 16,
    Tab (V (Proc.devRef .tc main_arg1)) ρ (after hostOps V (Proc.devRef .tc main_v82)) (after hostOps V (Proc.devRef .tc main_v86)) := by
  rw [hostOps_after]
  obtain ⟨k, hk⟩ : ∃ k : IVec S64x16 1, V (Proc.devRef .tc main_arg1) = k := ⟨_, rfl⟩
  have h8 := v8_spec V
  have h0 := v0_spec V
  have h1 := v1_spec V
  rw [hk] at h8 ⊢
  have hk := (keep0.2 V).trans hk
  generalize after ops0 V = W at h8 h0 h1 hk ⊢
  have h9 := v9_spec W k h8 h0
  have h13 := v13_spec W k h8 h0
  have h15 := v15_spec W k h8 h0
  have K := keep1 (F := F)
  have hk := (K.2.1 W).trans hk
  rw [← K.2.2.1 W] at h0
  rw [← K.2.2.2.1 W] at h1
  rw [← K.2.2.2.2 W] at h8
  generalize after ops1 W = W at h8 h0 h1 hk h9 h13 h15 ⊢
  have h24 := v24_spec W k hk h8 h13
  have K := keep2 (F := F)
  have hk := (K.2.1 W).trans hk
  rw [← K.2.2.1 W] at h0
  rw [← K.2.2.2.1 W] at h1
  rw [← K.2.2.2.2.1 W] at h9
  rw [← K.2.2.2.2.2.1 W] at h13
  rw [← K.2.2.2.2.2.2 W] at h15
  clear h8
  generalize after ops2 W = W at h0 h1 hk h9 h13 h15 h24 ⊢
  obtain ⟨ρ, hρ⟩ := Classical.skolem.mp (v33_spec W k h9 h0 h13)
  have h33 := fun D => (hρ D).1
  have hr := fun c hc D e => (hρ D).2 c hc e
  clear hρ
  have K := keep3 (F := F)
  have hk := (K.2.1 W).trans hk
  rw [← K.2.2.1 W] at h1
  rw [← K.2.2.2.1 W] at h15
  simp only [← K.2.2.2.2 W] at h24
  clear h0 h9 h13
  generalize after ops3 W = W at h1 hk h15 h24 h33 ⊢
  have h41 := mrep W k ρ hk h33
  have h43 := v43_spec W k ρ hk h33
  have K := keep4 (F := F)
  rw [← K.2.2.1 W] at h1
  rw [← K.2.2.2.1 W] at h15
  simp only [← K.2.2.2.2 W] at h24
  clear h33 hk
  generalize after ops4 W = W at h1 h15 h24 h41 h43 ⊢
  have hc0 : after ops5 W (Proc.devRef .tc main_c_13) = constantI S_ 32 0#32 := by unfold ops5; after_reads_simp
  have hc1 : after ops5 W (Proc.devRef .tc main_c_14) = constantI S_ 32 1#32 := by unfold ops5; after_reads_simp
  have K := keep5 (F := F)
  rw [← K.2.2.1 W] at h1
  rw [← K.2.2.2.1 W] at h15
  simp only [← K.2.2.2.2.1 W] at h24
  simp only [← K.2.2.2.2.2.1 W] at h41
  simp only [← K.2.2.2.2.2.2 W] at h43
  generalize after ops5 W = W at h1 h15 h24 h41 h43 hc0 hc1 ⊢
  have h51 := v51_spec W k ρ h41 h1 hc0 hc1
  have K := keep6 (F := F)
  rw [← K.2.2.1 W] at h1
  rw [← K.2.2.2.1 W] at h15
  simp only [← K.2.2.2.2.1 W] at h24
  simp only [← K.2.2.2.2.2 W] at h43
  clear h41 hc0 hc1
  generalize after ops6 W = W at h1 h15 h24 h43 h51 ⊢
  have h61 := v61_spec W (fun D => cnt k (ρ D)) (fun D => cnt_le k (ρ D)) h43 h1 (fun D => ord k (ρ D)) h51
  have K := keep7 (F := F)
  rw [← K.2.2.1 W] at h15
  simp only [← K.2.2.2.1 W] at h24
  simp only [← K.2.2.2.2 W] at h43
  clear h1 h51
  generalize after ops7 W = W at h15 h24 h43 h61 ⊢
  have h66 := v66_spec W (fun D => cnt k (ρ D)) (fun D => cnt_le k (ρ D)) h43
  have K := keep8 (F := F)
  rw [← K.2.2.1 W] at h15
  simp only [← K.2.2.2.1 W] at h24
  simp only [← K.2.2.2.2 W] at h61
  clear h43
  generalize after ops8 W = W at h15 h24 h61 h66 ⊢
  have h82 := fun D b s l q hq j hj => (v82_spec W D b s l q hq j hj).trans (h61 D j)
  have K := keep9 (F := F)
  rw [← K.2.2.1 W] at h15
  simp only [← K.2.2.2.1 W] at h24
  simp only [← K.2.2.2.2 W] at h66
  clear h61
  generalize after ops9 W = W at h15 h24 h66 h82 ⊢
  refine ⟨ρ, hr, fun D b s l q hq j hj => ?_, fun c q hq => (v86_pos W c q hq).trans (h24 c), fun c q hq => (v86_num W c q hq).trans h15,
    fun D l q hq => (v86_td W D l q hq).trans (h66 D)⟩
  rw [keep10.2.2 W]
  exact h82 D b s l q hq j hj

end Chain

end Cert.Proof.Pool
-- ==== Proof.Frames.lean ====
/-
  The run of the whole program.
-/
module

public import proofs.«01_k».proof.Proof.Tables
public import proofs.«01_k».proof.Proof.Launch

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

section Frames
variable {F : FTy → Type} [FloatOps F]

/-- The two ways of writing an index. -/
theorem ix_ix1 (N : ℕ) [NeZero N] (n : ℕ) (h : n < N) : ix N n = ix1 ⟨n, h⟩ := by
  funext a
  obtain rfl : a = 0 := Fin.fin_one_eq_zero a
  exact Fin.ext (Nat.mod_eq_of_lt h)

variable {k : IVec S64x16 1} {ρ : Fin 16 → Fin 16} {g : IVec S16384 32} {t : IVec S288 32} (h : Tab k ρ g t)
include h

theorem Tab.num16 : (t (ix 288 16)).toNat = rank k 16 := by
  rw [ix_ix1 288 16 (by norm_num), h.num 0 _ rfl, BitVec.toNat_ofNat]
  have := rank_le k 16
  omega

/-- A column's place among the distinct columns, or 16. -/
theorem Tab.place (c : Fin 16) : (t (ix 288 c.val)).toNat = open Classical in if ∃ n : Fin 64, k (ValueIdx.ix2 n c) = 1#1 then rank k (fst k c).val else 16 := by
  rw [ix_ix1 288 c.val (by omega), h.pos c _ rfl, BitVec.toNat_ofNat]
  refine Nat.mod_eq_of_lt ?_
  have := rank_le k (fst k c).val
  have := (fst k c).isLt
  split <;> omega

/-- The number of a distinct column's blocks. -/
theorem Tab.block (D : Fin 16) : (t (ix 288 (32 + 16 * D.val))).toNat = max ((cnt k (ρ D) + 15) / 16) 1 := by
  have := D.isLt
  rw [ix_ix1 288 _ (by omega), h.td D 0 _ rfl, BitVec.toNat_ofNat]
  have := cnt_le k (ρ D)
  omega

/-- A table entry is a node of its column. -/
theorem Tab.entry (D : Fin 16) (b : Fin 4) (s l : Fin 16) (j : Fin 64) (hj : j.val = b.val * 16 + (s.val + l.val) % 16) :
    (g (ix 16384 (D.val * 1024 + (b.val * 16 + s.val) * 16 + l.val))).toNat = (ord k (ρ D) (upto16 (cnt k (ρ D)) j)).val := by
  have := D.isLt
  have := b.isLt
  have := s.isLt
  have := l.isLt
  have := (ord k (ρ D) (upto16 (cnt k (ρ D)) j)).isLt
  rw [ix_ix1 16384 _ (by omega), h.node D b s l _ (by show _ = _; ring) j hj, BitVec.toNat_ofNat]
  omega

/-- The two tables are fit for the kernel. -/
theorem Tab.ok : TabOK (fun n => (g (ix 16384 n)).toNat) (fun n => t (ix 288 n)) where
  num := by
    show (t (ix 288 16)).toNat < 17
    rw [h.num16]
    have := rank_le k 16
    omega
  blocks D hD := by
    change D < (t (ix 288 16)).toNat at hD
    rw [h.num16] at hD
    have := rank_le k 16
    have e := h.block ⟨D, by omega⟩
    have := cnt_le k (ρ ⟨D, by omega⟩)
    show (t (ix 288 (32 + 16 * D))).toNat < 5
    rw [e]
    omega
  nodes D hD n hn := by
    change D < (t (ix 288 16)).toNat at hD
    rw [h.num16] at hD
    have := rank_le k 16
    have e := h.entry ⟨D, by omega⟩ ⟨n / 256, by omega⟩ ⟨n / 16 % 16, by omega⟩ ⟨n % 16, by omega⟩
      ⟨n / 256 * 16 + (n / 16 % 16 + n % 16) % 16, by omega⟩ rfl
    have e2 : D * 1024 + (n / 256 * 16 + n / 16 % 16) * 16 + n % 16 = D * 1024 + n := by omega
    show (g (ix 16384 (D * 1024 + n))).toNat < 64
    rw [← e2]
    exact lt_of_eq_of_lt e (Fin.isLt _)
  units c hc := by
    show (t (ix 288 c)).toNat < (t (ix 288 16)).toNat ∨ (t (ix 288 c)).toNat = 16
    have e := h.place ⟨c, hc⟩
    rw [h.num16]
    simp only at e
    rw [e]
    split
    · exact Or.inl (rank_lt k _ (fst_fst k _))
    · exact Or.inr rfl
omit h

theorem good (m : (ℓ : Loc nD τ sig) → Buf (Elt F) ℓ) : Good (WO m hostOps) := fun d =>
  (tables (StableHlo.launchContents m d)).choose_spec.ok

/-- The run of the whole program: the two arguments stay, the result is `zfin`, and every counter ends at zero. -/
theorem run_main (m : (ℓ : Loc nD τ sig) → Buf (Elt F) ℓ) (ρ : Dev nD → PrngReg) [∀ e, Nonempty (Elt F e)] :
    θ_run Cert.KernelIdeal.defs Cert.KernelIdeal.threads ⟨m, fun _ => 0, ρ⟩ fun r =>
      (∀ d, r.2.mem (xLoc d) = m (xLoc d) ∧ r.2.mem (kLoc d) = m (kLoc d) ∧ r.2.mem (zLoc d) = zfin (WO m hostOps) d) ∧ r.2.sem = fun _ => 0 :=
  (θ_run Cert.KernelIdeal.defs _ _).mono (fun _ h => ⟨fun d => ⟨(h.1 d).1.trans (keep_x _), (h.1 d).2.1.trans (keep_mask _), (h.1 d).2.2⟩, h.2⟩)
    (run_ops m ρ hostOps main_eq (fun op ho => (hostOps_fine op ho).1) (fun op ho => (hostOps_fine op ho).2) (good m))

end Frames

end Cert.Proof.Pool
-- ==== Proof.Value.lean ====
/-
  The kernel's result is the maximum over each column's nodes.
-/
module

public import Idealize.ShloMosaic.Lib.SortFacts
public import proofs.«01_k».proof.Proof.Frames

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx)
open Idealize.ShloMosaic.StableHlo Idealize.ShloMosaic.TcCoe Idealize.ShloMosaic.ValueIdx Idealize.ShloMosaic.Routing
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- Where the members of a set come before the others in an order of the numbers below 64, its places are the first as many as the set has members. -/
theorem prefix_count (o : Fin 64 → Fin 64) (inj : Function.Injective o) (onto : ∀ n, ∃ q, o q = n) (P : Fin 64 → Prop) (M : ℕ → Prop) [DecidablePred M] (hM : ∀ n, M n ↔ ∃ h : n < 64, P ⟨n, h⟩)
    (down : ∀ i j : Fin 64, i < j → P (o j) → P (o i)) (q : Fin 64) : P (o q) ↔ q.val < Nat.count M 64 := by
  classical
  let S : Finset (Fin 64) := Finset.univ.filter fun q => P (o q)
  have hS : ∀ q, q ∈ S ↔ P (o q) := fun q => by simp [S]
  have hcard : S.card = Nat.count M 64 := by
    rw [Nat.count_eq_card_filter_range]
    refine Finset.card_bij (fun q _ => (o q).val) (fun q hq => ?_) (fun a _ b _ e => inj (Fin.ext e)) (fun n hn => ?_)
    · exact Finset.mem_filter.mpr ⟨Finset.mem_range.mpr (Fin.isLt _), (hM _).mpr ⟨Fin.isLt _, (hS q).mp hq⟩⟩
    · obtain ⟨h, hk⟩ := (hM n).mp (Finset.mem_filter.mp hn).2
      obtain ⟨q, hq⟩ := onto ⟨n, h⟩
      exact ⟨q, (hS q).mpr (by rw [hq]; exact hk), by rw [hq]⟩
  rw [← hS, ← hcard]
  constructor
  · intro hq
    have h : Finset.Iic q ⊆ S := fun i hi => by
      rcases lt_or_eq_of_le (Finset.mem_Iic.mp hi) with h | h
      · exact (hS i).mpr (down i q h ((hS q).mp hq))
      · exact h ▸ hq
    have := Finset.card_le_card h
    rw [Fin.card_Iic] at this
    omega
  · intro hq
    by_contra hn
    have h : S ⊆ Finset.Iio q := fun i hi => Finset.mem_Iio.mpr (by
      by_contra hc
      rcases lt_or_eq_of_le (not_lt.mp hc) with h | h
      · exact hn ((hS q).mpr (down q i h ((hS i).mp hi)))
      · exact hn (h ▸ hi))
    have := Finset.card_le_card h
    rw [Fin.card_Iio] at this
    omega

section Order
variable (k : IVec S64x16 1) (c : Fin 16)

/-- A node's key as a number. -/
def keyN (n : Fin 64) : ℕ := if k (ValueIdx.ix2 n c) = 1#1 then n.val else 64 + n.val

/-- The word of a key is its number. -/
theorem keyW_eq (n : Fin 64) : (keyW k c n).toNat = keyN k c n := by
  have hn := n.isLt
  unfold keyW keyN Scalar.select
  by_cases hk : k (ValueIdx.ix2 n c) = 1#1
  · rw [if_pos hk]
    show ((if k (ValueIdx.ix2 n c) = 1#1 then 0#32 else 1#32) * 64#32 + BitVec.ofNat 32 n.val).toNat = n.val
    rw [if_pos hk, show (0#32 * 64#32 : BitVec 32) = 0#32 from rfl, BitVec.zero_add, BitVec.toNat_ofNat]
    omega
  · rw [if_neg hk]
    show ((if k (ValueIdx.ix2 n c) = 1#1 then 0#32 else 1#32) * 64#32 + BitVec.ofNat 32 n.val).toNat = 64 + n.val
    rw [if_neg hk, show (1#32 * 64#32 : BitVec 32) = 64#32 from rfl, BitVec.toNat_add, BitVec.toNat_ofNat, BitVec.toNat_ofNat]
    omega

/-- A key is below 128. -/
theorem keyN_lt (n : Fin 64) : keyN k c n < 128 := by
  have := n.isLt
  unfold keyN
  split <;> omega

/-- Every node stands somewhere in the order. -/
theorem ord_onto (n : Fin 64) : ∃ q, ord k c q = n := sortedFrom_surjective _ n
/-- No node stands twice in the order. -/
theorem ord_inj : Function.Injective (ord k c) := sortedFrom_injective _

/-- The nodes stand in the order of their keys. -/
theorem ord_mono (i j : Fin 64) (hij : i < j) : keyN k c (ord k c i) ≤ keyN k c (ord k c j) := by
  have hb : ∀ a b : Fin 64, (comparator_i32_i32_d1 (keyW k c a, BitVec.ofNat 32 a.val) (keyW k c b, BitVec.ofNat 32 b.val) == 1#1) = true
      ↔ keyN k c a < keyN k c b := fun a b => by
    rw [beq_iff_eq, ← keyW_eq, ← keyW_eq]
    have ha := keyN_lt k c a
    have hb := keyN_lt k c b
    rw [← keyW_eq] at ha hb
    exact StableHlo.Predicate.slt_iff_toNat (show (keyW k c a).toNat < 2 ^ 31 by omega) (show (keyW k c b).toNat < 2 ^ 31 by omega)
  have hf : ∀ a b : Fin 64, (comparator_i32_i32_d1 (keyW k c a, BitVec.ofNat 32 a.val) (keyW k c b, BitVec.ofNat 32 b.val) == 1#1) = false
      ↔ keyN k c b ≤ keyN k c a := fun a b => by
    rw [← Bool.not_eq_true, hb, not_lt]
  have h := sortedFrom_noInversion (fun a b : Fin 64 => comparator_i32_i32_d1 (keyW k c a, BitVec.ofNat 32 a.val) (keyW k c b, BitVec.ofNat 32 b.val) == 1#1)
    (fun a b => comparator_i32_i32_d1 (keyW k c a, BitVec.ofNat 32 a.val) (keyW k c b, BitVec.ofNat 32 b.val) == 1#1)
    (fun a b h => (hf b a).mpr (le_of_lt ((hb a b).mp h))) (fun _ _ h => h) (fun a b d h₁ h₂ => (hf a d).mpr (le_trans ((hf b d).mp h₂) ((hf a b).mp h₁))) i j hij
  exact (hf _ _).mp h

/-- The first `cnt` places of the order hold the column's nodes, and the others do not. -/
theorem ord_in (q : Fin 64) : k (ValueIdx.ix2 (ord k c q) c) = 1#1 ↔ q.val < cnt k c := by
  classical
  unfold cnt
  exact prefix_count (ord k c) (ord_inj k c) (ord_onto k c) (fun n => k (ValueIdx.ix2 n c) = 1#1) (In k c) (fun _ => Iff.rfl) (fun i j hij hj => by
    by_contra hi
    have h := ord_mono k c i j hij
    have h2 := (ord k c j).isLt
    unfold keyN at h
    rw [if_neg hi, if_pos hj] at h
    omega) q
end Order

/-- What holds of every entry that a lane meets in a column's list is what holds of every node of the column. -/
theorem Tab.all {k : IVec S64x16 1} {ρ : Fin 16 → Fin 16} {g : IVec S16384 32} {t : IVec S288 32} (h : Tab k ρ g t) (D : Fin 16) (hC : 0 < cnt k (ρ D)) (l : Fin 16) (Y : ℕ → Prop) :
    (∀ i < 16 * max ((cnt k (ρ D) + 15) / 16) 1, Y (g (ix 16384 (D.val * 1024 + i * 16 + l.val))).toNat) ↔ ∀ n : Fin 64, k (ValueIdx.ix2 n (ρ D)) = 1#1 → Y n.val := by
  have hle := cnt_le k (ρ D)
  have hl := l.isLt
  constructor
  · intro hY n hn
    obtain ⟨q, rfl⟩ := ord_onto k (ρ D) n
    have hq := (ord_in k (ρ D) q).mp hn
    have hq2 := q.isLt
    have e := h.entry D ⟨q.val / 16, by omega⟩ ⟨(q.val % 16 + 16 - l.val) % 16, by omega⟩ l q (by
      show q.val = q.val / 16 * 16 + ((q.val % 16 + 16 - l.val) % 16 + l.val) % 16
      omega)
    have hu : upto16 (cnt k (ρ D)) q = q := Fin.ext (by show min q.val (cnt k (ρ D) - 1) = q.val; omega)
    rw [hu] at e
    rw [← e]
    exact hY (q.val / 16 * 16 + (q.val % 16 + 16 - l.val) % 16) (by omega)
  · intro hY i hi
    have e := h.entry D ⟨i / 16, by omega⟩ ⟨i % 16, by omega⟩ l ⟨i / 16 * 16 + (i % 16 + l.val) % 16, by omega⟩ rfl
    have e2 : D.val * 1024 + (i / 16 * 16 + i % 16) * 16 + l.val = D.val * 1024 + i * 16 + l.val := by omega
    simp only [e2] at e
    rw [e]
    refine hY _ ((ord_in k (ρ D) _).mpr ?_)
    show min _ (cnt k (ρ D) - 1) < cnt k (ρ D)
    omega

section Ideal

/-- `v` is the maximum of row `r` of `x` over the nodes of column `c` of `k`, or zero where the column has none. -/
def IsMax (k : IVec S64x16 1) (x : FVec Ideal S131072x64 .f32) (r : Fin 131072) (c : Fin 16) (v : EReal) : Prop :=
  ((∃ n : Fin 64, k (ValueIdx.ix2 n c) = 1#1) → ∀ b : EReal, v ≤ b ↔ (ninf (F := Ideal) : EReal) ≤ b ∧ ∀ n : Fin 64, k (ValueIdx.ix2 n c) = 1#1 → (x (ValueIdx.ix2 r n) : EReal) ≤ b)
    ∧ ((¬∃ n : Fin 64, k (ValueIdx.ix2 n c) = 1#1) → v = (fzero (F := Ideal) : EReal))

/-- There is one such value. -/
theorem IsMax.unique {k : IVec S64x16 1} {x : FVec Ideal S131072x64 .f32} {r : Fin 131072} {c : Fin 16} {v w : EReal} (hv : IsMax k x r c v) (hw : IsMax k x r c w) : v = w := by
  by_cases h : ∃ n : Fin 64, k (ValueIdx.ix2 n c) = 1#1
  · exact le_antisymm ((hv.1 h w).mpr ((hw.1 h w).mp le_rfl)) ((hw.1 h v).mpr ((hv.1 h v).mp le_rfl))
  · rw [hv.2 h, hw.2 h]

/-- A running maximum is below `b` where its start and every entry met are. -/
theorem acc_le (X : ℕ → ℕ → Ideal .f32) (E : ℕ → ℕ) (D p : ℕ) (b : EReal) : ∀ n, (acc X E D p n : EReal) ≤ b ↔ (ninf (F := Ideal) : EReal) ≤ b ∧ ∀ i < n, (X p (E (D * 1024 + i * 16 + p % 16)) : EReal) ≤ b
  | 0 => ⟨fun h => ⟨h, fun _ hi => absurd hi (Nat.not_lt_zero _)⟩, fun h => h.1⟩
  | n + 1 => by
    show max (acc X E D p n : EReal) (X p (E (D * 1024 + n * 16 + p % 16))) ≤ b ↔ _
    rw [max_le_iff, acc_le X E D p b n]
    constructor
    · rintro ⟨⟨h₁, h₂⟩, h₃⟩
      refine ⟨h₁, fun i hi => ?_⟩
      rcases Nat.lt_succ_iff_lt_or_eq.mp hi with h | rfl
      · exact h₂ i h
      · exact h₃
    · exact fun h => ⟨⟨h.1, fun i hi => h.2 i (Nat.lt_succ_of_lt hi)⟩, h.2 n (Nat.lt_succ_self n)⟩

/-- The two ways of writing a row and a column. -/
theorem ix2_fin (M N : ℕ) [NeZero M] [NeZero N] (r : Fin M) (c : Fin N) : ix2 M N r.val c.val = ValueIdx.ix2 r c := by
  funext a
  match a with
  | ⟨0, _⟩ => exact Fin.ext (Nat.mod_eq_of_lt r.isLt)
  | ⟨1, _⟩ => exact Fin.ext (Nat.mod_eq_of_lt c.isLt)

/-- The kernel's result at row `r`, column `c`, from the points and the two tables. -/
def zval (x : FVec Ideal S131072x64 .f32) (g : IVec S16384 32) (t : IVec S288 32) (r c : ℕ) : Ideal .f32 :=
  if (t (ix 288 c)).toNat = 16 then fzero
  else acc (fun r c => x (ix2 131072 64 r c)) (fun n => (g (ix 16384 n)).toNat) (t (ix 288 c)).toNat r (16 * (t (ix 288 (32 + 16 * (t (ix 288 c)).toNat))).toNat)

/-- Right tables make the kernel's value the maximum over the column's nodes. -/
theorem zval_isMax {k : IVec S64x16 1} {ρ : Fin 16 → Fin 16} {g : IVec S16384 32} {t : IVec S288 32} (h : Tab k ρ g t) (x : FVec Ideal S131072x64 .f32)
    (r : Fin 131072) (c : Fin 16) : IsMax k x r c (zval x g t r.val c.val) := by
  unfold zval
  have hp := h.place c
  constructor
  · intro hc b
    rw [if_pos hc] at hp
    have hlt := rank_lt k (fst k c) (fst_fst k c)
    have hle := rank_le k 16
    have hD : rank k (fst k c).val < 16 := lt_of_lt_of_le hlt hle
    obtain ⟨D, hDe⟩ : ∃ D : Fin 16, D.val = rank k (fst k c).val := ⟨⟨_, hD⟩, rfl⟩
    have hr := h.rep (fst k c) (fst_fst k c) D hDe.symm
    have hb := h.block D
    have hs : ∀ n : Fin 64, k (ValueIdx.ix2 n (ρ D)) = k (ValueIdx.ix2 n c) := by rw [hr]; exact fst_same k c
    have hC : 0 < cnt k (ρ D) := by
      obtain ⟨n, hn⟩ := hc
      obtain ⟨q, hq⟩ := ord_onto k (ρ D) n
      have := (ord_in k (ρ D) q).mp (by rw [hq, hs]; exact hn)
      omega
    rw [hp, if_neg (by omega), ← hDe, hb]
    refine (acc_le _ _ _ _ b _).trans (and_congr_right fun _ => ?_)
    refine (h.all D hC ⟨r.val % 16, by omega⟩ (fun n => (x (ix2 131072 64 r.val n) : EReal) ≤ b)).trans ?_
    refine forall_congr' fun n => ?_
    rw [hs]
    refine imp_congr_right fun _ => ?_
    refine iff_of_eq (congrArg (fun i => (x i : EReal) ≤ b) ?_)
    exact ix2_fin 131072 64 r n
  · intro hc
    rw [if_neg hc] at hp
    rw [if_pos hp]

/-- What the kernel leaves in the result is the maximum over the column's nodes. -/
theorem zfin_isMax (m : (ℓ : Loc nD τ sig) → Buf (Elt Ideal) ℓ) (d : Dev nD) (r : Fin 131072) (c : Fin 16) :
    IsMax (m (kLoc d)) (m (xLoc d)) r c ((zfin (WO m hostOps) d : FVec Ideal S131072x16 .f32) (ValueIdx.ix2 r c)) := by
  obtain ⟨ρ, h⟩ := tables (StableHlo.launchContents m d)
  have hx : (WO m hostOps d (Proc.devRef .tc main_arg0) : FVec Ideal S131072x64 .f32) = m (xLoc d) := keep_x _
  change Tab (m (kLoc d)) ρ (WO m hostOps d (Proc.devRef .tc main_v82)) (WO m hostOps d (Proc.devRef .tc main_v86)) at h
  have e : (zfin (WO m hostOps) d : FVec Ideal S131072x16 .f32) (ValueIdx.ix2 r c) = zval (WO m hostOps d (Proc.devRef .tc main_arg0))
      (WO m hostOps d (Proc.devRef .tc main_v82)) (WO m hostOps d (Proc.devRef .tc main_v86)) r.val c.val := rfl
  rw [e, hx]
  exact zval_isMax h _ r c

end Ideal

end Cert.Proof.Pool
-- ==== Proof.Plain.lean ====
/-
  The reference's result is the maximum over each column's nodes.
-/
module

public import proofs.«01_k».proof.Proof.Gen.ReferenceIdeal.Run
public import proofs.«01_k».proof.Proof.Value

@[expose] public section

set_option maxRecDepth 16384

noncomputable section

namespace Cert.Proof.Plain

open Cert.ReferenceIdeal Cert.ReferenceIdeal.Gen Cert.ReferenceIdeal.Value
open Idealize.ShloMosaic Idealize.ShloMosaic.StableHlo Idealize.ShloMosaic.TcCoe Idealize.ShloMosaic.ValueIdx
open Idealize.SL.Sem
open Cert.Proof.Pool (IsMax any_iff ninf fzero)

theorem slices (c : Fin 16) : S64x16.Slices ![0, c.val] S64x1 := by
  revert c
  decide

/-- Column `c` of the mask. -/
def col (k : IVec S64x16 1) (c : Fin 16) : IVec S64 1 :=
  shapeCast S64 (extractStridedSlice S64x1 ![0, c.val] k (slices c)) shapeCasts_S64x1_S64

/-- The points with minus infinity at the nodes outside the column `q` of the mask. -/
def masked (q : IVec S64 1) (x : FVec Ideal S131072x64 .f32) : FVec Ideal S131072x64 .f32 :=
  select (broadcastInDim S131072x64 ![0, 1] bcast_S1x64_S131072x64_0_1 (broadcastInDim S1x64 ![1] bcast_S64_S1x64_1 q)) x
    (broadcastInDim S131072x64 ![] bcast_S_S131072x64 (id (constant S_ .f32 0xFF800000#32)))

/-- The column of the result for the column `q` of the mask. -/
def res (q : IVec S64 1) (x : FVec Ideal S131072x64 .f32) : FVec Ideal S131072x1 .f32 :=
  broadcastInDim S131072x1 ![0] bcast_S131072_S131072x1_0 (select (broadcastInDim S131072 ![] bcast_S_S131072 (Host.reduce IntOp.ori q (constantI S_ 1 0#1) reducesTo_S64_S_d0 h_S_))
    (Host.reduce FloatOps.maximumf (masked q x) (constant S_ .f32 0xFF800000#32) reducesTo_S131072x64_S131072_d1 h_S_)
    (broadcastInDim S131072 ![] bcast_S_S131072 (constant S_ .f32 0x00000000#32)))

/-- The column at a node. -/
theorem col_ap (k : IVec S64x16 1) (c : Fin 16) (n : Fin 64) : col k c (ix1 n) = k (ValueIdx.ix2 n c) := by
  unfold col
  refine (shapeCast_apply _ shapeCasts_S64x1_S64 (ix1 n) (ValueIdx.ix2 n 0) (by rw [Shape.rowMajor_val_two, Shape.rowMajor_val_one]; show n.val * 1 + 0 = n.val; omega)).trans ?_
  refine congrArg k (funext fun a => ?_)
  match a with
  | ⟨0, _⟩ => exact Fin.ext (by show 0 + n.val = n.val; omega)
  | ⟨1, _⟩ => exact Fin.ext (by show c.val + 0 = c.val; omega)

/-- A reduction by the maximum is below `b` where its start and every element it covers are. -/
theorem reduce_le {s t : Shape} {axes : List (Fin s.rank)} (x : s.Idx → Ideal .f32) (z : S_.Idx → Ideal .f32) (h : s.ReducesTo axes t) (hu : 0 < S_.numel) (j : t.Idx) (b : EReal) :
    (Host.reduce (FloatOps.maximumf (F := Ideal) (φ := .f32)) x z h hu j : Ideal .f32) ≤ b ↔ (z (Shape.Idx.first hu) : EReal) ≤ b ∧ ∀ i, h.drop i = j → (x i : EReal) ≤ b := by
  haveI : DecidableEq s.Idx := Classical.decEq _
  haveI : Std.Associative (FloatOps.maximumf (F := Ideal) (φ := .f32)) := ⟨fun a b c : EReal => max_assoc a b c⟩
  haveI : Std.Commutative (FloatOps.maximumf (F := Ideal) (φ := .f32)) := ⟨fun a b : EReal => max_comm a b⟩
  rw [Host.reduce_eq_fold]
  refine (Finset.fold_max_le (f := fun i => (x i : EReal)) b).trans (and_congr_right fun _ => ?_)
  exact ⟨fun H i hi => H i (Finset.mem_filter.mpr ⟨Finset.mem_univ _, hi⟩), fun H i hi => H i (Finset.mem_filter.mp hi).2⟩

/-- The places that a row's maximum covers. -/
theorem drop_eq (h : S131072x64.ReducesTo [1] S131072) (r : Fin 131072) (i : S131072x64.Idx) (hi : h.drop i = ix1 r) : ∃ n : Fin 64, i = ValueIdx.ix2 r n := by
  refine ⟨i 1, ?_⟩
  have e := congrFun hi 0
  rw [ValueIdx.eq_ix2 i] at e ⊢
  have e : i 0 = r := e
  rw [e]
  rfl

/-- The masked points at a place. -/
theorem masked_ap (q : IVec S64 1) (x : FVec Ideal S131072x64 .f32) (r : Fin 131072) (n : Fin 64) :
    masked q x (ValueIdx.ix2 r n) = if q (ix1 n) = 1#1 then x (ValueIdx.ix2 r n) else ninf := by
  show (if (broadcastInDim S131072x64 ![0, 1] bcast_S1x64_S131072x64_0_1 (broadcastInDim S1x64 ![1] bcast_S64_S1x64_1 q)) (ValueIdx.ix2 r n) = 1#1 then x (ValueIdx.ix2 r n) else ninf) = _
  rw [broadcastInDim_apply _ bcast_S1x64_S131072x64_0_1 _ (ValueIdx.ix2 r n) (ValueIdx.ix2 0 n) (fun a => match a with | ⟨0, _⟩ => rfl | ⟨1, _⟩ => rfl),
    broadcastInDim_apply _ bcast_S64_S1x64_1 _ (ValueIdx.ix2 0 n) (ix1 n) (fun a => match a with | ⟨0, _⟩ => rfl)]

/-- A column of the reference's result is the maximum over the column's nodes. -/
theorem res_isMax (k : IVec S64x16 1) (x : FVec Ideal S131072x64 .f32) (r : Fin 131072) (c : Fin 16) (i : S131072x1.Idx) (hi : (i 0).val = r.val) :
    IsMax k x r c (res (col k c) x i) := by
  have hany : Host.reduce IntOp.ori (col k c) (constantI S_ 1 0#1) reducesTo_S64_S_d0 h_S_ ix0 = 1#1 ↔ ∃ n : Fin 64, k (ValueIdx.ix2 n c) = 1#1 := by
    rw [any_iff]
    constructor
    · rintro ⟨j, _, hj⟩
      rw [eq_ix1 j] at hj
      exact ⟨j 0, (col_ap k c (j 0)).symm.trans hj⟩
    · rintro ⟨n, hn⟩
      exact ⟨ix1 n, eq_ix0 _, (col_ap k c n).trans hn⟩
  unfold res
  rw [broadcastInDim_apply _ bcast_S131072_S131072x1_0 _ i (ix1 r) (fun a => match a with | ⟨0, _⟩ => hi.symm)]
  show IsMax k x r c (if (_ : IVec S131072 1) (ix1 r) = 1#1 then _ else _)
  rw [broadcastInDim_apply _ bcast_S_S131072 _ (ix1 r) ix0 (fun a => Fin.elim0 a)]
  constructor
  · intro hc b
    rw [if_pos (hany.mpr hc), reduce_le]
    refine and_congr_right fun hz => ⟨fun H n hn => ?_, fun H j hj => ?_⟩
    · have e := H (ValueIdx.ix2 r n) (funext fun a => match a with | ⟨0, _⟩ => rfl)
      rw [masked_ap, col_ap, if_pos hn] at e
      exact e
    · obtain ⟨n, rfl⟩ := drop_eq _ r j hj
      rw [masked_ap, col_ap]
      split
      · next hn => exact H n hn
      · exact hz
  · intro hc
    rw [if_neg (fun h => hc (hany.mp h))]
    rfl

/-- What the reference leaves in the result is the maximum over the column's nodes. -/
theorem out_isMax (V : Valuation τ sig (Elt Ideal)) (r : Fin 131072) (c : Fin 16) :
    IsMax (V (Proc.devRef .tc main_arg1)) (V (Proc.devRef .tc main_arg0)) r c ((res_out0 V : FVec Ideal S131072x16 .f32) (ValueIdx.ix2 r c)) := by
  have e : (res_out0 V : FVec Ideal S131072x16 .f32) = concatenate S131072x16 1
      (List.ofFn fun c : Fin 16 => (⟨S131072x1, res (col (V (Proc.devRef .tc main_arg1)) c) (V (Proc.devRef .tc main_arg0))⟩ : (s : Shape) × (s.Idx → Ideal .f32)))
      concatenates_S131072x1_S131072x1_S131072x1_S131072x1_S131072x1_S131072x1_S131072x1_S131072x1_S131072x1_S131072x1_S131072x1_S131072x1_S131072x1_S131072x1_S131072x1_S131072x1_S131072x16_d1 := rfl
  have e2 := (congrFun e (ValueIdx.ix2 r c)).trans (concatenate_ofFn_unit_apply (t := S131072x16) (s₁ := S131072x1) 1
    (fun c : Fin 16 => res (col (V (Proc.devRef .tc main_arg1)) c) (V (Proc.devRef .tc main_arg0))) _ rfl rfl (ValueIdx.ix2 r c) c rfl (ValueIdx.ix2 r 0)
    (fun b hb => match b with | ⟨0, _⟩ => rfl | ⟨1, _⟩ => absurd rfl hb))
  rw [e2]
  exact res_isMax _ _ r c _ rfl

end Cert.Proof.Plain

end
-- ==== Proof.lean ====
/- The proof of the certificate's claim: the frames of the kernel, of its idealisation and of the reference, and the equality of results. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Plain
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments as they were, and every counter ends at zero. -/
theorem frame_kernel : Cert.quiescent_Kernel := fun m ρ _ =>
  (θ_run Cert.KernelIdeal.defs _ _).mono (fun _ h => ⟨fun c => ⟨(h.1 c).1, (h.1 c).2.1⟩, h.2⟩) (Pool.run_main (F := Bits) m ρ)

/-- The same of the idealised kernel. -/
theorem frame_ideal : Cert.quiescent_KernelIdeal := fun m ρ _ =>
  (θ_run Cert.KernelIdeal.defs _ _).mono (fun _ h => ⟨fun c => ⟨(h.1 c).1, (h.1 c).2.1⟩, h.2⟩) (Pool.run_main (F := Ideal) m ρ)

/-- The same of the reference, which has no counter. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- The idealised kernel and the idealised reference leave the same result. -/
theorem same_result : Cert.algebraic_KernelIdeal_ReferenceIdeal := fun m ρ m' ρ' _ hagree =>
  ⟨fun d => Pool.zfin (Pool.WO m Pool.hostOps) d,
    (θ_run Cert.KernelIdeal.defs _ _).mono (fun _ h c => ⟨(h.1 c).2.2, (h.1 c).1, (h.1 c).2.1⟩) (Pool.run_main (F := Ideal) m ρ),
    (θ_run Cert.ReferenceIdeal.defs _ _).mono (fun _ h c => ⟨(h c).1.trans (by
      funext y
      have hk := Pool.zfin_isMax m c (y 0) (y 1)
      have hr := Plain.out_isMax (StableHlo.launchContents m' c) (y 0) (y 1)
      have e0 : StableHlo.launchContents m' c (Proc.devRef .tc Cert.ReferenceIdeal.main_arg0) = m (Pool.xLoc c) := (hagree c).1
      have e1 : StableHlo.launchContents m' c (Proc.devRef .tc Cert.ReferenceIdeal.main_arg1) = m (Pool.kLoc c) := (hagree c).2
      rw [e0, e1] at hr
      rw [ValueIdx.eq_ix2 y]
      exact hr.unique hk), (h c).2⟩) (Cert.ReferenceIdeal.Value.run m' ρ')⟩

theorem claim : Cert.Claim := ⟨Cert.Kernel.Gen.facts, Cert.KernelIdeal.Gen.facts, Cert.ReferenceIdeal.Gen.facts, frame_kernel, frame_ideal, frame_reference, trivial, same_result⟩

end Cert.Proof

end
